-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstReferenceIdeal (m : (ℓ : Loc Cert.FirstReferenceIdeal.nD Cert.FirstReferenceIdeal.τ Cert.FirstReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12)
      ∧ r.2.mem ((c.tc : Thread Cert.MergeReferenceIdeal.nD Cert.MergeReferenceIdeal.τ).loc Cert.MergeReferenceIdeal.main_arg13) = m ((c.tc : Thread Cert.MergeReferenceIdeal.nD Cert.MergeReferenceIdeal.τ).loc Cert.MergeReferenceIdeal.main_arg13))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4)
      ∧ r.2.mem ((c.tc : Thread Cert.First.nD Cert.First.τ).loc Cert.First.main_arg5) = m ((c.tc : Thread Cert.First.nD Cert.First.τ).loc Cert.First.main_arg5)
      ∧ r.2.mem ((c.tc : Thread Cert.First.nD Cert.First.τ).loc Cert.First.main_arg6) = m ((c.tc : Thread Cert.First.nD Cert.First.τ).loc Cert.First.main_arg6)
      ∧ r.2.mem ((c.tc : Thread Cert.First.nD Cert.First.τ).loc Cert.First.main_arg7) = m ((c.tc : Thread Cert.First.nD Cert.First.τ).loc Cert.First.main_arg7)
      ∧ r.2.mem ((c.tc : Thread Cert.First.nD Cert.First.τ).loc Cert.First.main_arg8) = m ((c.tc : Thread Cert.First.nD Cert.First.τ).loc Cert.First.main_arg8)
      ∧ r.2.mem ((c.tc : Thread Cert.First.nD Cert.First.τ).loc Cert.First.main_arg9) = m ((c.tc : Thread Cert.First.nD Cert.First.τ).loc Cert.First.main_arg9)
      ∧ r.2.mem ((c.tc : Thread Cert.First.nD Cert.First.τ).loc Cert.First.main_arg10) = m ((c.tc : Thread Cert.First.nD Cert.First.τ).loc Cert.First.main_arg10)
      ∧ r.2.mem ((c.tc : Thread Cert.First.nD Cert.First.τ).loc Cert.First.main_arg11) = m ((c.tc : Thread Cert.First.nD Cert.First.τ).loc Cert.First.main_arg11)
      ∧ r.2.mem ((c.tc : Thread Cert.First.nD Cert.First.τ).loc Cert.First.main_arg12) = m ((c.tc : Thread Cert.First.nD Cert.First.τ).loc Cert.First.main_arg12)
      ∧ r.2.mem ((c.tc : Thread Cert.First.nD Cert.First.τ).loc Cert.First.main_arg13) = m ((c.tc : Thread Cert.First.nD Cert.First.τ).loc Cert.First.main_arg13))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
      ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
      ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6)
      ∧ r.2.mem ((c.tc : Thread Cert.FirstIdeal.nD Cert.FirstIdeal.τ).loc Cert.FirstIdeal.main_arg7) = m ((c.tc : Thread Cert.FirstIdeal.nD Cert.FirstIdeal.τ).loc Cert.FirstIdeal.main_arg7)
      ∧ r.2.mem ((c.tc : Thread Cert.FirstIdeal.nD Cert.FirstIdeal.τ).loc Cert.FirstIdeal.main_arg8) = m ((c.tc : Thread Cert.FirstIdeal.nD Cert.FirstIdeal.τ).loc Cert.FirstIdeal.main_arg8)
      ∧ r.2.mem ((c.tc : Thread Cert.FirstIdeal.nD Cert.FirstIdeal.τ).loc Cert.FirstIdeal.main_arg9) = m ((c.tc : Thread Cert.FirstIdeal.nD Cert.FirstIdeal.τ).loc Cert.FirstIdeal.main_arg9)
      ∧ r.2.mem ((c.tc : Thread Cert.FirstIdeal.nD Cert.FirstIdeal.τ).loc Cert.FirstIdeal.main_arg10) = m ((c.tc : Thread Cert.FirstIdeal.nD Cert.FirstIdeal.τ).loc Cert.FirstIdeal.main_arg10)
      ∧ r.2.mem ((c.tc : Thread Cert.FirstIdeal.nD Cert.FirstIdeal.τ).loc Cert.FirstIdeal.main_arg11) = m ((c.tc : Thread Cert.FirstIdeal.nD Cert.FirstIdeal.τ).loc Cert.FirstIdeal.main_arg11)
      ∧ r.2.mem ((c.tc : Thread Cert.FirstIdeal.nD Cert.FirstIdeal.τ).loc Cert.FirstIdeal.main_arg12) = m ((c.tc : Thread Cert.FirstIdeal.nD Cert.FirstIdeal.τ).loc Cert.FirstIdeal.main_arg12)
      ∧ r.2.mem ((c.tc : Thread Cert.FirstIdeal.nD Cert.FirstIdeal.τ).loc Cert.FirstIdeal.main_arg13) = m ((c.tc : Thread Cert.FirstIdeal.nD Cert.FirstIdeal.τ).loc Cert.FirstIdeal.main_arg13))
      ∧ r.2.sem = fun _ => 0)

def quiescent_FirstReferenceIdeal [hFirstReferenceIdeal : Cert.FirstReferenceIdeal.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2)
      ∧ r.2.mem ((c.tc : Thread Cert.FirstReferenceIdeal.nD Cert.FirstReferenceIdeal.τ).loc Cert.FirstReferenceIdeal.main_arg3) = m ((c.tc : Thread Cert.FirstReferenceIdeal.nD Cert.FirstReferenceIdeal.τ).loc Cert.FirstReferenceIdeal.main_arg3)
      ∧ r.2.mem ((c.tc : Thread Cert.FirstReferenceIdeal.nD Cert.FirstReferenceIdeal.τ).loc Cert.FirstReferenceIdeal.main_arg4) = m ((c.tc : Thread Cert.FirstReferenceIdeal.nD Cert.FirstReferenceIdeal.τ).loc Cert.FirstReferenceIdeal.main_arg4)
      ∧ r.2.mem ((c.tc : Thread Cert.FirstReferenceIdeal.nD Cert.FirstReferenceIdeal.τ).loc Cert.FirstReferenceIdeal.main_arg5) = m ((c.tc : Thread Cert.FirstReferenceIdeal.nD Cert.FirstReferenceIdeal.τ).loc Cert.FirstReferenceIdeal.main_arg5)
      ∧ r.2.mem ((c.tc : Thread Cert.FirstReferenceIdeal.nD Cert.FirstReferenceIdeal.τ).loc Cert.FirstReferenceIdeal.main_arg6) = m ((c.tc : Thread Cert.FirstReferenceIdeal.nD Cert.FirstReferenceIdeal.τ).loc Cert.FirstReferenceIdeal.main_arg6)
      ∧ r.2.mem ((c.tc : Thread Cert.FirstReferenceIdeal.nD Cert.FirstReferenceIdeal.τ).loc Cert.FirstReferenceIdeal.main_arg7) = m ((c.tc : Thread Cert.FirstReferenceIdeal.nD Cert.FirstReferenceIdeal.τ).loc Cert.FirstReferenceIdeal.main_arg7)
      ∧ r.2.mem ((c.tc : Thread Cert.FirstReferenceIdeal.nD Cert.FirstReferenceIdeal.τ).loc Cert.FirstReferenceIdeal.main_arg8) = m ((c.tc : Thread Cert.FirstReferenceIdeal.nD Cert.FirstReferenceIdeal.τ).loc Cert.FirstReferenceIdeal.main_arg8)
      ∧ r.2.mem ((c.tc : Thread Cert.FirstReferenceIdeal.nD Cert.FirstReferenceIdeal.τ).loc Cert.FirstReferenceIdeal.main_arg9) = m ((c.tc : Thread Cert.FirstReferenceIdeal.nD Cert.FirstReferenceIdeal.τ).loc Cert.FirstReferenceIdeal.main_arg9)
      ∧ r.2.mem ((c.tc : Thread Cert.FirstReferenceIdeal.nD Cert.FirstReferenceIdeal.τ).loc Cert.FirstReferenceIdeal.main_arg10) = m ((c.tc : Thread Cert.FirstReferenceIdeal.nD Cert.FirstReferenceIdeal.τ).loc Cert.FirstReferenceIdeal.main_arg10)
      ∧ r.2.mem ((c.tc : Thread Cert.FirstReferenceIdeal.nD Cert.FirstReferenceIdeal.τ).loc Cert.FirstReferenceIdeal.main_arg11) = m ((c.tc : Thread Cert.FirstReferenceIdeal.nD Cert.FirstReferenceIdeal.τ).loc Cert.FirstReferenceIdeal.main_arg11)
      ∧ r.2.mem ((c.tc : Thread Cert.FirstReferenceIdeal.nD Cert.FirstReferenceIdeal.τ).loc Cert.FirstReferenceIdeal.main_arg12) = m ((c.tc : Thread Cert.FirstReferenceIdeal.nD Cert.FirstReferenceIdeal.τ).loc Cert.FirstReferenceIdeal.main_arg12)
      ∧ r.2.mem ((c.tc : Thread Cert.FirstReferenceIdeal.nD Cert.FirstReferenceIdeal.τ).loc Cert.FirstReferenceIdeal.main_arg13) = m ((c.tc : Thread Cert.FirstReferenceIdeal.nD Cert.FirstReferenceIdeal.τ).loc Cert.FirstReferenceIdeal.main_arg13))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "q_scale" .f32 0xBE38AA3B#32 ((-((1 / 8) * (Real.log 2)⁻¹) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)
      ∧ m' ((c.tc : Thread Cert.MergeReferenceIdeal.nD Cert.MergeReferenceIdeal.τ).loc Cert.MergeReferenceIdeal.main_arg12) = m ((c.tc : Thread Cert.MergeIdeal.nD Cert.MergeIdeal.τ).loc Cert.MergeIdeal.main_arg12)
      ∧ m' ((c.tc : Thread Cert.MergeReferenceIdeal.nD Cert.MergeReferenceIdeal.τ).loc Cert.MergeReferenceIdeal.main_arg13) = m ((c.tc : Thread Cert.MergeIdeal.nD Cert.MergeIdeal.τ).loc Cert.MergeIdeal.main_arg13)) →
    ∃ (v0 : (c : Dev Cert.MergeIdeal.nD) → Buf (Elt Ideal) ((c.tc : Thread Cert.MergeIdeal.nD Cert.MergeIdeal.τ).loc Cert.MergeIdeal.main_v24)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v24) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v54) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12)
          ∧ r.2.mem ((c.tc : Thread Cert.MergeReferenceIdeal.nD Cert.MergeReferenceIdeal.τ).loc Cert.MergeReferenceIdeal.main_arg13) = m' ((c.tc : Thread Cert.MergeReferenceIdeal.nD Cert.MergeReferenceIdeal.τ).loc Cert.MergeReferenceIdeal.main_arg13))

def preserves_First_FirstIdeal : Prop :=
  True

def algebraic_FirstIdeal_FirstReferenceIdeal [hFirstIdeal : Cert.FirstIdeal.Facts] [hFirstReferenceIdeal : Cert.FirstReferenceIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstReferenceIdeal.nD Cert.FirstReferenceIdeal.τ Cert.FirstReferenceIdeal.sig) → Buf (Elt Ideal) ℓ) (g' : Dev Cert.FirstReferenceIdeal.nD → PrngReg), Pre_FirstIdeal m →
    (∀ c : Dev Cert.FirstIdeal.nD,
      m' ((c.tc : Thread Cert.FirstReferenceIdeal.nD Cert.FirstReferenceIdeal.τ).loc Cert.FirstReferenceIdeal.main_arg0) = m ((c.tc : Thread Cert.FirstIdeal.nD Cert.FirstIdeal.τ).loc Cert.FirstIdeal.main_arg0)
      ∧ m' ((c.tc : Thread Cert.FirstReferenceIdeal.nD Cert.FirstReferenceIdeal.τ).loc Cert.FirstReferenceIdeal.main_arg1) = m ((c.tc : Thread Cert.FirstIdeal.nD Cert.FirstIdeal.τ).loc Cert.FirstIdeal.main_arg1)
      ∧ m' ((c.tc : Thread Cert.FirstReferenceIdeal.nD Cert.FirstReferenceIdeal.τ).loc Cert.FirstReferenceIdeal.main_arg2) = m ((c.tc : Thread Cert.FirstIdeal.nD Cert.FirstIdeal.τ).loc Cert.FirstIdeal.main_arg2)
      ∧ m' ((c.tc : Thread Cert.FirstReferenceIdeal.nD Cert.FirstReferenceIdeal.τ).loc Cert.FirstReferenceIdeal.main_arg3) = m ((c.tc : Thread Cert.FirstIdeal.nD Cert.FirstIdeal.τ).loc Cert.FirstIdeal.main_arg3)
      ∧ m' ((c.tc : Thread Cert.FirstReferenceIdeal.nD Cert.FirstReferenceIdeal.τ).loc Cert.FirstReferenceIdeal.main_arg4) = m ((c.tc : Thread Cert.FirstIdeal.nD Cert.FirstIdeal.τ).loc Cert.FirstIdeal.main_arg4)
      ∧ m' ((c.tc : Thread Cert.FirstReferenceIdeal.nD Cert.FirstReferenceIdeal.τ).loc Cert.FirstReferenceIdeal.main_arg5) = m ((c.tc : Thread Cert.FirstIdeal.nD Cert.FirstIdeal.τ).loc Cert.FirstIdeal.main_arg5)
      ∧ m' ((c.tc : Thread Cert.FirstReferenceIdeal.nD Cert.FirstReferenceIdeal.τ).loc Cert.FirstReferenceIdeal.main_arg6) = m ((c.tc : Thread Cert.FirstIdeal.nD Cert.FirstIdeal.τ).loc Cert.FirstIdeal.main_arg6)
      ∧ m' ((c.tc : Thread Cert.FirstReferenceIdeal.nD Cert.FirstReferenceIdeal.τ).loc Cert.FirstReferenceIdeal.main_arg7) = m ((c.tc : Thread Cert.FirstIdeal.nD Cert.FirstIdeal.τ).loc Cert.FirstIdeal.main_arg7)
      ∧ m' ((c.tc : Thread Cert.FirstReferenceIdeal.nD Cert.FirstReferenceIdeal.τ).loc Cert.FirstReferenceIdeal.main_arg8) = m ((c.tc : Thread Cert.FirstIdeal.nD Cert.FirstIdeal.τ).loc Cert.FirstIdeal.main_arg8)
      ∧ m' ((c.tc : Thread Cert.FirstReferenceIdeal.nD Cert.FirstReferenceIdeal.τ).loc Cert.FirstReferenceIdeal.main_arg9) = m ((c.tc : Thread Cert.FirstIdeal.nD Cert.FirstIdeal.τ).loc Cert.FirstIdeal.main_arg9)
      ∧ m' ((c.tc : Thread Cert.FirstReferenceIdeal.nD Cert.FirstReferenceIdeal.τ).loc Cert.FirstReferenceIdeal.main_arg10) = m ((c.tc : Thread Cert.FirstIdeal.nD Cert.FirstIdeal.τ).loc Cert.FirstIdeal.main_arg10)
      ∧ m' ((c.tc : Thread Cert.FirstReferenceIdeal.nD Cert.FirstReferenceIdeal.τ).loc Cert.FirstReferenceIdeal.main_arg11) = m ((c.tc : Thread Cert.FirstIdeal.nD Cert.FirstIdeal.τ).loc Cert.FirstIdeal.main_arg11)
      ∧ m' ((c.tc : Thread Cert.FirstReferenceIdeal.nD Cert.FirstReferenceIdeal.τ).loc Cert.FirstReferenceIdeal.main_arg12) = m ((c.tc : Thread Cert.FirstIdeal.nD Cert.FirstIdeal.τ).loc Cert.FirstIdeal.main_arg12)
      ∧ m' ((c.tc : Thread Cert.FirstReferenceIdeal.nD Cert.FirstReferenceIdeal.τ).loc Cert.FirstReferenceIdeal.main_arg13) = m ((c.tc : Thread Cert.FirstIdeal.nD Cert.FirstIdeal.τ).loc Cert.FirstIdeal.main_arg13)) →
    ∃ (v0 : (c : Dev Cert.FirstIdeal.nD) → Buf (Elt Ideal) ((c.tc : Thread Cert.FirstIdeal.nD Cert.FirstIdeal.τ).loc Cert.FirstIdeal.main_v24)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v24) = v0 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
          ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
          ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6)
          ∧ r.2.mem ((c.tc : Thread Cert.FirstIdeal.nD Cert.FirstIdeal.τ).loc Cert.FirstIdeal.main_arg7) = m ((c.tc : Thread Cert.FirstIdeal.nD Cert.FirstIdeal.τ).loc Cert.FirstIdeal.main_arg7)
          ∧ r.2.mem ((c.tc : Thread Cert.FirstIdeal.nD Cert.FirstIdeal.τ).loc Cert.FirstIdeal.main_arg8) = m ((c.tc : Thread Cert.FirstIdeal.nD Cert.FirstIdeal.τ).loc Cert.FirstIdeal.main_arg8)
          ∧ r.2.mem ((c.tc : Thread Cert.FirstIdeal.nD Cert.FirstIdeal.τ).loc Cert.FirstIdeal.main_arg9) = m ((c.tc : Thread Cert.FirstIdeal.nD Cert.FirstIdeal.τ).loc Cert.FirstIdeal.main_arg9)
          ∧ r.2.mem ((c.tc : Thread Cert.FirstIdeal.nD Cert.FirstIdeal.τ).loc Cert.FirstIdeal.main_arg10) = m ((c.tc : Thread Cert.FirstIdeal.nD Cert.FirstIdeal.τ).loc Cert.FirstIdeal.main_arg10)
          ∧ r.2.mem ((c.tc : Thread Cert.FirstIdeal.nD Cert.FirstIdeal.τ).loc Cert.FirstIdeal.main_arg11) = m ((c.tc : Thread Cert.FirstIdeal.nD Cert.FirstIdeal.τ).loc Cert.FirstIdeal.main_arg11)
          ∧ r.2.mem ((c.tc : Thread Cert.FirstIdeal.nD Cert.FirstIdeal.τ).loc Cert.FirstIdeal.main_arg12) = m ((c.tc : Thread Cert.FirstIdeal.nD Cert.FirstIdeal.τ).loc Cert.FirstIdeal.main_arg12)
          ∧ r.2.mem ((c.tc : Thread Cert.FirstIdeal.nD Cert.FirstIdeal.τ).loc Cert.FirstIdeal.main_arg13) = m ((c.tc : Thread Cert.FirstIdeal.nD Cert.FirstIdeal.τ).loc Cert.FirstIdeal.main_arg13))
      ∧ θ_run (Cert.FirstReferenceIdeal.defs (F := Ideal)) (onTc (τ := Cert.FirstReferenceIdeal.τ) (Cert.FirstReferenceIdeal.main (F := Ideal))) ⟨m', fun _ => 0, g'⟩ (fun r => ∀ c : Dev Cert.FirstReferenceIdeal.nD,
          r.2.mem ((c.tc : Thread Cert.FirstReferenceIdeal.nD Cert.FirstReferenceIdeal.τ).loc Cert.FirstReferenceIdeal.main_v41) = v0 c
          ∧ r.2.mem ((c.tc : Thread Cert.FirstReferenceIdeal.nD Cert.FirstReferenceIdeal.τ).loc Cert.FirstReferenceIdeal.main_arg0) = m' ((c.tc : Thread Cert.FirstReferenceIdeal.nD Cert.FirstReferenceIdeal.τ).loc Cert.FirstReferenceIdeal.main_arg0)
          ∧ r.2.mem ((c.tc : Thread Cert.FirstReferenceIdeal.nD Cert.FirstReferenceIdeal.τ).loc Cert.FirstReferenceIdeal.main_arg1) = m' ((c.tc : Thread Cert.FirstReferenceIdeal.nD Cert.FirstReferenceIdeal.τ).loc Cert.FirstReferenceIdeal.main_arg1)
          ∧ r.2.mem ((c.tc : Thread Cert.FirstReferenceIdeal.nD Cert.FirstReferenceIdeal.τ).loc Cert.FirstReferenceIdeal.main_arg2) = m' ((c.tc : Thread Cert.FirstReferenceIdeal.nD Cert.FirstReferenceIdeal.τ).loc Cert.FirstReferenceIdeal.main_arg2)
          ∧ r.2.mem ((c.tc : Thread Cert.FirstReferenceIdeal.nD Cert.FirstReferenceIdeal.τ).loc Cert.FirstReferenceIdeal.main_arg3) = m' ((c.tc : Thread Cert.FirstReferenceIdeal.nD Cert.FirstReferenceIdeal.τ).loc Cert.FirstReferenceIdeal.main_arg3)
          ∧ r.2.mem ((c.tc : Thread Cert.FirstReferenceIdeal.nD Cert.FirstReferenceIdeal.τ).loc Cert.FirstReferenceIdeal.main_arg4) = m' ((c.tc : Thread Cert.FirstReferenceIdeal.nD Cert.FirstReferenceIdeal.τ).loc Cert.FirstReferenceIdeal.main_arg4)
          ∧ r.2.mem ((c.tc : Thread Cert.FirstReferenceIdeal.nD Cert.FirstReferenceIdeal.τ).loc Cert.FirstReferenceIdeal.main_arg5) = m' ((c.tc : Thread Cert.FirstReferenceIdeal.nD Cert.FirstReferenceIdeal.τ).loc Cert.FirstReferenceIdeal.main_arg5)
          ∧ r.2.mem ((c.tc : Thread Cert.FirstReferenceIdeal.nD Cert.FirstReferenceIdeal.τ).loc Cert.FirstReferenceIdeal.main_arg6) = m' ((c.tc : Thread Cert.FirstReferenceIdeal.nD Cert.FirstReferenceIdeal.τ).loc Cert.FirstReferenceIdeal.main_arg6)
          ∧ r.2.mem ((c.tc : Thread Cert.FirstReferenceIdeal.nD Cert.FirstReferenceIdeal.τ).loc Cert.FirstReferenceIdeal.main_arg7) = m' ((c.tc : Thread Cert.FirstReferenceIdeal.nD Cert.FirstReferenceIdeal.τ).loc Cert.FirstReferenceIdeal.main_arg7)
          ∧ r.2.mem ((c.tc : Thread Cert.FirstReferenceIdeal.nD Cert.FirstReferenceIdeal.τ).loc Cert.FirstReferenceIdeal.main_arg8) = m' ((c.tc : Thread Cert.FirstReferenceIdeal.nD Cert.FirstReferenceIdeal.τ).loc Cert.FirstReferenceIdeal.main_arg8)
          ∧ r.2.mem ((c.tc : Thread Cert.FirstReferenceIdeal.nD Cert.FirstReferenceIdeal.τ).loc Cert.FirstReferenceIdeal.main_arg9) = m' ((c.tc : Thread Cert.FirstReferenceIdeal.nD Cert.FirstReferenceIdeal.τ).loc Cert.FirstReferenceIdeal.main_arg9)
          ∧ r.2.mem ((c.tc : Thread Cert.FirstReferenceIdeal.nD Cert.FirstReferenceIdeal.τ).loc Cert.FirstReferenceIdeal.main_arg10) = m' ((c.tc : Thread Cert.FirstReferenceIdeal.nD Cert.FirstReferenceIdeal.τ).loc Cert.FirstReferenceIdeal.main_arg10)
          ∧ r.2.mem ((c.tc : Thread Cert.FirstReferenceIdeal.nD Cert.FirstReferenceIdeal.τ).loc Cert.FirstReferenceIdeal.main_arg11) = m' ((c.tc : Thread Cert.FirstReferenceIdeal.nD Cert.FirstReferenceIdeal.τ).loc Cert.FirstReferenceIdeal.main_arg11)
          ∧ r.2.mem ((c.tc : Thread Cert.FirstReferenceIdeal.nD Cert.FirstReferenceIdeal.τ).loc Cert.FirstReferenceIdeal.main_arg12) = m' ((c.tc : Thread Cert.FirstReferenceIdeal.nD Cert.FirstReferenceIdeal.τ).loc Cert.FirstReferenceIdeal.main_arg12)
          ∧ r.2.mem ((c.tc : Thread Cert.FirstReferenceIdeal.nD Cert.FirstReferenceIdeal.τ).loc Cert.FirstReferenceIdeal.main_arg13) = m' ((c.tc : Thread Cert.FirstReferenceIdeal.nD Cert.FirstReferenceIdeal.τ).loc Cert.FirstReferenceIdeal.main_arg13))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeReferenceIdeal : Cert.MergeReferenceIdeal.Facts) (hFirst : Cert.First.Facts) (hFirstIdeal : Cert.FirstIdeal.Facts) (hFirstReferenceIdeal : Cert.FirstReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Merge (hMerge := hMerge)
    ∧ quiescent_MergeIdeal (hMergeIdeal := hMergeIdeal)
    ∧ quiescent_MergeReferenceIdeal (hMergeReferenceIdeal := hMergeReferenceIdeal)
    ∧ quiescent_First (hFirst := hFirst)
    ∧ quiescent_FirstIdeal (hFirstIdeal := hFirstIdeal)
    ∧ quiescent_FirstReferenceIdeal (hFirstReferenceIdeal := hFirstReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Merge_MergeIdeal
    ∧ algebraic_MergeIdeal_MergeReferenceIdeal (hMergeIdeal := hMergeIdeal) (hMergeReferenceIdeal := hMergeReferenceIdeal)
    ∧ preserves_First_FirstIdeal
    ∧ algebraic_FirstIdeal_FirstReferenceIdeal (hFirstIdeal := hFirstIdeal) (hFirstReferenceIdeal := hFirstReferenceIdeal)
-- ==== Pre_finite.lean ====
abbrev S2x8192x512 : Shape := ⟨3, ![2, 8192, 512]⟩
abbrev S8 : Shape := ⟨1, ![8]⟩
abbrev S_ : Shape := ⟨0, ![]⟩

class Facts : Prop where
  bcast_S_S2x8192x512 : S_.BroadcastsInDim S2x8192x512 (![] : Fin 0 → Fin S2x8192x512.rank)
  reducesTo_S2x8192x512_S_d0_1_2 : S2x8192x512.ReducesTo [0, 1, 2] S_
  h_S_ : 0 < S_.numel
  bcast_S_S8 : S_.BroadcastsInDim S8 (![] : Fin 0 → Fin S8.rank)
  reducesTo_S8_S_d0 : S8.ReducesTo [0] S_

variable [Facts]

def fn {F : FTy → Type} [FloatOps F] (main_arg0 : FVec F S2x8192x512 .f32) (main_arg1 : FVec F S2x8192x512 .f32) (main_arg2 : FVec F S2x8192x512 .f32) (main_arg3 : FVec F S8 .f32) : IVec S_ 1 :=
  let main_v0 : FVec F S2x8192x512 .f32 := Host.absf main_arg0
  let main_cst : FVec F S_ .f32 := constant S_ .f32 0x7F800000#32
  let main_v1 : FVec F S2x8192x512 .f32 := broadcastInDim S2x8192x512 ![] bcast_S_S2x8192x512 main_cst
  let main_v2 : IVec S2x8192x512 1 := cmpf .olt main_v0 main_v1
  let main_c : IVec S_ 1 := constantI S_ 1 1#1
  let main_v3 : IVec S_ 1 := (fun x v => Host.reduce IntOp.andi x v reducesTo_S2x8192x512_S_d0_1_2 h_S_) main_v2 main_c
  let main_v4 : FVec F S2x8192x512 .f32 := Host.absf main_arg1
  let main_cst_0 : FVec F S_ .f32 := constant S_ .f32 0x7F800000#32
  let main_v5 : FVec F S2x8192x512 .f32 := broadcastInDim S2x8192x512 ![] bcast_S_S2x8192x512 main_cst_0
  let main_v6 : IVec S2x8192x512 1 := cmpf .olt main_v4 main_v5
  let main_c_1 : IVec S_ 1 := constantI S_ 1 1#1
  let main_v7 : IVec S_ 1 := (fun x v => Host.reduce IntOp.andi x v reducesTo_S2x8192x512_S_d0_1_2 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Kernel.lean ====
abbrev S2x8192x512 : Shape := ⟨3, ![2, 8192, 512]⟩
abbrev S8 : Shape := ⟨1, ![8]⟩
abbrev S4x2x1 : Shape := ⟨3, ![4, 2, 1]⟩
abbrev S4x2x128 : Shape := ⟨3, ![4, 2, 128]⟩
abbrev S1x1024x128 : Shape := ⟨3, ![1, 1024, 128]⟩
abbrev S1x8192x128 : Shape := ⟨3, ![1, 8192, 128]⟩
abbrev S1x2x128 : Shape := ⟨3, ![1, 2, 128]⟩
abbrev S32x512x256 : Shape := ⟨3, ![32, 512, 256]⟩
abbrev S32x512x128 : Shape := ⟨3, ![32, 512, 128]⟩
abbrev S256x256 : Shape := ⟨2, ![256, 256]⟩
abbrev S1024x128 : Shape := ⟨2, ![1024, 128]⟩
abbrev S1024x256 : Shape := ⟨2, ![1024, 256]⟩
abbrev S1024x512 : Shape := ⟨2, ![1024, 512]⟩
abbrev S1x128 : Shape := ⟨2, ![1, 128]⟩
abbrev S8192x128 : Shape := ⟨2, ![8192, 128]⟩
abbrev S32x256x128 : Shape := ⟨3, ![32, 256, 128]⟩
abbrev S1x1x128 : Shape := ⟨3, ![1, 1, 128]⟩
abbrev S2x128 : Shape := ⟨2, ![2, 128]⟩
abbrev S1x512x256 : Shape := ⟨3, ![1, 512, 256]⟩
abbrev S512x256 : Shape := ⟨2, ![512, 256]⟩
abbrev S256x512 : Shape := ⟨2, ![256, 512]⟩
abbrev S512x512 : Shape := ⟨2, ![512, 512]⟩
abbrev S256x128 : Shape := ⟨2, ![256, 128]⟩
abbrev S256 : Shape := ⟨1, ![256]⟩
abbrev S256x1 : Shape := ⟨2, ![256, 1]⟩
abbrev S768x256 : Shape := ⟨2, ![768, 256]⟩
abbrev S768x512 : Shape := ⟨2, ![768, 512]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S1536x256 : Shape := ⟨2, ![1536, 256]⟩
abbrev S768x128 : Shape := ⟨2, ![768, 128]⟩
abbrev S768 : Shape := ⟨1, ![768]⟩
abbrev S768x1 : Shape := ⟨2, ![768, 1]⟩
abbrev S2048x256 : Shape := ⟨2, ![2048, 256]⟩
abbrev S1024 : Shape := ⟨1, ![1024]⟩
abbrev S1024x1 : Shape := ⟨2, ![1024, 1]⟩

abbrev nBuf : Space → Nat
  | .hbm => 9
  | .vmem => 19
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S2x8192x512, .f32⟩
  | .hbm, ⟨3, _⟩ => ⟨S8, .f32⟩
  | .hbm, ⟨4, _⟩ => ⟨S2x8192x512, .bf16⟩
  | .hbm, ⟨5, _⟩ => ⟨S2x8192x512, .bf16⟩
  | .hbm, ⟨6, _⟩ => ⟨S4x2x1, .f32⟩
  | .hbm, ⟨7, _⟩ => ⟨S4x2x128, .f32⟩
  | .hbm, ⟨8, _⟩ => ⟨S2x8192x512, .bf16⟩
  | .local _ .vmem, ⟨0, _⟩ => ⟨S1x1024x128, .f32⟩
  | .local _ .vmem, ⟨1, _⟩ => ⟨S1x1024x128, .f32⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x2x128, .f32⟩
  | .local _ .vmem, ⟨7, _⟩ => ⟨S1x2x128, .f32⟩
  | .local _ .vmem, ⟨8, _⟩ => ⟨S1x1024x128, .bf16⟩
  | .local _ .vmem, ⟨9, _⟩ => ⟨S1x1024x128, .bf16⟩
  | .local _ .vmem, ⟨10, _⟩ => ⟨S32x512x256, .bf16⟩
  | .local _ .vmem, ⟨11, _⟩ => ⟨S32x512x128, .bf16⟩
  | .local _ .vmem, ⟨12, _⟩ => ⟨S256x256, .bf16⟩
  | .local _ .vmem, ⟨13, _⟩ => ⟨S1024x128, .f32⟩
  | .local _ .vmem, ⟨14, _⟩ => ⟨S1024x256, .f32⟩
  | .local _ .vmem, ⟨15, _⟩ => ⟨S1024x512, .f32⟩
  | .local _ .vmem, ⟨16, _⟩ => ⟨S1024x512, .f32⟩
  | .local _ .vmem, ⟨17, _⟩ => ⟨S1024x512, .bf16⟩
  | .local _ .vmem, ⟨18, _⟩ => ⟨S1024x512, .bf16⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 8], ![false, false, false]⟩

def k0_off1 (i : grid0.Coords) (c4_i32_11 : BitVec 32) : Fin 3 → Nat :=
  let arg2 : BitVec 32 := BitVec.ofNat 32 (i 2).val
  let c4_i32 : BitVec 32 := 4#32
  let v24 : BitVec 32 := Scalar.muli arg2 c4_i32
  let v25 : BitVec 32 := Scalar.addi v24 c4_i32_11
  let c1_i32 : BitVec 32 := 1#32
  let v26 : BitVec 32 := Scalar.subi v25 c1_i32
  let v28 : Index := Scalar.indexCast v26
  let c0_12 : Index := 0#32
  let c0_13 : Index := 0#32
  ![v28.toNat, 0, 0]
def k0_off2 (i : grid0.Coords) (c3_i32_34 : BitVec 32) : Fin 3 → Nat :=
  let arg2 : BitVec 32 := BitVec.ofNat 32 (i 2).val
  let c4_i32 : BitVec 32 := 4#32
  let v24 : BitVec 32 := Scalar.muli arg2 c4_i32
  let v93 : BitVec 32 := Scalar.addi v24 c3_i32_34
  let v102 : Index := Scalar.indexCast v93
  let c0_41 : Index := 0#32
  let c0_42 : Index := 0#32
  ![v102.toNat, 0, 0]
def k0_off3 (i : grid0.Coords) : Fin 3 → Nat :=
  let arg2 : BitVec 32 := BitVec.ofNat 32 (i 2).val
  let c4_i32 : BitVec 32 := 4#32
  let v24 : BitVec 32 := Scalar.muli arg2 c4_i32
  let c1_i32_90 : BitVec 32 := 1#32
  let v235 : BitVec 32 := Scalar.subi v24 c1_i32_90
  let c0_i32_91 : BitVec 32 := 0#32
  let v236 : BitVec 32 := Scalar.maxsi v235 c0_i32_91
  let v237 : Index := Scalar.indexCast v236
  let c0_92 : Index := 0#32
  let c0_93 : Index := 0#32
  ![v237.toNat, 0, 0]
@[reducible] def k0_t1_loop (i : grid0.Coords) : Scf.Loop 32 :=
  let c0_i32_123 : BitVec 32 := 0#32
  let arg2 : BitVec 32 := BitVec.ofNat 32 (i 2).val
  let c1_i32_122 : BitVec 32 := 1#32
  let v310 : BitVec 32 := Scalar.shrui arg2 c1_i32_122
  let v311 : BitVec 32 := Scalar.subi v310 c0_i32_123
  let c1_i32_125 : BitVec 32 := 1#32
  let v313 : BitVec 32 := Scalar.divsi v311 c1_i32_125
  let v314 : BitVec 32 := Scalar.muli v313 c1_i32_125
  let v315 : BitVec 32 := Scalar.addi c0_i32_123 v314
  let c1_i32_126 : BitVec 32 := 1#32
  ⟨c0_i32_123, v315, c1_i32_126⟩
def k0_off4 (i : grid0.Coords) (k0_t1 : Fin (k0_t1_loop i).trips) (c0_i32_147 : BitVec 32) : Fin 3 → Nat :=
  let arg2 : BitVec 32 := BitVec.ofNat 32 (i 2).val
  let c4_i32 : BitVec 32 := 4#32
  let v24 : BitVec 32 := Scalar.muli arg2 c4_i32
  let c1_i32_146 : BitVec 32 := 1#32
  let v336 : BitVec 32 := Scalar.subi v24 c1_i32_146
  let c8_i32 : BitVec 32 := 8#32
  let c0_i32_123 : BitVec 32 := 0#32
  let c1_i32_126 : BitVec 32 := 1#32
  let arg17 : BitVec 32 := Scf.iv c0_i32_123 c1_i32_126 k0_t1
  let v337 : BitVec 32 := Scalar.muli c8_i32 arg17
  let v338 : BitVec 32 := Scalar.subi v336 v337
  let v339 : BitVec 32 := Scalar.subi v338 c0_i32_147
  let c1_i32_150 : BitVec 32 := 1#32
  let v341 : BitVec 32 := Scalar.subi v339 c1_i32_150
  let c0_i32_151 : BitVec 32 := 0#32
  let v342 : BitVec 32 := Scalar.maxsi v341 c0_i32_151
  let v343 : Index := Scalar.indexCast v342
  let c0_152 : Index := 0#32
  let c0_153 : Index := 0#32
  ![v343.toNat, 0, 0]
def k0_off5 (i : grid0.Coords) (k0_t1 : Fin (k0_t1_loop i).trips) (c0_i32_147 : BitVec 32) : Fin 3 → Nat :=
  let arg2 : BitVec 32 := BitVec.ofNat 32 (i 2).val
  let c4_i32 : BitVec 32 := 4#32
  let v24 : BitVec 32 := Scalar.muli arg2 c4_i32
  let c1_i32_146 : BitVec 32 := 1#32
  let v336 : BitVec 32 := Scalar.subi v24 c1_i32_146
  let c8_i32 : BitVec 32 := 8#32
  let c0_i32_123 : BitVec 32 := 0#32
  let c1_i32_126 : BitVec 32 := 1#32
  let arg17 : BitVec 32 := Scf.iv c0_i32_123 c1_i32_126 k0_t1
  let v337 : BitVec 32 := Scalar.muli c8_i32 arg17
  let v338 : BitVec 32 := Scalar.subi v336 v337
  let v339 : BitVec 32 := Scalar.subi v338 c0_i32_147
  let c1_i32_159 : BitVec 32 := 1#32
  let v351 : BitVec 32 := Scalar.addi v339 c1_i32_159
  let v353 : Index := Scalar.indexCast v351
  let c0_162 : Index := 0#32
  let c0_163 : Index := 0#32
  ![v353.toNat, 0, 0]
@[reducible] def k0_t2_loop (i : grid0.Coords) : Scf.Loop 32 :=
  let c0_i32_123 : BitVec 32 := 0#32
  let arg2 : BitVec 32 := BitVec.ofNat 32 (i 2).val
  let c1_i32_122 : BitVec 32 := 1#32
  let v310 : BitVec 32 := Scalar.shrui arg2 c1_i32_122
  let v311 : BitVec 32 := Scalar.subi v310 c0_i32_123
  let c1_i32_125 : BitVec 32 := 1#32
  let v313 : BitVec 32 := Scalar.divsi v311 c1_i32_125
  let v314 : BitVec 32 := Scalar.muli v313 c1_i32_125
  let v315 : BitVec 32 := Scalar.addi c0_i32_123 v314
  let v312 : BitVec 32 := Scalar.addi c0_i32_123 v311
  let c1_i32_127 : BitVec 32 := 1#32
  ⟨v315, v312, c1_i32_127⟩
def k0_off6 (i : grid0.Coords) (k0_t2 : Fin (k0_t2_loop i).trips) (c0_i32_147 : BitVec 32) : Fin 3 → Nat :=
  let arg2 : BitVec 32 := BitVec.ofNat 32 (i 2).val
  let c4_i32 : BitVec 32 := 4#32
  let v24 : BitVec 32 := Scalar.muli arg2 c4_i32
  let c1_i32_146 : BitVec 32 := 1#32
  let v336 : BitVec 32 := Scalar.subi v24 c1_i32_146
  let c8_i32 : BitVec 32 := 8#32
  let c0_i32_123 : BitVec 32 := 0#32
  let c1_i32_122 : BitVec 32 := 1#32
  let v310 : BitVec 32 := Scalar.shrui arg2 c1_i32_122
  let v311 : BitVec 32 := Scalar.subi v310 c0_i32_123
  let c1_i32_125 : BitVec 32 := 1#32
  let v313 : BitVec 32 := Scalar.divsi v311 c1_i32_125
  let v314 : BitVec 32 := Scalar.muli v313 c1_i32_125
  let v315 : BitVec 32 := Scalar.addi c0_i32_123 v314
  let c1_i32_127 : BitVec 32 := 1#32
  let arg17 : BitVec 32 := Scf.iv v315 c1_i32_127 k0_t2
  let v337 : BitVec 32 := Scalar.muli c8_i32 arg17
  let v338 : BitVec 32 := Scalar.subi v336 v337
  let v339 : BitVec 32 := Scalar.subi v338 c0_i32_147
  let c1_i32_150 : BitVec 32 := 1#32
  let v341 : BitVec 32 := Scalar.subi v339 c1_i32_150
  let c0_i32_151 : BitVec 32 := 0#32
  let v342 : BitVec 32 := Scalar.maxsi v341 c0_i32_151
  let v343 : Index := Scalar.indexCast v342
  let c0_152 : Index := 0#32
  let c0_153 : Index := 0#32
  ![v343.toNat, 0, 0]
def k0_off7 (i : grid0.Coords) (k0_t2 : Fin (k0_t2_loop i).trips) (c0_i32_147 : BitVec 32) : Fin 3 → Nat :=
  let arg2 : BitVec 32 := BitVec.ofNat 32 (i 2).val
  let c4_i32 : BitVec 32 := 4#32
  let v24 : BitVec 32 := Scalar.muli arg2 c4_i32
  let c1_i32_146 : BitVec 32 := 1#32
  let v336 : BitVec 32 := Scalar.subi v24 c1_i32_146
  let c8_i32 : BitVec 32 := 8#32
  let c0_i32_123 : BitVec 32 := 0#32
  let c1_i32_122 : BitVec 32 := 1#32
  let v310 : BitVec 32 := Scalar.shrui arg2 c1_i32_122
  let v311 : BitVec 32 := Scalar.subi v310 c0_i32_123
  let c1_i32_125 : BitVec 32 := 1#32
  let v313 : BitVec 32 := Scalar.divsi v311 c1_i32_125
  let v314 : BitVec 32 := Scalar.muli v313 c1_i32_125
  let v315 : BitVec 32 := Scalar.addi c0_i32_123 v314
  let c1_i32_127 : BitVec 32 := 1#32
  let arg17 : BitVec 32 := Scf.iv v315 c1_i32_127 k0_t2
  let v337 : BitVec 32 := Scalar.muli c8_i32 arg17
  let v338 : BitVec 32 := Scalar.subi v336 v337
  let v339 : BitVec 32 := Scalar.subi v338 c0_i32_147
  let c1_i32_159 : BitVec 32 := 1#32
  let v351 : BitVec 32 := Scalar.addi v339 c1_i32_159
  let v353 : Index := Scalar.indexCast v351
  let c0_162 : Index := 0#32
  let c0_163 : Index := 0#32
  ![v353.toNat, 0, 0]
def k0_cond2 (i : grid0.Coords) : BitVec 1 :=
  let arg2 : BitVec 32 := BitVec.ofNat 32 (i 2).val
  let c1_i32_128 : BitVec 32 := 1#32
  let v318 : BitVec 32 := Scalar.andi arg2 c1_i32_128
  let c1_i32_129 : BitVec 32 := 1#32
  let v319 : BitVec 1 := Scalar.cmpi .eq v318 c1_i32_129
  let v320 : BitVec 32 := Scalar.extui v319
  let c0_i32_130 : BitVec 32 := 0#32
  let v321 : BitVec 1 := Scalar.cmpi .ne v320 c0_i32_130
  v321

def k0_off8 (c2_i32_148 : BitVec 32) : Fin 3 → Nat :=
  let c0_i32_149 : BitVec 32 := 0#32
  let v337 : BitVec 32 := Scalar.maxsi c2_i32_148 c0_i32_149
  let v338 : Index := Scalar.indexCast v337
  let c0_150 : Index := 0#32
  let c0_151 : Index := 0#32
  ![v338.toNat, 0, 0]
def k0_off8_at (r : Fin 4) : BitVec 32 :=
  if r.val < 2 then
    if r.val < 1 then
      2#32
    else
      1#32
  else
    if r.val < 3 then
      0#32
    else
      4294967295#32
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "log2e" => some (((Real.log 2)⁻¹ : ℝ) : EReal)
  | "q_scale" => some ((-((1 / 8) * (Real.log 2)⁻¹) : ℝ) : EReal)
  | _ => none
-- ==== ReferenceIdeal.lean ====
abbrev S2x8192x512 : Shape := ⟨3, ![2, 8192, 512]⟩
abbrev S8 : Shape := ⟨1, ![8]⟩
abbrev S2x8192x8x64 : Shape := ⟨4, ![2, 8192, 8, 64]⟩
abbrev S8192 : Shape := ⟨1, ![8192]⟩
abbrev S2x8x8192x8192 : Shape := ⟨4, ![2, 8, 8192, 8192]⟩
abbrev S_ : Shape := ⟨0, ![]⟩
abbrev S1x8x1x1 : Shape := ⟨4, ![1, 8, 1, 1]⟩
abbrev S1x8192 : Shape := ⟨2, ![1, 8192]⟩
abbrev S8192x1 : Shape := ⟨2, ![8192, 1]⟩
abbrev S8192x8192 : Shape := ⟨2, ![8192, 8192]⟩
abbrev S2x8x64x8192 : Shape := ⟨4, ![2, 8, 64, 8192]⟩

abbrev nBuf : Space → Nat
  | .hbm => 73
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S2x8192x512, .f32⟩
  | .hbm, ⟨3, _⟩ => ⟨S8, .f32⟩
  | .hbm, ⟨4, _⟩ => ⟨S2x8192x8x64, .f32⟩
  | .hbm, ⟨5, _⟩ => ⟨S2x8192x8x64, .f32⟩
  | .hbm, ⟨6, _⟩ => ⟨S2x8192x8x64, .f32⟩
  | .hbm, ⟨7, _⟩ => ⟨S8192, .i32⟩
  | .hbm, ⟨8, _⟩ => ⟨S2x8x8192x8192, .f32⟩
  | .hbm, ⟨9, _⟩ => ⟨S_, .f32⟩
  | .hbm, ⟨10, _⟩ => ⟨S2x8x8192x8192, .f32⟩
  | .hbm, ⟨11, _⟩ => ⟨S2x8x8192x8192, .f32⟩
  | .hbm, ⟨12, _⟩ => ⟨S1x8x1x1, .f32⟩
  | .hbm, ⟨13, _⟩ => ⟨S2x8x8192x8192, .f32⟩
  | .hbm, ⟨14, _⟩ => ⟨S2x8x8192x8192, .f32⟩
  | .hbm, ⟨15, _⟩ => ⟨S1x8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S2x8x8192x8192, .f32⟩
  | .hbm, ⟨21, _⟩ => ⟨S2x8x8192x8192, .f32⟩
  | .hbm, ⟨22, _⟩ => ⟨S_, .f32⟩
  | .hbm, ⟨23, _⟩ => ⟨S2x8x8192x8192, .f32⟩
  | .hbm, ⟨24, _⟩ => ⟨S2x8x8192x8192, .f32⟩
  | .hbm, ⟨25, _⟩ => ⟨S2x8x8192x8192, .f32⟩
  | .hbm, ⟨26, _⟩ => ⟨S2x8x8192x8192, .f32⟩
  | .hbm, ⟨27, _⟩ => ⟨S2x8x8192x8192, .i1⟩
  | .hbm, ⟨28, _⟩ => ⟨S2x8x8192x8192, .f32⟩
  | .hbm, ⟨29, _⟩ => ⟨S2x8x8192x8192, .f32⟩
  | .hbm, ⟨30, _⟩ => ⟨S2x8x8192x8192, .f32⟩
  | .hbm, ⟨31, _⟩ => ⟨S2x8x8192x8192, .f32⟩
  | .hbm, ⟨32, _⟩ => ⟨S2x8x8192x8192, .f32⟩
  | .hbm, ⟨33, _⟩ => ⟨S2x8x8192x8192, .f32⟩
  | .hbm, ⟨34, _⟩ => ⟨S2x8x8192x8192, .f32⟩
  | .hbm, ⟨35, _⟩ => ⟨S2x8x8192x8192, .f32⟩
  | .hbm, ⟨36, _⟩ => ⟨S2x8x8192x8192, .f32⟩
  | .hbm, ⟨37, _⟩ => ⟨S_, .f32⟩
  | .hbm, ⟨38, _⟩ => ⟨S_, .f32⟩
  | .hbm, ⟨39, _⟩ => ⟨S2x8x8192x8192, .i1⟩
  | .hbm, ⟨40, _⟩ => ⟨S2x8x8192x8192, .f32⟩
  | .hbm, ⟨41, _⟩ => ⟨S2x8x8192x8192, .f32⟩
  | .hbm, ⟨42, _⟩ => ⟨S_, .f32⟩
  | .hbm, ⟨43, _⟩ => ⟨S_, .f32⟩
  | .hbm, ⟨44, _⟩ => ⟨S2x8x8192x8192, .f32⟩
  | .hbm, ⟨45, _⟩ => ⟨S2x8x8192x8192, .f32⟩
  | .hbm, ⟨46, _⟩ => ⟨S2x8x8192x8192, .f32⟩
  | .hbm, ⟨47, _⟩ => ⟨S_, .f32⟩
  | .hbm, ⟨48, _⟩ => ⟨S2x8x8192x8192, .f32⟩
  | .hbm, ⟨49, _⟩ => ⟨S2x8x8192x8192, .f32⟩
  | .hbm, ⟨50, _⟩ => ⟨S2x8x8192x8192, .f32⟩
  | .hbm, ⟨51, _⟩ => ⟨S2x8x8192x8192, .f32⟩
  | .hbm, ⟨52, _⟩ => ⟨S2x8x8192x8192, .i1⟩
  | .hbm, ⟨53, _⟩ => ⟨S2x8x8192x8192, .f32⟩
  | .hbm, ⟨54, _⟩ => ⟨S2x8x8192x8192, .f32⟩
  | .hbm, ⟨55, _⟩ => ⟨S2x8x8192x8192, .f32⟩
  | .hbm, ⟨56, _⟩ => ⟨S2x8x8192x8192, .f32⟩
  | .hbm, ⟨57, _⟩ => ⟨S2x8x8192x8192, .f32⟩
  | .hbm, ⟨58, _⟩ => ⟨S2x8x8192x8192, .f32⟩
  | .hbm, ⟨59, _⟩ => ⟨S2x8x8192x8192, .f32⟩
  | .hbm, ⟨60, _⟩ => ⟨S2x8x8192x8192, .f32⟩
  | .hbm, ⟨61, _⟩ => ⟨S2x8x8192x8192, .f32⟩
  | .hbm, ⟨62, _⟩ => ⟨S2x8x8192x8192, .f32⟩
  | .hbm, ⟨63, _⟩ => ⟨S2x8x8192x8192, .f32⟩
  | .hbm, ⟨64, _⟩ => ⟨S_, .f32⟩
  | .hbm, ⟨65, _⟩ => ⟨S_, .f32⟩
  | .hbm, ⟨66, _⟩ => ⟨S2x8x8192x8192, .i1⟩
  | .hbm, ⟨67, _⟩ => ⟨S2x8x8192x8192, .f32⟩
  | .hbm, ⟨68, _⟩ => ⟨S2x8x8192x8192, .f32⟩
  | .hbm, ⟨69, _⟩ => ⟨S2x8x64x8192, .f32⟩
  | .hbm, ⟨70, _⟩ => ⟨S2x8192x8x64, .f32⟩
  | .hbm, ⟨71, _⟩ => ⟨S2x8192x512, .f32⟩
  | .hbm, ⟨72, _⟩ => ⟨S2x8192x512, .bf16⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v16 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v17 : Ref sig .tc := ⟨.hbm, 41, rfl⟩
abbrev main_call2_cst : Ref sig .tc := ⟨.hbm, 42, rfl⟩
abbrev main_call2_v0 : Ref sig .tc := ⟨.hbm, 43, rfl⟩
abbrev main_v18 : Ref sig .tc := ⟨.hbm, 44, rfl⟩
abbrev main_v19 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_cst_1 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩

abbrev nD : Nat := 1
abbrev τ : Topo := Topo.v7x

variable {F : FTy → Type} [FloatOps F]
-- ==== Merge.lean ====
abbrev S2x8192x512 : Shape := ⟨3, ![2, 8192, 512]⟩
abbrev S2x8192x8x64 : Shape := ⟨4, ![2, 8192, 8, 64]⟩
abbrev S2x8192x2048 : Shape := ⟨3, ![2, 8192, 2048]⟩
abbrev S2x8192x1024 : Shape := ⟨3, ![2, 8192, 1024]⟩
abbrev S512x1024 : Shape := ⟨2, ![512, 1024]⟩
abbrev S1024x1024 : Shape := ⟨2, ![1024, 1024]⟩
abbrev S8x128x128 : Shape := ⟨3, ![8, 128, 128]⟩
abbrev S8x128 : Shape := ⟨2, ![8, 128]⟩
abbrev S1024 : Shape := ⟨1, ![1024]⟩
abbrev S1024x4096 : Shape := ⟨2, ![1024, 4096]⟩
abbrev S4096x1024 : Shape := ⟨2, ![4096, 1024]⟩
abbrev S16384x512 : Shape := ⟨2, ![16384, 512]⟩
abbrev S16384x2048 : Shape := ⟨2, ![16384, 2048]⟩
abbrev S16384x1024 : Shape := ⟨2, ![16384, 1024]⟩
abbrev S1x8x1x128x1x128 : Shape := ⟨6, ![1, 8, 1, 128, 1, 128]⟩
abbrev S128x8 : Shape := ⟨2, ![128, 8]⟩
abbrev S1x128x1x8 : Shape := ⟨4, ![1, 128, 1, 8]⟩
abbrev S128x8x64 : Shape := ⟨3, ![128, 8, 64]⟩
abbrev S128x512 : Shape := ⟨2, ![128, 512]⟩
abbrev S1x1024 : Shape := ⟨2, ![1, 1024]⟩
abbrev S512x512 : Shape := ⟨2, ![512, 512]⟩
abbrev S512x2048 : Shape := ⟨2, ![512, 2048]⟩
abbrev S128x128 : Shape := ⟨2, ![128, 128]⟩
abbrev S1x128x128 : Shape := ⟨3, ![1, 128, 128]⟩
abbrev S1x128 : Shape := ⟨2, ![1, 128]⟩
abbrev S512 : Shape := ⟨1, ![512]⟩
abbrev S512x1 : Shape := ⟨2, ![512, 1]⟩

abbrev nBuf : Space → Nat
  | .hbm => 39
  | .vmem => 22
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S2x8192x8x64, .f32⟩
  | .hbm, ⟨3, _⟩ => ⟨S2x8192x2048, .f32⟩
  | .hbm, ⟨4, _⟩ => ⟨S2x8192x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S8x128x128, .f32⟩
  | .hbm, ⟨9, _⟩ => ⟨S8x128, .f32⟩
  | .hbm, ⟨10, _⟩ => ⟨S1024, .f32⟩
  | .hbm, ⟨11, _⟩ => ⟨S1024x4096, .f32⟩
  | .hbm, ⟨12, _⟩ => ⟨S4096x1024, .f32⟩
  | .hbm, ⟨13, _⟩ => ⟨S1024, .f32⟩
  | .hbm, ⟨14, _⟩ => ⟨S2x8192x512, .bf16⟩
  | .hbm, ⟨15, _⟩ => ⟨S16384x512, .bf16⟩
  | .hbm, ⟨16, _⟩ => ⟨S2x8192x512, .bf16⟩
  | .hbm, ⟨17, _⟩ => ⟨S16384x512, .bf16⟩
  | .hbm, ⟨18, _⟩ => ⟨S16384x512, .f32⟩
  | .hbm, ⟨19, _⟩ => ⟨S2x8192x2048, .bf16⟩
  | .hbm, ⟨20, _⟩ => ⟨S16384x2048, .bf16⟩
  | .hbm, ⟨21, _⟩ => ⟨S16384x1024, .f32⟩
  | .hbm, ⟨22, _⟩ => ⟨S512x1024, .bf16⟩
  | .hbm, ⟨23, _⟩ => ⟨S512x1024, .bf16⟩
  | .hbm, ⟨24, _⟩ => ⟨S1024x1024, .bf16⟩
  | .hbm, ⟨25, _⟩ => ⟨S1024x4096, .bf16⟩
  | .hbm, ⟨26, _⟩ => ⟨S4096x1024, .bf16⟩
  | .hbm, ⟨27, _⟩ => ⟨S1x8x1x128x1x128, .f32⟩
  | .hbm, ⟨28, _⟩ => ⟨S1x8x1x128x1x128, .f32⟩
  | .hbm, ⟨29, _⟩ => ⟨S8x128x128, .f32⟩
  | .hbm, ⟨30, _⟩ => ⟨S128x8, .f32⟩
  | .hbm, ⟨31, _⟩ => ⟨S1x128x1x8, .f32⟩
  | .hbm, ⟨32, _⟩ => ⟨S1x128x1x8, .f32⟩
  | .hbm, ⟨33, _⟩ => ⟨S128x8, .f32⟩
  | .hbm, ⟨34, _⟩ => ⟨S128x8x64, .f32⟩
  | .hbm, ⟨35, _⟩ => ⟨S128x512, .f32⟩
  | .hbm, ⟨36, _⟩ => ⟨S1x1024, .f32⟩
  | .hbm, ⟨37, _⟩ => ⟨S1x1024, .f32⟩
  | .hbm, ⟨38, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x2048, .bf16⟩
  | .local _ .vmem, ⟨7, _⟩ => ⟨S512x2048, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S8x128x128, .f32⟩
  | .local _ .vmem, ⟨14, _⟩ => ⟨S128x512, .f32⟩
  | .local _ .vmem, ⟨15, _⟩ => ⟨S1x1024, .f32⟩
  | .local _ .vmem, ⟨16, _⟩ => ⟨S1024x4096, .bf16⟩
  | .local _ .vmem, ⟨17, _⟩ => ⟨S4096x1024, .bf16⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S8x128x128, .bf16⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergeReferenceIdeal.lean ====
abbrev S2x8192x512 : Shape := ⟨3, ![2, 8192, 512]⟩
abbrev S2x8192x8x64 : Shape := ⟨4, ![2, 8192, 8, 64]⟩
abbrev S2x8192x2048 : Shape := ⟨3, ![2, 8192, 2048]⟩
abbrev S2x8192x1024 : Shape := ⟨3, ![2, 8192, 1024]⟩
abbrev S512x1024 : Shape := ⟨2, ![512, 1024]⟩
abbrev S1024x1024 : Shape := ⟨2, ![1024, 1024]⟩
abbrev S8x128x128 : Shape := ⟨3, ![8, 128, 128]⟩
abbrev S8x128 : Shape := ⟨2, ![8, 128]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S128x128 : Shape := ⟨2, ![128, 128]⟩
abbrev S1x128x128 : Shape := ⟨3, ![1, 128, 128]⟩
abbrev S2x64x128x8x64 : Shape := ⟨5, ![2, 64, 128, 8, 64]⟩
abbrev S8x2x64x64x128 : Shape := ⟨5, ![8, 2, 64, 64, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S2x8192 : Shape := ⟨2, ![2, 8192]⟩
abbrev S2x8192x1 : Shape := ⟨3, ![2, 8192, 1]⟩
abbrev S1x1x1024 : Shape := ⟨3, ![1, 1, 1024]⟩
abbrev S2x8192x4096 : Shape := ⟨3, ![2, 8192, 4096]⟩
abbrev S16384x1024 : Shape := ⟨2, ![16384, 1024]⟩

abbrev nBuf : Space → Nat
  | .hbm => 90
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S2x8192x8x64, .f32⟩
  | .hbm, ⟨3, _⟩ => ⟨S2x8192x2048, .f32⟩
  | .hbm, ⟨4, _⟩ => ⟨S2x8192x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S8x128x128, .f32⟩
  | .hbm, ⟨9, _⟩ => ⟨S8x128, .f32⟩
  | .hbm, ⟨10, _⟩ => ⟨S1024, .f32⟩
  | .hbm, ⟨11, _⟩ => ⟨S1024x4096, .f32⟩
  | .hbm, ⟨12, _⟩ => ⟨S4096x1024, .f32⟩
  | .hbm, ⟨13, _⟩ => ⟨S1024, .f32⟩
  | .hbm, ⟨14, _⟩ => ⟨S2x8192x1024, .f32⟩
  | .hbm, ⟨15, _⟩ => ⟨S2x8192x1024, .f32⟩
  | .hbm, ⟨16, _⟩ => ⟨S_, .i1⟩
  | .hbm, ⟨17, _⟩ => ⟨S128x128, .i1⟩
  | .hbm, ⟨18, _⟩ => ⟨S128x128, .i32⟩
  | .hbm, ⟨19, _⟩ => ⟨S_, .i32⟩
  | .hbm, ⟨20, _⟩ => ⟨S128x128, .i32⟩
  | .hbm, ⟨21, _⟩ => ⟨S128x128, .i32⟩
  | .hbm, ⟨22, _⟩ => ⟨S128x128, .i32⟩
  | .hbm, ⟨23, _⟩ => ⟨S128x128, .i1⟩
  | .hbm, ⟨24, _⟩ => ⟨S_, .i1⟩
  | .hbm, ⟨25, _⟩ => ⟨S128x128, .i1⟩
  | .hbm, ⟨26, _⟩ => ⟨S128x128, .i1⟩
  | .hbm, ⟨27, _⟩ => ⟨S1x128x128, .i1⟩
  | .hbm, ⟨28, _⟩ => ⟨S_, .f32⟩
  | .hbm, ⟨29, _⟩ => ⟨S_, .f32⟩
  | .hbm, ⟨30, _⟩ => ⟨S8x128x128, .i1⟩
  | .hbm, ⟨31, _⟩ => ⟨S8x128x128, .f32⟩
  | .hbm, ⟨32, _⟩ => ⟨S8x128x128, .f32⟩
  | .hbm, ⟨33, _⟩ => ⟨S2x64x128x8x64, .f32⟩
  | .hbm, ⟨34, _⟩ => ⟨S8x2x64x64x128, .f32⟩
  | .hbm, ⟨35, _⟩ => ⟨S2x64x128x8x64, .f32⟩
  | .hbm, ⟨36, _⟩ => ⟨S128x8, .f32⟩
  | .hbm, ⟨37, _⟩ => ⟨S128x8x1, .f32⟩
  | .hbm, ⟨38, _⟩ => ⟨S1x1x128x8x1, .f32⟩
  | .hbm, ⟨39, _⟩ => ⟨S2x64x128x8x64, .f32⟩
  | .hbm, ⟨40, _⟩ => ⟨S2x64x128x8x64, .f32⟩
  | .hbm, ⟨41, _⟩ => ⟨S2x8192x512, .f32⟩
  | .hbm, ⟨42, _⟩ => ⟨S2x8192x512, .f32⟩
  | .hbm, ⟨43, _⟩ => ⟨S2x8192x1024, .f32⟩
  | .hbm, ⟨44, _⟩ => ⟨S2x8192x1024, .f32⟩
  | .hbm, ⟨45, _⟩ => ⟨S2x8192x1024, .f32⟩
  | .hbm, ⟨46, _⟩ => ⟨S2x8192x1024, .f32⟩
  | .hbm, ⟨47, _⟩ => ⟨S2x8192x1024, .f32⟩
  | .hbm, ⟨48, _⟩ => ⟨S2x8192x1024, .f32⟩
  | .hbm, ⟨49, _⟩ => ⟨S2x8192x1024, .f32⟩
  | .hbm, ⟨50, _⟩ => ⟨S2x8192x1024, .f32⟩
  | .hbm, ⟨51, _⟩ => ⟨S_, .f32⟩
  | .hbm, ⟨52, _⟩ => ⟨S2x8192, .f32⟩
  | .hbm, ⟨53, _⟩ => ⟨S2x8192x1, .f32⟩
  | .hbm, ⟨54, _⟩ => ⟨S_, .f32⟩
  | .hbm, ⟨55, _⟩ => ⟨S2x8192x1, .f32⟩
  | .hbm, ⟨56, _⟩ => ⟨S2x8192x1, .f32⟩
  | .hbm, ⟨57, _⟩ => ⟨S_, .f32⟩
  | .hbm, ⟨58, _⟩ => ⟨S2x8192x1, .f32⟩
  | .hbm, ⟨59, _⟩ => ⟨S2x8192x1, .f32⟩
  | .hbm, ⟨60, _⟩ => ⟨S2x8192x1, .f32⟩
  | .hbm, ⟨61, _⟩ => ⟨S2x8192x1024, .f32⟩
  | .hbm, ⟨62, _⟩ => ⟨S2x8192x1024, .f32⟩
  | .hbm, ⟨63, _⟩ => ⟨S1x1x1024, .f32⟩
  | .hbm, ⟨64, _⟩ => ⟨S2x8192x1024, .f32⟩
  | .hbm, ⟨65, _⟩ => ⟨S2x8192x1024, .f32⟩
  | .hbm, ⟨66, _⟩ => ⟨S2x8192x4096, .f32⟩
  | .hbm, ⟨67, _⟩ => ⟨S_, .f32⟩
  | .hbm, ⟨68, _⟩ => ⟨S2x8192x4096, .f32⟩
  | .hbm, ⟨69, _⟩ => ⟨S2x8192x4096, .f32⟩
  | .hbm, ⟨70, _⟩ => ⟨S2x8192x4096, .f32⟩
  | .hbm, ⟨71, _⟩ => ⟨S2x8192x1024, .f32⟩
  | .hbm, ⟨72, _⟩ => ⟨S2x8192x1024, .f32⟩
  | .hbm, ⟨73, _⟩ => ⟨S2x8192x1024, .f32⟩
  | .hbm, ⟨74, _⟩ => ⟨S_, .f32⟩
  | .hbm, ⟨75, _⟩ => ⟨S2x8192, .f32⟩
  | .hbm, ⟨76, _⟩ => ⟨S2x8192x1, .f32⟩
  | .hbm, ⟨77, _⟩ => ⟨S_, .f32⟩
  | .hbm, ⟨78, _⟩ => ⟨S2x8192x1, .f32⟩
  | .hbm, ⟨79, _⟩ => ⟨S2x8192x1, .f32⟩
  | .hbm, ⟨80, _⟩ => ⟨S_, .f32⟩
  | .hbm, ⟨81, _⟩ => ⟨S2x8192x1, .f32⟩
  | .hbm, ⟨82, _⟩ => ⟨S2x8192x1, .f32⟩
  | .hbm, ⟨83, _⟩ => ⟨S2x8192x1, .f32⟩
  | .hbm, ⟨84, _⟩ => ⟨S2x8192x1024, .f32⟩
  | .hbm, ⟨85, _⟩ => ⟨S2x8192x1024, .f32⟩
  | .hbm, ⟨86, _⟩ => ⟨S1x1x1024, .f32⟩
  | .hbm, ⟨87, _⟩ => ⟨S2x8192x1024, .f32⟩
  | .hbm, ⟨88, _⟩ => ⟨S2x8192x1024, .f32⟩
  | .hbm, ⟨89, _⟩ => ⟨S16384x1024, .f32⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_0 : Ref sig .tc := ⟨.hbm, 24, rfl⟩
abbrev main_call0_v5 : Ref sig .tc := ⟨.hbm, 25, rfl⟩
abbrev main_v3 : Ref sig .tc := ⟨.hbm, 26, rfl⟩
abbrev main_v4 : Ref sig .tc := ⟨.hbm, 27, rfl⟩
abbrev main_cst : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_0 : Ref sig .tc := ⟨.hbm, 51, rfl⟩
abbrev main_v24 : Ref sig .tc := ⟨.hbm, 52, rfl⟩
abbrev main_v25 : Ref sig .tc := ⟨.hbm, 53, rfl⟩
abbrev main_cst_1 : Ref sig .tc := ⟨.hbm, 54, rfl⟩
abbrev main_v26 : Ref sig .tc := ⟨.hbm, 55, rfl⟩
abbrev main_v27 : Ref sig .tc := ⟨.hbm, 56, rfl⟩
abbrev main_cst_2 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_call2_cst : Ref sig .tc := ⟨.hbm, 67, rfl⟩
abbrev main_call2_v0 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_3 : Ref sig .tc := ⟨.hbm, 74, rfl⟩
abbrev main_v42 : Ref sig .tc := ⟨.hbm, 75, rfl⟩
abbrev main_v43 : Ref sig .tc := ⟨.hbm, 76, rfl⟩
abbrev main_cst_4 : Ref sig .tc := ⟨.hbm, 77, rfl⟩
abbrev main_v44 : Ref sig .tc := ⟨.hbm, 78, rfl⟩
abbrev main_v45 : Ref sig .tc := ⟨.hbm, 79, rfl⟩
abbrev main_cst_5 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩

abbrev nD : Nat := 1
abbrev τ : Topo := Topo.v7x

variable {F : FTy → Type} [FloatOps F]
-- ==== First.lean ====
abbrev S2x8192x512 : Shape := ⟨3, ![2, 8192, 512]⟩
abbrev S2x8192x8x64 : Shape := ⟨4, ![2, 8192, 8, 64]⟩
abbrev S2x8192x2048 : Shape := ⟨3, ![2, 8192, 2048]⟩
abbrev S2x8192x1024 : Shape := ⟨3, ![2, 8192, 1024]⟩
abbrev S512x1024 : Shape := ⟨2, ![512, 1024]⟩
abbrev S1024x1024 : Shape := ⟨2, ![1024, 1024]⟩
abbrev S8x128x128 : Shape := ⟨3, ![8, 128, 128]⟩
abbrev S8x128 : Shape := ⟨2, ![8, 128]⟩
abbrev S1024 : Shape := ⟨1, ![1024]⟩
abbrev S1024x4096 : Shape := ⟨2, ![1024, 4096]⟩
abbrev S4096x1024 : Shape := ⟨2, ![4096, 1024]⟩
abbrev S16384x512 : Shape := ⟨2, ![16384, 512]⟩
abbrev S16384x2048 : Shape := ⟨2, ![16384, 2048]⟩
abbrev S16384x1024 : Shape := ⟨2, ![16384, 1024]⟩
abbrev S1x8x1x128x1x128 : Shape := ⟨6, ![1, 8, 1, 128, 1, 128]⟩
abbrev S128x8 : Shape := ⟨2, ![128, 8]⟩
abbrev S1x128x1x8 : Shape := ⟨4, ![1, 128, 1, 8]⟩
abbrev S128x8x64 : Shape := ⟨3, ![128, 8, 64]⟩
abbrev S128x512 : Shape := ⟨2, ![128, 512]⟩
abbrev S1x1024 : Shape := ⟨2, ![1, 1024]⟩
abbrev S512x512 : Shape := ⟨2, ![512, 512]⟩
abbrev S512x2048 : Shape := ⟨2, ![512, 2048]⟩
abbrev S128x128 : Shape := ⟨2, ![128, 128]⟩
abbrev S1x128x128 : Shape := ⟨3, ![1, 128, 128]⟩
abbrev S1x128 : Shape := ⟨2, ![1, 128]⟩
abbrev S512 : Shape := ⟨1, ![512]⟩
abbrev S512x1 : Shape := ⟨2, ![512, 1]⟩

abbrev nBuf : Space → Nat
  | .hbm => 39
  | .vmem => 22
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S2x8192x8x64, .f32⟩
  | .hbm, ⟨3, _⟩ => ⟨S2x8192x2048, .f32⟩
  | .hbm, ⟨4, _⟩ => ⟨S2x8192x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S8x128x128, .f32⟩
  | .hbm, ⟨9, _⟩ => ⟨S8x128, .f32⟩
  | .hbm, ⟨10, _⟩ => ⟨S1024, .f32⟩
  | .hbm, ⟨11, _⟩ => ⟨S1024x4096, .f32⟩
  | .hbm, ⟨12, _⟩ => ⟨S4096x1024, .f32⟩
  | .hbm, ⟨13, _⟩ => ⟨S1024, .f32⟩
  | .hbm, ⟨14, _⟩ => ⟨S2x8192x512, .bf16⟩
  | .hbm, ⟨15, _⟩ => ⟨S16384x512, .bf16⟩
  | .hbm, ⟨16, _⟩ => ⟨S2x8192x512, .bf16⟩
  | .hbm, ⟨17, _⟩ => ⟨S16384x512, .bf16⟩
  | .hbm, ⟨18, _⟩ => ⟨S16384x512, .f32⟩
  | .hbm, ⟨19, _⟩ => ⟨S2x8192x2048, .bf16⟩
  | .hbm, ⟨20, _⟩ => ⟨S16384x2048, .bf16⟩
  | .hbm, ⟨21, _⟩ => ⟨S16384x1024, .f32⟩
  | .hbm, ⟨22, _⟩ => ⟨S512x1024, .bf16⟩
  | .hbm, ⟨23, _⟩ => ⟨S512x1024, .bf16⟩
  | .hbm, ⟨24, _⟩ => ⟨S1024x1024, .bf16⟩
  | .hbm, ⟨25, _⟩ => ⟨S1024x4096, .bf16⟩
  | .hbm, ⟨26, _⟩ => ⟨S4096x1024, .bf16⟩
  | .hbm, ⟨27, _⟩ => ⟨S1x8x1x128x1x128, .f32⟩
  | .hbm, ⟨28, _⟩ => ⟨S1x8x1x128x1x128, .f32⟩
  | .hbm, ⟨29, _⟩ => ⟨S8x128x128, .f32⟩
  | .hbm, ⟨30, _⟩ => ⟨S128x8, .f32⟩
  | .hbm, ⟨31, _⟩ => ⟨S1x128x1x8, .f32⟩
  | .hbm, ⟨32, _⟩ => ⟨S1x128x1x8, .f32⟩
  | .hbm, ⟨33, _⟩ => ⟨S128x8, .f32⟩
  | .hbm, ⟨34, _⟩ => ⟨S128x8x64, .f32⟩
  | .hbm, ⟨35, _⟩ => ⟨S128x512, .f32⟩
  | .hbm, ⟨36, _⟩ => ⟨S1x1024, .f32⟩
  | .hbm, ⟨37, _⟩ => ⟨S1x1024, .f32⟩
  | .hbm, ⟨38, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x2048, .bf16⟩
  | .local _ .vmem, ⟨7, _⟩ => ⟨S512x2048, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S8x128x128, .f32⟩
  | .local _ .vmem, ⟨14, _⟩ => ⟨S128x512, .f32⟩
  | .local _ .vmem, ⟨15, _⟩ => ⟨S1x1024, .f32⟩
  | .local _ .vmem, ⟨16, _⟩ => ⟨S1024x4096, .bf16⟩
  | .local _ .vmem, ⟨17, _⟩ => ⟨S4096x1024, .bf16⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S8x128x128, .bf16⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== FirstReferenceIdeal.lean ====
abbrev S2x8192x512 : Shape := ⟨3, ![2, 8192, 512]⟩
abbrev S2x8192x8x64 : Shape := ⟨4, ![2, 8192, 8, 64]⟩
abbrev S2x8192x2048 : Shape := ⟨3, ![2, 8192, 2048]⟩
abbrev S2x8192x1024 : Shape := ⟨3, ![2, 8192, 1024]⟩
abbrev S512x1024 : Shape := ⟨2, ![512, 1024]⟩
abbrev S1024x1024 : Shape := ⟨2, ![1024, 1024]⟩
abbrev S8x128x128 : Shape := ⟨3, ![8, 128, 128]⟩
abbrev S8x128 : Shape := ⟨2, ![8, 128]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S128x128 : Shape := ⟨2, ![128, 128]⟩
abbrev S1x128x128 : Shape := ⟨3, ![1, 128, 128]⟩
abbrev S2x64x128x8x64 : Shape := ⟨5, ![2, 64, 128, 8, 64]⟩
abbrev S8x2x64x64x128 : Shape := ⟨5, ![8, 2, 64, 64, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S2x8192 : Shape := ⟨2, ![2, 8192]⟩
abbrev S2x8192x1 : Shape := ⟨3, ![2, 8192, 1]⟩
abbrev S1x1x1024 : Shape := ⟨3, ![1, 1, 1024]⟩
abbrev S2x8192x4096 : Shape := ⟨3, ![2, 8192, 4096]⟩
abbrev S16384x1024 : Shape := ⟨2, ![16384, 1024]⟩

abbrev nBuf : Space → Nat
  | .hbm => 74
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S2x8192x8x64, .f32⟩
  | .hbm, ⟨3, _⟩ => ⟨S2x8192x2048, .f32⟩
  | .hbm, ⟨4, _⟩ => ⟨S2x8192x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S8x128x128, .f32⟩
  | .hbm, ⟨9, _⟩ => ⟨S8x128, .f32⟩
  | .hbm, ⟨10, _⟩ => ⟨S1024, .f32⟩
  | .hbm, ⟨11, _⟩ => ⟨S1024x4096, .f32⟩
  | .hbm, ⟨12, _⟩ => ⟨S4096x1024, .f32⟩
  | .hbm, ⟨13, _⟩ => ⟨S1024, .f32⟩
  | .hbm, ⟨14, _⟩ => ⟨S2x8192x1024, .f32⟩
  | .hbm, ⟨15, _⟩ => ⟨S2x8192x1024, .f32⟩
  | .hbm, ⟨16, _⟩ => ⟨S_, .i1⟩
  | .hbm, ⟨17, _⟩ => ⟨S128x128, .i1⟩
  | .hbm, ⟨18, _⟩ => ⟨S128x128, .i32⟩
  | .hbm, ⟨19, _⟩ => ⟨S_, .i32⟩
  | .hbm, ⟨20, _⟩ => ⟨S128x128, .i32⟩
  | .hbm, ⟨21, _⟩ => ⟨S128x128, .i32⟩
  | .hbm, ⟨22, _⟩ => ⟨S128x128, .i32⟩
  | .hbm, ⟨23, _⟩ => ⟨S128x128, .i1⟩
  | .hbm, ⟨24, _⟩ => ⟨S_, .i1⟩
  | .hbm, ⟨25, _⟩ => ⟨S128x128, .i1⟩
  | .hbm, ⟨26, _⟩ => ⟨S128x128, .i1⟩
  | .hbm, ⟨27, _⟩ => ⟨S1x128x128, .i1⟩
  | .hbm, ⟨28, _⟩ => ⟨S_, .f32⟩
  | .hbm, ⟨29, _⟩ => ⟨S_, .f32⟩
  | .hbm, ⟨30, _⟩ => ⟨S8x128x128, .i1⟩
  | .hbm, ⟨31, _⟩ => ⟨S8x128x128, .f32⟩
  | .hbm, ⟨32, _⟩ => ⟨S8x128x128, .f32⟩
  | .hbm, ⟨33, _⟩ => ⟨S2x64x128x8x64, .f32⟩
  | .hbm, ⟨34, _⟩ => ⟨S8x2x64x64x128, .f32⟩
  | .hbm, ⟨35, _⟩ => ⟨S2x64x128x8x64, .f32⟩
  | .hbm, ⟨36, _⟩ => ⟨S128x8, .f32⟩
  | .hbm, ⟨37, _⟩ => ⟨S128x8x1, .f32⟩
  | .hbm, ⟨38, _⟩ => ⟨S1x1x128x8x1, .f32⟩
  | .hbm, ⟨39, _⟩ => ⟨S2x64x128x8x64, .f32⟩
  | .hbm, ⟨40, _⟩ => ⟨S2x64x128x8x64, .f32⟩
  | .hbm, ⟨41, _⟩ => ⟨S2x8192x512, .f32⟩
  | .hbm, ⟨42, _⟩ => ⟨S2x8192x512, .f32⟩
  | .hbm, ⟨43, _⟩ => ⟨S2x8192x1024, .f32⟩
  | .hbm, ⟨44, _⟩ => ⟨S2x8192x1024, .f32⟩
  | .hbm, ⟨45, _⟩ => ⟨S2x8192x1024, .f32⟩
  | .hbm, ⟨46, _⟩ => ⟨S2x8192x1024, .f32⟩
  | .hbm, ⟨47, _⟩ => ⟨S2x8192x1024, .f32⟩
  | .hbm, ⟨48, _⟩ => ⟨S2x8192x1024, .f32⟩
  | .hbm, ⟨49, _⟩ => ⟨S2x8192x1024, .f32⟩
  | .hbm, ⟨50, _⟩ => ⟨S2x8192x1024, .f32⟩
  | .hbm, ⟨51, _⟩ => ⟨S_, .f32⟩
  | .hbm, ⟨52, _⟩ => ⟨S2x8192, .f32⟩
  | .hbm, ⟨53, _⟩ => ⟨S2x8192x1, .f32⟩
  | .hbm, ⟨54, _⟩ => ⟨S_, .f32⟩
  | .hbm, ⟨55, _⟩ => ⟨S2x8192x1, .f32⟩
  | .hbm, ⟨56, _⟩ => ⟨S2x8192x1, .f32⟩
  | .hbm, ⟨57, _⟩ => ⟨S_, .f32⟩
  | .hbm, ⟨58, _⟩ => ⟨S2x8192x1, .f32⟩
  | .hbm, ⟨59, _⟩ => ⟨S2x8192x1, .f32⟩
  | .hbm, ⟨60, _⟩ => ⟨S2x8192x1, .f32⟩
  | .hbm, ⟨61, _⟩ => ⟨S2x8192x1024, .f32⟩
  | .hbm, ⟨62, _⟩ => ⟨S2x8192x1024, .f32⟩
  | .hbm, ⟨63, _⟩ => ⟨S1x1x1024, .f32⟩
  | .hbm, ⟨64, _⟩ => ⟨S2x8192x1024, .f32⟩
  | .hbm, ⟨65, _⟩ => ⟨S2x8192x1024, .f32⟩
  | .hbm, ⟨66, _⟩ => ⟨S2x8192x4096, .f32⟩
  | .hbm, ⟨67, _⟩ => ⟨S_, .f32⟩
  | .hbm, ⟨68, _⟩ => ⟨S2x8192x4096, .f32⟩
  | .hbm, ⟨69, _⟩ => ⟨S2x8192x4096, .f32⟩
  | .hbm, ⟨70, _⟩ => ⟨S2x8192x4096, .f32⟩
  | .hbm, ⟨71, _⟩ => ⟨S2x8192x1024, .f32⟩
  | .hbm, ⟨72, _⟩ => ⟨S2x8192x1024, .f32⟩
  | .hbm, ⟨73, _⟩ => ⟨S16384x1024, .f32⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_0 : Ref sig .tc := ⟨.hbm, 24, rfl⟩
abbrev main_call0_v5 : Ref sig .tc := ⟨.hbm, 25, rfl⟩
abbrev main_v3 : Ref sig .tc := ⟨.hbm, 26, rfl⟩
abbrev main_v4 : Ref sig .tc := ⟨.hbm, 27, rfl⟩
abbrev main_cst : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_0 : Ref sig .tc := ⟨.hbm, 51, rfl⟩
abbrev main_v24 : Ref sig .tc := ⟨.hbm, 52, rfl⟩
abbrev main_v25 : Ref sig .tc := ⟨.hbm, 53, rfl⟩
abbrev main_cst_1 : Ref sig .tc := ⟨.hbm, 54, rfl⟩
abbrev main_v26 : Ref sig .tc := ⟨.hbm, 55, rfl⟩
abbrev main_v27 : Ref sig .tc := ⟨.hbm, 56, rfl⟩
abbrev main_cst_2 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_call2_cst : Ref sig .tc := ⟨.hbm, 67, rfl⟩
abbrev main_call2_v0 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩

abbrev nD : Nat := 1
abbrev τ : Topo := Topo.v7x

variable {F : FTy → Type} [FloatOps F]
-- ==== Proof.Runs.lean ====
module

public import proofs.«01_k».proof.Proof.Gen.KernelIdeal.Frame
public import proofs.«01_k».proof.Proof.Gen.KernelIdeal.Loops
public import Idealize.ShloMosaic.Lib.VecWindow
public import Idealize.ShloMosaic.Lib.Pipeline.Value
public import Idealize.ShloMosaic.Lib.ValueIdx

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

abbrev UU (nD : Nat) (τ : Topo) : Type := UR sig nD τ
abbrev 𝒱₀ : Variants := Variants.none
local notation "𝕄" => MT nD τ sig Unit (Elt F) ℕ (UR sig nD τ) ℕ

/-- The fourteen arrays one grid point works on: the five windows (queries, keys, values, offsets, result) and the
    nine scratch arrays (stacked keys, stacked values, the strictly lower triangle, result accumulator, carry,
    two score buffers, two weight buffers). -/
structure Mems where
  a3 : Memref sig .tc .vmem S1x1024x128 .f32
  a4 : Memref sig .tc .vmem S1x8192x128 .bf16
  a5 : Memref sig .tc .vmem S1x8192x128 .bf16
  a6 : Memref sig .tc .vmem S1x2x128 .f32
  a7 : Memref sig .tc .vmem S1x1024x128 .bf16
  a8 : Memref sig .tc .vmem S32x512x256 .bf16
  a9 : Memref sig .tc .vmem S32x512x128 .bf16
  a10 : Memref sig .tc .vmem S256x256 .bf16
  a11 : Memref sig .tc .vmem S1024x128 .f32
  a12 : Memref sig .tc .vmem S1024x256 .f32
  a13 : Memref sig .tc .vmem S1024x512 .f32
  a14 : Memref sig .tc .vmem S1024x512 .f32
  a15 : Memref sig .tc .vmem S1024x512 .bf16
  a16 : Memref sig .tc .vmem S1024x512 .bf16
  h3 : a3.IsWhole
  h4 : a4.IsWhole
  h5 : a5.IsWhole
  h6 : a6.IsWhole
  h7 : a7.IsWhole
  h8 : a8.IsWhole
  h9 : a9.IsWhole
  h10 : a10.IsWhole
  h11 : a11.IsWhole
  h12 : a12.IsWhole
  h13 : a13.IsWhole
  h14 : a14.IsWhole
  h15 : a15.IsWhole
  h16 : a16.IsWhole

/-- What the fourteen arrays hold. -/
structure St (F : FTy → Type) where
  x3 : Vec F S1x1024x128 .f32
  x4 : Vec F S1x8192x128 .bf16
  x5 : Vec F S1x8192x128 .bf16
  x6 : Vec F S1x2x128 .f32
  x7 : Vec F S1x1024x128 .bf16
  x8 : Vec F S32x512x256 .bf16
  x9 : Vec F S32x512x128 .bf16
  x10 : Vec F S256x256 .bf16
  x11 : Vec F S1024x128 .f32
  x12 : Vec F S1024x256 .f32
  x13 : Vec F S1024x512 .f32
  x14 : Vec F S1024x512 .f32
  x15 : Vec F S1024x512 .bf16
  x16 : Vec F S1024x512 .bf16

/-- The fourteen arrays, holding the contents `s`. -/
def held (c : Dev nD) (M : Mems) (s : St F) : sProp 𝕄 :=
  iprop(owns (c : Thread nD τ) M.a3 fullShare s.x3 ∗ owns (c : Thread nD τ) M.a4 fullShare s.x4 ∗ owns (c : Thread nD τ) M.a5 fullShare s.x5 ∗ owns (c : Thread nD τ) M.a6 fullShare s.x6 ∗ owns (c : Thread nD τ) M.a7 fullShare s.x7 ∗ owns (c : Thread nD τ) M.a8 fullShare s.x8 ∗ owns (c : Thread nD τ) M.a9 fullShare s.x9 ∗ owns (c : Thread nD τ) M.a10 fullShare s.x10 ∗ owns (c : Thread nD τ) M.a11 fullShare s.x11 ∗ owns (c : Thread nD τ) M.a12 fullShare s.x12 ∗ owns (c : Thread nD τ) M.a13 fullShare s.x13 ∗ owns (c : Thread nD τ) M.a14 fullShare s.x14 ∗ owns (c : Thread nD τ) M.a15 fullShare s.x15 ∗ owns (c : Thread nD τ) M.a16 fullShare s.x16)

/-- Running `p` on the contents `s` ends at a result and contents related by `Q`. -/
def Runs (c : Dev nD) (M : Mems) {α : Type} (p : Prog (TpuEff nD τ sig (Elt F) Λ₀ .tc) α) (s : St F) (Q : α → St F → Prop) : Prop :=
  held c M s ⊢ wp frame (wpE (defs₀ (F := F)) 𝒱₀ (c : Thread nD τ) none) Set.univ p (fun r => iprop(∃ s' : St F, ⌜Q r s'⌝ ∗ held c M s'))

variable {c : Dev nD} {M : Mems} {α β : Type} {s : St F}

theorem owns_elim (c : Thread nD τ) {sp : Space} {sh : Shape} {e : EltTy} (m : Memref sig c.2.kind sp sh e) (q : PosShare TreeShare) (X : sh.Idx → Elt F e) :
    (owns c m q X : sProp 𝕄) ⊢ iprop(∃ f, ⌜m.view.read (Elt F) f = X⌝ ∗ (m.view.loc c ↦[m.view.set]{q} f)) := by
  unfold owns; iintro H; iexact H

theorem owns_back (c : Thread nD τ) {sp : Space} {sh : Shape} {e : EltTy} (m : Memref sig c.2.kind sp sh e) (q : PosShare TreeShare) (X : sh.Idx → Elt F e)
    {f : m.view.ty.Contents (Elt F)} (h : m.view.read (Elt F) f = X) : (m.view.loc c ↦[m.view.set]{q} f) ⊢ (owns c m q X : sProp 𝕄) := by
  subst h; exact owns_intro c m q f

theorem access_setOn_subset {κ : Kind} {sp : Space} {sh : Shape} {e : EltTy} (m : Memref sig κ sp sh e) (r : Rect sh) (K : Finset r.shape.Idx) :
    (m.access r).setOn K ⊆ m.view.set := by
  refine (View.setOn_subset_set _ K).trans ?_
  rw [View.set_slice]; exact View.setOn_subset_set _ _

/-- Storing `w` at a rectangle of a memref that reads `X` leaves it reading `X` with the rectangle replaced. -/
theorem read_access_write {κ : Kind} {sp : Space} {sh : Shape} {e : EltTy} (m : Memref sig κ sp sh e) {off size : Fin sh.rank → ℕ}
    (inb : ∀ a, off a + size a ≤ sh.size a) (w : (Rect.unit off size inb).shape.Idx → Elt F e) {f : m.view.ty.Contents (Elt F)} {X : sh.Idx → Elt F e}
    (h : m.view.read (Elt F) f = X) :
    m.view.read (Elt F) ((m.access (Rect.unit off size inb)).write (Elt F) f w Finset.univ) = VecWindow.put X off size w := by
  subst h
  exact View.read_writes_cons_put m.view f inb w [] rfl

/-- A load through a rectangle of a memref that reads `X`. -/
theorem wp_load_owns (c : Dev nD) {sh : Shape} {e : EltTy} (m : Memref sig .tc .vmem sh e) {β : Type} {r : Rect sh} {hl : m.view.LoadsAt r.toLoadRect}
    {k : (r.shape.Idx → Elt F e) → Prog (TpuEff nD τ sig (Elt F) Λ₀ .tc) β} {X : sh.Idx → Elt F e} {Q : β → sProp 𝕄} :
    (owns (c : Thread nD τ) m fullShare X : sProp 𝕄)
      ⊢ iprop((owns (c : Thread nD τ) m fullShare X -∗ wp frame (wpE (defs₀ (F := F)) 𝒱₀ (c : Thread nD τ) none) Set.univ (k (View.ld X r)) Q)
        -∗ wp frame (wpE (defs₀ (F := F)) 𝒱₀ (c : Thread nD τ) none) Set.univ (.op (.load m r.toLoadRect hl) k) Q) := by
  iintro H
  ihave H := (owns_elim (c : Thread nD τ) m fullShare X) $$ H
  icases H with ⟨%f, %hf, H⟩
  iintro K
  iapply (wp_load 𝒱₀ (c : Thread nD τ) none Set.univ (View.setOn_subset_set _ _)) $$ H
  iintro H
  rw [View.readAt_eq_ld, hf]
  iapply K
  iapply (owns_back (c : Thread nD τ) m fullShare X hf) $$ H

/-- An unmasked store through a unit-stride rectangle of a memref that reads `X`. -/
theorem wp_store_owns (c : Dev nD) {sh : Shape} {e : EltTy} (m : Memref sig .tc .vmem sh e) {β : Type} {off size : Fin sh.rank → ℕ}
    {inb : ∀ a, off a + size a ≤ sh.size a} {w : (Rect.unit off size inb).shape.Idx → Elt F e}
    {hx : (m.access (Rect.unit off size inb)).Stores Finset.univ} {hm : Finset.univ = Finset.univ ∨ ∀ a, (Rect.unit off size inb).stride a = 1}
    {k : PUnit → Prog (TpuEff nD τ sig (Elt F) Λ₀ .tc) β} {X : sh.Idx → Elt F e} {Q : β → sProp 𝕄} :
    (owns (c : Thread nD τ) m fullShare X : sProp 𝕄)
      ⊢ iprop((owns (c : Thread nD τ) m fullShare (VecWindow.put X off size w) -∗ wp frame (wpE (defs₀ (F := F)) 𝒱₀ (c : Thread nD τ) none) Set.univ (k ⟨⟩) Q)
        -∗ wp frame (wpE (defs₀ (F := F)) 𝒱₀ (c : Thread nD τ) none) Set.univ (.op (.store m (Rect.unit off size inb) w Finset.univ hx hm) k) Q) := by
  iintro H
  ihave H := (owns_elim (c : Thread nD τ) m fullShare X) $$ H
  icases H with ⟨%f, %hf, H⟩
  iintro K
  iapply (wp_store (r := Rect.unit off size inb) 𝒱₀ (c : Thread nD τ) none Set.univ (access_setOn_subset m _ _)) $$ H
  iintro H
  iapply K
  iapply (owns_back (c : Thread nD τ) m fullShare (VecWindow.put X off size w) (read_access_write m inb w hf)) $$ H

theorem zeros2 : (![0, 0] : Fin 2 → ℕ) = fun _ => 0 := by decide
theorem zeros3 : (![0, 0, 0] : Fin 3 → ℕ) = fun _ => 0 := by decide

/-- Replacing the whole array leaves the new one. -/
theorem put_full {sh : Shape} {γ : Type} {X : sh.Idx → γ} {off : Fin sh.rank → ℕ} (h : off = fun _ => 0) (w : sh.Idx → γ) : VecWindow.put X off sh.size w = w := by
  subst h
  funext y
  unfold VecWindow.put
  rw [dif_pos (fun a => ⟨Nat.zero_le _, by simp⟩)]
  refine congrArg w (funext fun a => Fin.ext ?_)
  simp [Rect.unitLocal]

theorem Runs.pure {a : α} {Q : α → St F → Prop} (h : Q a s) : Runs c M (Pure.pure a) s Q := by
  unfold Runs
  refine BIBase.Entails.trans ?_ (le_wp_ret _ _ _ a _)
  iintro H
  iexists s
  isplitr
  · ipureintro; exact h
  · iexact H

theorem Runs.bind {p : Prog (TpuEff nD τ sig (Elt F) Λ₀ .tc) α} {k : α → Prog (TpuEff nD τ sig (Elt F) Λ₀ .tc) β} {Q : β → St F → Prop}
    (h : Runs c M p s (fun r s' => Runs c M (k r) s' Q)) : Runs c M (p >>= k) s Q := by
  unfold Runs at h ⊢
  rw [wp_bind]
  refine h.trans (wp_mono _ _ _ fun r => ?_)
  iintro ⟨%s', %hk, H⟩
  iapply (show held c M s' ⊢ _ from hk) $$ H

theorem Runs.conseq {p : Prog (TpuEff nD τ sig (Elt F) Λ₀ .tc) α} {Q Q' : α → St F → Prop}
    (h : Runs c M p s Q) (hQ : ∀ r s', Q r s' → Q' r s') : Runs c M p s Q' := by
  unfold Runs at h ⊢
  refine h.trans (wp_mono _ _ _ fun r => ?_)
  iintro ⟨%s', %hk, H⟩
  iexists s'
  isplitr
  · ipureintro; exact hQ r s' hk
  · iexact H

theorem Runs.load3 {off size : Fin (S1x1024x128).rank → ℕ} {inb : ∀ a, off a + size a ≤ (S1x1024x128).size a} {hl : M.a3.view.LoadsAt (Rect.unit (s := S1x1024x128) off size inb).toLoadRect}
    {k : ((Rect.unit (s := S1x1024x128) off size inb).shape.Idx → Elt F .f32) → Prog (TpuEff nD τ sig (Elt F) Λ₀ .tc) β} {Q : β → St F → Prop}
    (h : Runs c M (k (View.ld s.x3 (Rect.unit (s := S1x1024x128) off size inb))) s Q) :
    Runs c M (Prog.lift (.load M.a3 (Rect.unit (s := S1x1024x128) off size inb).toLoadRect hl) >>= k) s Q := by
  unfold Runs at h ⊢
  unfold held at *
  iintro ⟨H3, H4, H5, H6, H7, H8, H9, H10, H11, H12, H13, H14, H15, H16⟩
  iapply (wp_load_owns c M.a3) $$ H3
  iintro H3
  iapply h
  iframe

theorem Runs.load3w {inb : ∀ a, (![0, 0, 0] : Fin (S1x1024x128).rank → ℕ) a + (S1x1024x128).size a ≤ (S1x1024x128).size a} {hl : M.a3.view.LoadsAt (Rect.unit (s := S1x1024x128) ![0, 0, 0] (S1x1024x128).size inb).toLoadRect}
    {k : ((Rect.unit (s := S1x1024x128) ![0, 0, 0] (S1x1024x128).size inb).shape.Idx → Elt F .f32) → Prog (TpuEff nD τ sig (Elt F) Λ₀ .tc) β} {Q : β → St F → Prop}
    (h : Runs c M (k s.x3) s Q) :
    Runs c M (Prog.lift (.load M.a3 (Rect.unit (s := S1x1024x128) ![0, 0, 0] (S1x1024x128).size inb).toLoadRect hl) >>= k) s Q := by
  refine Runs.load3 ?_
  rw [View.ld_unit_zero zeros3]
  exact h

theorem Runs.load4 {off size : Fin (S1x8192x128).rank → ℕ} {inb : ∀ a, off a + size a ≤ (S1x8192x128).size a} {hl : M.a4.view.LoadsAt (Rect.unit (s := S1x8192x128) off size inb).toLoadRect}
    {k : ((Rect.unit (s := S1x8192x128) off size inb).shape.Idx → Elt F .bf16) → Prog (TpuEff nD τ sig (Elt F) Λ₀ .tc) β} {Q : β → St F → Prop}
    (h : Runs c M (k (View.ld s.x4 (Rect.unit (s := S1x8192x128) off size inb))) s Q) :
    Runs c M (Prog.lift (.load M.a4 (Rect.unit (s := S1x8192x128) off size inb).toLoadRect hl) >>= k) s Q := by
  unfold Runs at h ⊢
  unfold held at *
  iintro ⟨H3, H4, H5, H6, H7, H8, H9, H10, H11, H12, H13, H14, H15, H16⟩
  iapply (wp_load_owns c M.a4) $$ H4
  iintro H4
  iapply h
  iframe

theorem Runs.load4w {inb : ∀ a, (![0, 0, 0] : Fin (S1x8192x128).rank → ℕ) a + (S1x8192x128).size a ≤ (S1x8192x128).size a} {hl : M.a4.view.LoadsAt (Rect.unit (s := S1x8192x128) ![0, 0, 0] (S1x8192x128).size inb).toLoadRect}
    {k : ((Rect.unit (s := S1x8192x128) ![0, 0, 0] (S1x8192x128).size inb).shape.Idx → Elt F .bf16) → Prog (TpuEff nD τ sig (Elt F) Λ₀ .tc) β} {Q : β → St F → Prop}
    (h : Runs c M (k s.x4) s Q) :
    Runs c M (Prog.lift (.load M.a4 (Rect.unit (s := S1x8192x128) ![0, 0, 0] (S1x8192x128).size inb).toLoadRect hl) >>= k) s Q := by
  refine Runs.load4 ?_
  rw [View.ld_unit_zero zeros3]
  exact h

theorem Runs.load5 {off size : Fin (S1x8192x128).rank → ℕ} {inb : ∀ a, off a + size a ≤ (S1x8192x128).size a} {hl : M.a5.view.LoadsAt (Rect.unit (s := S1x8192x128) off size inb).toLoadRect}
    {k : ((Rect.unit (s := S1x8192x128) off size inb).shape.Idx → Elt F .bf16) → Prog (TpuEff nD τ sig (Elt F) Λ₀ .tc) β} {Q : β → St F → Prop}
    (h : Runs c M (k (View.ld s.x5 (Rect.unit (s := S1x8192x128) off size inb))) s Q) :
    Runs c M (Prog.lift (.load M.a5 (Rect.unit (s := S1x8192x128) off size inb).toLoadRect hl) >>= k) s Q := by
  unfold Runs at h ⊢
  unfold held at *
  iintro ⟨H3, H4, H5, H6, H7, H8, H9, H10, H11, H12, H13, H14, H15, H16⟩
  iapply (wp_load_owns c M.a5) $$ H5
  iintro H5
  iapply h
  iframe

theorem Runs.load5w {inb : ∀ a, (![0, 0, 0] : Fin (S1x8192x128).rank → ℕ) a + (S1x8192x128).size a ≤ (S1x8192x128).size a} {hl : M.a5.view.LoadsAt (Rect.unit (s := S1x8192x128) ![0, 0, 0] (S1x8192x128).size inb).toLoadRect}
    {k : ((Rect.unit (s := S1x8192x128) ![0, 0, 0] (S1x8192x128).size inb).shape.Idx → Elt F .bf16) → Prog (TpuEff nD τ sig (Elt F) Λ₀ .tc) β} {Q : β → St F → Prop}
    (h : Runs c M (k s.x5) s Q) :
    Runs c M (Prog.lift (.load M.a5 (Rect.unit (s := S1x8192x128) ![0, 0, 0] (S1x8192x128).size inb).toLoadRect hl) >>= k) s Q := by
  refine Runs.load5 ?_
  rw [View.ld_unit_zero zeros3]
  exact h

theorem Runs.load6 {off size : Fin (S1x2x128).rank → ℕ} {inb : ∀ a, off a + size a ≤ (S1x2x128).size a} {hl : M.a6.view.LoadsAt (Rect.unit (s := S1x2x128) off size inb).toLoadRect}
    {k : ((Rect.unit (s := S1x2x128) off size inb).shape.Idx → Elt F .f32) → Prog (TpuEff nD τ sig (Elt F) Λ₀ .tc) β} {Q : β → St F → Prop}
    (h : Runs c M (k (View.ld s.x6 (Rect.unit (s := S1x2x128) off size inb))) s Q) :
    Runs c M (Prog.lift (.load M.a6 (Rect.unit (s := S1x2x128) off size inb).toLoadRect hl) >>= k) s Q := by
  unfold Runs at h ⊢
  unfold held at *
  iintro ⟨H3, H4, H5, H6, H7, H8, H9, H10, H11, H12, H13, H14, H15, H16⟩
  iapply (wp_load_owns c M.a6) $$ H6
  iintro H6
  iapply h
  iframe

theorem Runs.load6w {inb : ∀ a, (![0, 0, 0] : Fin (S1x2x128).rank → ℕ) a + (S1x2x128).size a ≤ (S1x2x128).size a} {hl : M.a6.view.LoadsAt (Rect.unit (s := S1x2x128) ![0, 0, 0] (S1x2x128).size inb).toLoadRect}
    {k : ((Rect.unit (s := S1x2x128) ![0, 0, 0] (S1x2x128).size inb).shape.Idx → Elt F .f32) → Prog (TpuEff nD τ sig (Elt F) Λ₀ .tc) β} {Q : β → St F → Prop}
    (h : Runs c M (k s.x6) s Q) :
    Runs c M (Prog.lift (.load M.a6 (Rect.unit (s := S1x2x128) ![0, 0, 0] (S1x2x128).size inb).toLoadRect hl) >>= k) s Q := by
  refine Runs.load6 ?_
  rw [View.ld_unit_zero zeros3]
  exact h

theorem Runs.load7 {off size : Fin (S1x1024x128).rank → ℕ} {inb : ∀ a, off a + size a ≤ (S1x1024x128).size a} {hl : M.a7.view.LoadsAt (Rect.unit (s := S1x1024x128) off size inb).toLoadRect}
    {k : ((Rect.unit (s := S1x1024x128) off size inb).shape.Idx → Elt F .bf16) → Prog (TpuEff nD τ sig (Elt F) Λ₀ .tc) β} {Q : β → St F → Prop}
    (h : Runs c M (k (View.ld s.x7 (Rect.unit (s := S1x1024x128) off size inb))) s Q) :
    Runs c M (Prog.lift (.load M.a7 (Rect.unit (s := S1x1024x128) off size inb).toLoadRect hl) >>= k) s Q := by
  unfold Runs at h ⊢
  unfold held at *
  iintro ⟨H3, H4, H5, H6, H7, H8, H9, H10, H11, H12, H13, H14, H15, H16⟩
  iapply (wp_load_owns c M.a7) $$ H7
  iintro H7
  iapply h
  iframe

theorem Runs.load7w {inb : ∀ a, (![0, 0, 0] : Fin (S1x1024x128).rank → ℕ) a + (S1x1024x128).size a ≤ (S1x1024x128).size a} {hl : M.a7.view.LoadsAt (Rect.unit (s := S1x1024x128) ![0, 0, 0] (S1x1024x128).size inb).toLoadRect}
    {k : ((Rect.unit (s := S1x1024x128) ![0, 0, 0] (S1x1024x128).size inb).shape.Idx → Elt F .bf16) → Prog (TpuEff nD τ sig (Elt F) Λ₀ .tc) β} {Q : β → St F → Prop}
    (h : Runs c M (k s.x7) s Q) :
    Runs c M (Prog.lift (.load M.a7 (Rect.unit (s := S1x1024x128) ![0, 0, 0] (S1x1024x128).size inb).toLoadRect hl) >>= k) s Q := by
  refine Runs.load7 ?_
  rw [View.ld_unit_zero zeros3]
  exact h

theorem Runs.store7 {off size : Fin (S1x1024x128).rank → ℕ} {inb : ∀ a, off a + size a ≤ (S1x1024x128).size a} {w : (Rect.unit (s := S1x1024x128) off size inb).shape.Idx → Elt F .bf16}
    {hx : (M.a7.access (Rect.unit (s := S1x1024x128) off size inb)).Stores Finset.univ} {hm : Finset.univ = Finset.univ ∨ ∀ a, (Rect.unit (s := S1x1024x128) off size inb).stride a = 1}
    {k : PUnit → Prog (TpuEff nD τ sig (Elt F) Λ₀ .tc) β} {Q : β → St F → Prop}
    (h : Runs c M (k ⟨⟩) {s with x7 := VecWindow.put s.x7 off size w} Q) :
    Runs c M (Prog.lift (.store M.a7 (Rect.unit (s := S1x1024x128) off size inb) w Finset.univ hx hm) >>= k) s Q := by
  unfold Runs at h ⊢
  unfold held at *
  iintro ⟨H3, H4, H5, H6, H7, H8, H9, H10, H11, H12, H13, H14, H15, H16⟩
  iapply (wp_store_owns c M.a7) $$ H7
  iintro H7
  iapply h
  iframe

theorem Runs.store7w {inb : ∀ a, (![0, 0, 0] : Fin (S1x1024x128).rank → ℕ) a + (S1x1024x128).size a ≤ (S1x1024x128).size a} {w : (Rect.unit (s := S1x1024x128) ![0, 0, 0] (S1x1024x128).size inb).shape.Idx → Elt F .bf16}
    {hx : (M.a7.access (Rect.unit (s := S1x1024x128) ![0, 0, 0] (S1x1024x128).size inb)).Stores Finset.univ} {hm : Finset.univ = Finset.univ ∨ ∀ a, (Rect.unit (s := S1x1024x128) ![0, 0, 0] (S1x1024x128).size inb).stride a = 1}
    {k : PUnit → Prog (TpuEff nD τ sig (Elt F) Λ₀ .tc) β} {Q : β → St F → Prop}
    (h : Runs c M (k ⟨⟩) {s with x7 := w} Q) :
    Runs c M (Prog.lift (.store M.a7 (Rect.unit (s := S1x1024x128) ![0, 0, 0] (S1x1024x128).size inb) w Finset.univ hx hm) >>= k) s Q := by
  refine Runs.store7 ?_
  rw [put_full zeros3]
  exact h

theorem Runs.load8 {off size : Fin (S32x512x256).rank → ℕ} {inb : ∀ a, off a + size a ≤ (S32x512x256).size a} {hl : M.a8.view.LoadsAt (Rect.unit (s := S32x512x256) off size inb).toLoadRect}
    {k : ((Rect.unit (s := S32x512x256) off size inb).shape.Idx → Elt F .bf16) → Prog (TpuEff nD τ sig (Elt F) Λ₀ .tc) β} {Q : β → St F → Prop}
    (h : Runs c M (k (View.ld s.x8 (Rect.unit (s := S32x512x256) off size inb))) s Q) :
    Runs c M (Prog.lift (.load M.a8 (Rect.unit (s := S32x512x256) off size inb).toLoadRect hl) >>= k) s Q := by
  unfold Runs at h ⊢
  unfold held at *
  iintro ⟨H3, H4, H5, H6, H7, H8, H9, H10, H11, H12, H13, H14, H15, H16⟩
  iapply (wp_load_owns c M.a8) $$ H8
  iintro H8
  iapply h
  iframe

theorem Runs.load8w {inb : ∀ a, (![0, 0, 0] : Fin (S32x512x256).rank → ℕ) a + (S32x512x256).size a ≤ (S32x512x256).size a} {hl : M.a8.view.LoadsAt (Rect.unit (s := S32x512x256) ![0, 0, 0] (S32x512x256).size inb).toLoadRect}
    {k : ((Rect.unit (s := S32x512x256) ![0, 0, 0] (S32x512x256).size inb).shape.Idx → Elt F .bf16) → Prog (TpuEff nD τ sig (Elt F) Λ₀ .tc) β} {Q : β → St F → Prop}
    (h : Runs c M (k s.x8) s Q) :
    Runs c M (Prog.lift (.load M.a8 (Rect.unit (s := S32x512x256) ![0, 0, 0] (S32x512x256).size inb).toLoadRect hl) >>= k) s Q := by
  refine Runs.load8 ?_
  rw [View.ld_unit_zero zeros3]
  exact h

theorem Runs.store8 {off size : Fin (S32x512x256).rank → ℕ} {inb : ∀ a, off a + size a ≤ (S32x512x256).size a} {w : (Rect.unit (s := S32x512x256) off size inb).shape.Idx → Elt F .bf16}
    {hx : (M.a8.access (Rect.unit (s := S32x512x256) off size inb)).Stores Finset.univ} {hm : Finset.univ = Finset.univ ∨ ∀ a, (Rect.unit (s := S32x512x256) off size inb).stride a = 1}
    {k : PUnit → Prog (TpuEff nD τ sig (Elt F) Λ₀ .tc) β} {Q : β → St F → Prop}
    (h : Runs c M (k ⟨⟩) {s with x8 := VecWindow.put s.x8 off size w} Q) :
    Runs c M (Prog.lift (.store M.a8 (Rect.unit (s := S32x512x256) off size inb) w Finset.univ hx hm) >>= k) s Q := by
  unfold Runs at h ⊢
  unfold held at *
  iintro ⟨H3, H4, H5, H6, H7, H8, H9, H10, H11, H12, H13, H14, H15, H16⟩
  iapply (wp_store_owns c M.a8) $$ H8
  iintro H8
  iapply h
  iframe

theorem Runs.store8w {inb : ∀ a, (![0, 0, 0] : Fin (S32x512x256).rank → ℕ) a + (S32x512x256).size a ≤ (S32x512x256).size a} {w : (Rect.unit (s := S32x512x256) ![0, 0, 0] (S32x512x256).size inb).shape.Idx → Elt F .bf16}
    {hx : (M.a8.access (Rect.unit (s := S32x512x256) ![0, 0, 0] (S32x512x256).size inb)).Stores Finset.univ} {hm : Finset.univ = Finset.univ ∨ ∀ a, (Rect.unit (s := S32x512x256) ![0, 0, 0] (S32x512x256).size inb).stride a = 1}
    {k : PUnit → Prog (TpuEff nD τ sig (Elt F) Λ₀ .tc) β} {Q : β → St F → Prop}
    (h : Runs c M (k ⟨⟩) {s with x8 := w} Q) :
    Runs c M (Prog.lift (.store M.a8 (Rect.unit (s := S32x512x256) ![0, 0, 0] (S32x512x256).size inb) w Finset.univ hx hm) >>= k) s Q := by
  refine Runs.store8 ?_
  rw [put_full zeros3]
  exact h

theorem Runs.load9 {off size : Fin (S32x512x128).rank → ℕ} {inb : ∀ a, off a + size a ≤ (S32x512x128).size a} {hl : M.a9.view.LoadsAt (Rect.unit (s := S32x512x128) off size inb).toLoadRect}
    {k : ((Rect.unit (s := S32x512x128) off size inb).shape.Idx → Elt F .bf16) → Prog (TpuEff nD τ sig (Elt F) Λ₀ .tc) β} {Q : β → St F → Prop}
    (h : Runs c M (k (View.ld s.x9 (Rect.unit (s := S32x512x128) off size inb))) s Q) :
    Runs c M (Prog.lift (.load M.a9 (Rect.unit (s := S32x512x128) off size inb).toLoadRect hl) >>= k) s Q := by
  unfold Runs at h ⊢
  unfold held at *
  iintro ⟨H3, H4, H5, H6, H7, H8, H9, H10, H11, H12, H13, H14, H15, H16⟩
  iapply (wp_load_owns c M.a9) $$ H9
  iintro H9
  iapply h
  iframe

theorem Runs.load9w {inb : ∀ a, (![0, 0, 0] : Fin (S32x512x128).rank → ℕ) a + (S32x512x128).size a ≤ (S32x512x128).size a} {hl : M.a9.view.LoadsAt (Rect.unit (s := S32x512x128) ![0, 0, 0] (S32x512x128).size inb).toLoadRect}
    {k : ((Rect.unit (s := S32x512x128) ![0, 0, 0] (S32x512x128).size inb).shape.Idx → Elt F .bf16) → Prog (TpuEff nD τ sig (Elt F) Λ₀ .tc) β} {Q : β → St F → Prop}
    (h : Runs c M (k s.x9) s Q) :
    Runs c M (Prog.lift (.load M.a9 (Rect.unit (s := S32x512x128) ![0, 0, 0] (S32x512x128).size inb).toLoadRect hl) >>= k) s Q := by
  refine Runs.load9 ?_
  rw [View.ld_unit_zero zeros3]
  exact h

theorem Runs.store9 {off size : Fin (S32x512x128).rank → ℕ} {inb : ∀ a, off a + size a ≤ (S32x512x128).size a} {w : (Rect.unit (s := S32x512x128) off size inb).shape.Idx → Elt F .bf16}
    {hx : (M.a9.access (Rect.unit (s := S32x512x128) off size inb)).Stores Finset.univ} {hm : Finset.univ = Finset.univ ∨ ∀ a, (Rect.unit (s := S32x512x128) off size inb).stride a = 1}
    {k : PUnit → Prog (TpuEff nD τ sig (Elt F) Λ₀ .tc) β} {Q : β → St F → Prop}
    (h : Runs c M (k ⟨⟩) {s with x9 := VecWindow.put s.x9 off size w} Q) :
    Runs c M (Prog.lift (.store M.a9 (Rect.unit (s := S32x512x128) off size inb) w Finset.univ hx hm) >>= k) s Q := by
  unfold Runs at h ⊢
  unfold held at *
  iintro ⟨H3, H4, H5, H6, H7, H8, H9, H10, H11, H12, H13, H14, H15, H16⟩
  iapply (wp_store_owns c M.a9) $$ H9
  iintro H9
  iapply h
  iframe

theorem Runs.store9w {inb : ∀ a, (![0, 0, 0] : Fin (S32x512x128).rank → ℕ) a + (S32x512x128).size a ≤ (S32x512x128).size a} {w : (Rect.unit (s := S32x512x128) ![0, 0, 0] (S32x512x128).size inb).shape.Idx → Elt F .bf16}
    {hx : (M.a9.access (Rect.unit (s := S32x512x128) ![0, 0, 0] (S32x512x128).size inb)).Stores Finset.univ} {hm : Finset.univ = Finset.univ ∨ ∀ a, (Rect.unit (s := S32x512x128) ![0, 0, 0] (S32x512x128).size inb).stride a = 1}
    {k : PUnit → Prog (TpuEff nD τ sig (Elt F) Λ₀ .tc) β} {Q : β → St F → Prop}
    (h : Runs c M (k ⟨⟩) {s with x9 := w} Q) :
    Runs c M (Prog.lift (.store M.a9 (Rect.unit (s := S32x512x128) ![0, 0, 0] (S32x512x128).size inb) w Finset.univ hx hm) >>= k) s Q := by
  refine Runs.store9 ?_
  rw [put_full zeros3]
  exact h

theorem Runs.load10 {off size : Fin (S256x256).rank → ℕ} {inb : ∀ a, off a + size a ≤ (S256x256).size a} {hl : M.a10.view.LoadsAt (Rect.unit (s := S256x256) off size inb).toLoadRect}
    {k : ((Rect.unit (s := S256x256) off size inb).shape.Idx → Elt F .bf16) → Prog (TpuEff nD τ sig (Elt F) Λ₀ .tc) β} {Q : β → St F → Prop}
    (h : Runs c M (k (View.ld s.x10 (Rect.unit (s := S256x256) off size inb))) s Q) :
    Runs c M (Prog.lift (.load M.a10 (Rect.unit (s := S256x256) off size inb).toLoadRect hl) >>= k) s Q := by
  unfold Runs at h ⊢
  unfold held at *
  iintro ⟨H3, H4, H5, H6, H7, H8, H9, H10, H11, H12, H13, H14, H15, H16⟩
  iapply (wp_load_owns c M.a10) $$ H10
  iintro H10
  iapply h
  iframe

theorem Runs.load10w {inb : ∀ a, (![0, 0] : Fin (S256x256).rank → ℕ) a + (S256x256).size a ≤ (S256x256).size a} {hl : M.a10.view.LoadsAt (Rect.unit (s := S256x256) ![0, 0] (S256x256).size inb).toLoadRect}
    {k : ((Rect.unit (s := S256x256) ![0, 0] (S256x256).size inb).shape.Idx → Elt F .bf16) → Prog (TpuEff nD τ sig (Elt F) Λ₀ .tc) β} {Q : β → St F → Prop}
    (h : Runs c M (k s.x10) s Q) :
    Runs c M (Prog.lift (.load M.a10 (Rect.unit (s := S256x256) ![0, 0] (S256x256).size inb).toLoadRect hl) >>= k) s Q := by
  refine Runs.load10 ?_
  rw [View.ld_unit_zero zeros2]
  exact h

theorem Runs.store10 {off size : Fin (S256x256).rank → ℕ} {inb : ∀ a, off a + size a ≤ (S256x256).size a} {w : (Rect.unit (s := S256x256) off size inb).shape.Idx → Elt F .bf16}
    {hx : (M.a10.access (Rect.unit (s := S256x256) off size inb)).Stores Finset.univ} {hm : Finset.univ = Finset.univ ∨ ∀ a, (Rect.unit (s := S256x256) off size inb).stride a = 1}
    {k : PUnit → Prog (TpuEff nD τ sig (Elt F) Λ₀ .tc) β} {Q : β → St F → Prop}
    (h : Runs c M (k ⟨⟩) {s with x10 := VecWindow.put s.x10 off size w} Q) :
    Runs c M (Prog.lift (.store M.a10 (Rect.unit (s := S256x256) off size inb) w Finset.univ hx hm) >>= k) s Q := by
  unfold Runs at h ⊢
  unfold held at *
  iintro ⟨H3, H4, H5, H6, H7, H8, H9, H10, H11, H12, H13, H14, H15, H16⟩
  iapply (wp_store_owns c M.a10) $$ H10
  iintro H10
  iapply h
  iframe

theorem Runs.store10w {inb : ∀ a, (![0, 0] : Fin (S256x256).rank → ℕ) a + (S256x256).size a ≤ (S256x256).size a} {w : (Rect.unit (s := S256x256) ![0, 0] (S256x256).size inb).shape.Idx → Elt F .bf16}
    {hx : (M.a10.access (Rect.unit (s := S256x256) ![0, 0] (S256x256).size inb)).Stores Finset.univ} {hm : Finset.univ = Finset.univ ∨ ∀ a, (Rect.unit (s := S256x256) ![0, 0] (S256x256).size inb).stride a = 1}
    {k : PUnit → Prog (TpuEff nD τ sig (Elt F) Λ₀ .tc) β} {Q : β → St F → Prop}
    (h : Runs c M (k ⟨⟩) {s with x10 := w} Q) :
    Runs c M (Prog.lift (.store M.a10 (Rect.unit (s := S256x256) ![0, 0] (S256x256).size inb) w Finset.univ hx hm) >>= k) s Q := by
  refine Runs.store10 ?_
  rw [put_full zeros2]
  exact h

theorem Runs.load11 {off size : Fin (S1024x128).rank → ℕ} {inb : ∀ a, off a + size a ≤ (S1024x128).size a} {hl : M.a11.view.LoadsAt (Rect.unit (s := S1024x128) off size inb).toLoadRect}
    {k : ((Rect.unit (s := S1024x128) off size inb).shape.Idx → Elt F .f32) → Prog (TpuEff nD τ sig (Elt F) Λ₀ .tc) β} {Q : β → St F → Prop}
    (h : Runs c M (k (View.ld s.x11 (Rect.unit (s := S1024x128) off size inb))) s Q) :
    Runs c M (Prog.lift (.load M.a11 (Rect.unit (s := S1024x128) off size inb).toLoadRect hl) >>= k) s Q := by
  unfold Runs at h ⊢
  unfold held at *
  iintro ⟨H3, H4, H5, H6, H7, H8, H9, H10, H11, H12, H13, H14, H15, H16⟩
  iapply (wp_load_owns c M.a11) $$ H11
  iintro H11
  iapply h
  iframe

theorem Runs.load11w {inb : ∀ a, (![0, 0] : Fin (S1024x128).rank → ℕ) a + (S1024x128).size a ≤ (S1024x128).size a} {hl : M.a11.view.LoadsAt (Rect.unit (s := S1024x128) ![0, 0] (S1024x128).size inb).toLoadRect}
    {k : ((Rect.unit (s := S1024x128) ![0, 0] (S1024x128).size inb).shape.Idx → Elt F .f32) → Prog (TpuEff nD τ sig (Elt F) Λ₀ .tc) β} {Q : β → St F → Prop}
    (h : Runs c M (k s.x11) s Q) :
    Runs c M (Prog.lift (.load M.a11 (Rect.unit (s := S1024x128) ![0, 0] (S1024x128).size inb).toLoadRect hl) >>= k) s Q := by
  refine Runs.load11 ?_
  rw [View.ld_unit_zero zeros2]
  exact h

theorem Runs.store11 {off size : Fin (S1024x128).rank → ℕ} {inb : ∀ a, off a + size a ≤ (S1024x128).size a} {w : (Rect.unit (s := S1024x128) off size inb).shape.Idx → Elt F .f32}
    {hx : (M.a11.access (Rect.unit (s := S1024x128) off size inb)).Stores Finset.univ} {hm : Finset.univ = Finset.univ ∨ ∀ a, (Rect.unit (s := S1024x128) off size inb).stride a = 1}
    {k : PUnit → Prog (TpuEff nD τ sig (Elt F) Λ₀ .tc) β} {Q : β → St F → Prop}
    (h : Runs c M (k ⟨⟩) {s with x11 := VecWindow.put s.x11 off size w} Q) :
    Runs c M (Prog.lift (.store M.a11 (Rect.unit (s := S1024x128) off size inb) w Finset.univ hx hm) >>= k) s Q := by
  unfold Runs at h ⊢
  unfold held at *
  iintro ⟨H3, H4, H5, H6, H7, H8, H9, H10, H11, H12, H13, H14, H15, H16⟩
  iapply (wp_store_owns c M.a11) $$ H11
  iintro H11
  iapply h
  iframe

theorem Runs.store11w {inb : ∀ a, (![0, 0] : Fin (S1024x128).rank → ℕ) a + (S1024x128).size a ≤ (S1024x128).size a} {w : (Rect.unit (s := S1024x128) ![0, 0] (S1024x128).size inb).shape.Idx → Elt F .f32}
    {hx : (M.a11.access (Rect.unit (s := S1024x128) ![0, 0] (S1024x128).size inb)).Stores Finset.univ} {hm : Finset.univ = Finset.univ ∨ ∀ a, (Rect.unit (s := S1024x128) ![0, 0] (S1024x128).size inb).stride a = 1}
    {k : PUnit → Prog (TpuEff nD τ sig (Elt F) Λ₀ .tc) β} {Q : β → St F → Prop}
    (h : Runs c M (k ⟨⟩) {s with x11 := w} Q) :
    Runs c M (Prog.lift (.store M.a11 (Rect.unit (s := S1024x128) ![0, 0] (S1024x128).size inb) w Finset.univ hx hm) >>= k) s Q := by
  refine Runs.store11 ?_
  rw [put_full zeros2]
  exact h

theorem Runs.load12 {off size : Fin (S1024x256).rank → ℕ} {inb : ∀ a, off a + size a ≤ (S1024x256).size a} {hl : M.a12.view.LoadsAt (Rect.unit (s := S1024x256) off size inb).toLoadRect}
    {k : ((Rect.unit (s := S1024x256) off size inb).shape.Idx → Elt F .f32) → Prog (TpuEff nD τ sig (Elt F) Λ₀ .tc) β} {Q : β → St F → Prop}
    (h : Runs c M (k (View.ld s.x12 (Rect.unit (s := S1024x256) off size inb))) s Q) :
    Runs c M (Prog.lift (.load M.a12 (Rect.unit (s := S1024x256) off size inb).toLoadRect hl) >>= k) s Q := by
  unfold Runs at h ⊢
  unfold held at *
  iintro ⟨H3, H4, H5, H6, H7, H8, H9, H10, H11, H12, H13, H14, H15, H16⟩
  iapply (wp_load_owns c M.a12) $$ H12
  iintro H12
  iapply h
  iframe

theorem Runs.load12w {inb : ∀ a, (![0, 0] : Fin (S1024x256).rank → ℕ) a + (S1024x256).size a ≤ (S1024x256).size a} {hl : M.a12.view.LoadsAt (Rect.unit (s := S1024x256) ![0, 0] (S1024x256).size inb).toLoadRect}
    {k : ((Rect.unit (s := S1024x256) ![0, 0] (S1024x256).size inb).shape.Idx → Elt F .f32) → Prog (TpuEff nD τ sig (Elt F) Λ₀ .tc) β} {Q : β → St F → Prop}
    (h : Runs c M (k s.x12) s Q) :
    Runs c M (Prog.lift (.load M.a12 (Rect.unit (s := S1024x256) ![0, 0] (S1024x256).size inb).toLoadRect hl) >>= k) s Q := by
  refine Runs.load12 ?_
  rw [View.ld_unit_zero zeros2]
  exact h

theorem Runs.store12 {off size : Fin (S1024x256).rank → ℕ} {inb : ∀ a, off a + size a ≤ (S1024x256).size a} {w : (Rect.unit (s := S1024x256) off size inb).shape.Idx → Elt F .f32}
    {hx : (M.a12.access (Rect.unit (s := S1024x256) off size inb)).Stores Finset.univ} {hm : Finset.univ = Finset.univ ∨ ∀ a, (Rect.unit (s := S1024x256) off size inb).stride a = 1}
    {k : PUnit → Prog (TpuEff nD τ sig (Elt F) Λ₀ .tc) β} {Q : β → St F → Prop}
    (h : Runs c M (k ⟨⟩) {s with x12 := VecWindow.put s.x12 off size w} Q) :
    Runs c M (Prog.lift (.store M.a12 (Rect.unit (s := S1024x256) off size inb) w Finset.univ hx hm) >>= k) s Q := by
  unfold Runs at h ⊢
  unfold held at *
  iintro ⟨H3, H4, H5, H6, H7, H8, H9, H10, H11, H12, H13, H14, H15, H16⟩
  iapply (wp_store_owns c M.a12) $$ H12
  iintro H12
  iapply h
  iframe

theorem Runs.store12w {inb : ∀ a, (![0, 0] : Fin (S1024x256).rank → ℕ) a + (S1024x256).size a ≤ (S1024x256).size a} {w : (Rect.unit (s := S1024x256) ![0, 0] (S1024x256).size inb).shape.Idx → Elt F .f32}
    {hx : (M.a12.access (Rect.unit (s := S1024x256) ![0, 0] (S1024x256).size inb)).Stores Finset.univ} {hm : Finset.univ = Finset.univ ∨ ∀ a, (Rect.unit (s := S1024x256) ![0, 0] (S1024x256).size inb).stride a = 1}
    {k : PUnit → Prog (TpuEff nD τ sig (Elt F) Λ₀ .tc) β} {Q : β → St F → Prop}
    (h : Runs c M (k ⟨⟩) {s with x12 := w} Q) :
    Runs c M (Prog.lift (.store M.a12 (Rect.unit (s := S1024x256) ![0, 0] (S1024x256).size inb) w Finset.univ hx hm) >>= k) s Q := by
  refine Runs.store12 ?_
  rw [put_full zeros2]
  exact h

theorem Runs.load13 {off size : Fin (S1024x512).rank → ℕ} {inb : ∀ a, off a + size a ≤ (S1024x512).size a} {hl : M.a13.view.LoadsAt (Rect.unit (s := S1024x512) off size inb).toLoadRect}
    {k : ((Rect.unit (s := S1024x512) off size inb).shape.Idx → Elt F .f32) → Prog (TpuEff nD τ sig (Elt F) Λ₀ .tc) β} {Q : β → St F → Prop}
    (h : Runs c M (k (View.ld s.x13 (Rect.unit (s := S1024x512) off size inb))) s Q) :
    Runs c M (Prog.lift (.load M.a13 (Rect.unit (s := S1024x512) off size inb).toLoadRect hl) >>= k) s Q := by
  unfold Runs at h ⊢
  unfold held at *
  iintro ⟨H3, H4, H5, H6, H7, H8, H9, H10, H11, H12, H13, H14, H15, H16⟩
  iapply (wp_load_owns c M.a13) $$ H13
  iintro H13
  iapply h
  iframe

theorem Runs.load13w {inb : ∀ a, (![0, 0] : Fin (S1024x512).rank → ℕ) a + (S1024x512).size a ≤ (S1024x512).size a} {hl : M.a13.view.LoadsAt (Rect.unit (s := S1024x512) ![0, 0] (S1024x512).size inb).toLoadRect}
    {k : ((Rect.unit (s := S1024x512) ![0, 0] (S1024x512).size inb).shape.Idx → Elt F .f32) → Prog (TpuEff nD τ sig (Elt F) Λ₀ .tc) β} {Q : β → St F → Prop}
    (h : Runs c M (k s.x13) s Q) :
    Runs c M (Prog.lift (.load M.a13 (Rect.unit (s := S1024x512) ![0, 0] (S1024x512).size inb).toLoadRect hl) >>= k) s Q := by
  refine Runs.load13 ?_
  rw [View.ld_unit_zero zeros2]
  exact h

theorem Runs.store13 {off size : Fin (S1024x512).rank → ℕ} {inb : ∀ a, off a + size a ≤ (S1024x512).size a} {w : (Rect.unit (s := S1024x512) off size inb).shape.Idx → Elt F .f32}
    {hx : (M.a13.access (Rect.unit (s := S1024x512) off size inb)).Stores Finset.univ} {hm : Finset.univ = Finset.univ ∨ ∀ a, (Rect.unit (s := S1024x512) off size inb).stride a = 1}
    {k : PUnit → Prog (TpuEff nD τ sig (Elt F) Λ₀ .tc) β} {Q : β → St F → Prop}
    (h : Runs c M (k ⟨⟩) {s with x13 := VecWindow.put s.x13 off size w} Q) :
    Runs c M (Prog.lift (.store M.a13 (Rect.unit (s := S1024x512) off size inb) w Finset.univ hx hm) >>= k) s Q := by
  unfold Runs at h ⊢
  unfold held at *
  iintro ⟨H3, H4, H5, H6, H7, H8, H9, H10, H11, H12, H13, H14, H15, H16⟩
  iapply (wp_store_owns c M.a13) $$ H13
  iintro H13
  iapply h
  iframe

theorem Runs.store13w {inb : ∀ a, (![0, 0] : Fin (S1024x512).rank → ℕ) a + (S1024x512).size a ≤ (S1024x512).size a} {w : (Rect.unit (s := S1024x512) ![0, 0] (S1024x512).size inb).shape.Idx → Elt F .f32}
    {hx : (M.a13.access (Rect.unit (s := S1024x512) ![0, 0] (S1024x512).size inb)).Stores Finset.univ} {hm : Finset.univ = Finset.univ ∨ ∀ a, (Rect.unit (s := S1024x512) ![0, 0] (S1024x512).size inb).stride a = 1}
    {k : PUnit → Prog (TpuEff nD τ sig (Elt F) Λ₀ .tc) β} {Q : β → St F → Prop}
    (h : Runs c M (k ⟨⟩) {s with x13 := w} Q) :
    Runs c M (Prog.lift (.store M.a13 (Rect.unit (s := S1024x512) ![0, 0] (S1024x512).size inb) w Finset.univ hx hm) >>= k) s Q := by
  refine Runs.store13 ?_
  rw [put_full zeros2]
  exact h

theorem Runs.load14 {off size : Fin (S1024x512).rank → ℕ} {inb : ∀ a, off a + size a ≤ (S1024x512).size a} {hl : M.a14.view.LoadsAt (Rect.unit (s := S1024x512) off size inb).toLoadRect}
    {k : ((Rect.unit (s := S1024x512) off size inb).shape.Idx → Elt F .f32) → Prog (TpuEff nD τ sig (Elt F) Λ₀ .tc) β} {Q : β → St F → Prop}
    (h : Runs c M (k (View.ld s.x14 (Rect.unit (s := S1024x512) off size inb))) s Q) :
    Runs c M (Prog.lift (.load M.a14 (Rect.unit (s := S1024x512) off size inb).toLoadRect hl) >>= k) s Q := by
  unfold Runs at h ⊢
  unfold held at *
  iintro ⟨H3, H4, H5, H6, H7, H8, H9, H10, H11, H12, H13, H14, H15, H16⟩
  iapply (wp_load_owns c M.a14) $$ H14
  iintro H14
  iapply h
  iframe

theorem Runs.load14w {inb : ∀ a, (![0, 0] : Fin (S1024x512).rank → ℕ) a + (S1024x512).size a ≤ (S1024x512).size a} {hl : M.a14.view.LoadsAt (Rect.unit (s := S1024x512) ![0, 0] (S1024x512).size inb).toLoadRect}
    {k : ((Rect.unit (s := S1024x512) ![0, 0] (S1024x512).size inb).shape.Idx → Elt F .f32) → Prog (TpuEff nD τ sig (Elt F) Λ₀ .tc) β} {Q : β → St F → Prop}
    (h : Runs c M (k s.x14) s Q) :
    Runs c M (Prog.lift (.load M.a14 (Rect.unit (s := S1024x512) ![0, 0] (S1024x512).size inb).toLoadRect hl) >>= k) s Q := by
  refine Runs.load14 ?_
  rw [View.ld_unit_zero zeros2]
  exact h

theorem Runs.store14 {off size : Fin (S1024x512).rank → ℕ} {inb : ∀ a, off a + size a ≤ (S1024x512).size a} {w : (Rect.unit (s := S1024x512) off size inb).shape.Idx → Elt F .f32}
    {hx : (M.a14.access (Rect.unit (s := S1024x512) off size inb)).Stores Finset.univ} {hm : Finset.univ = Finset.univ ∨ ∀ a, (Rect.unit (s := S1024x512) off size inb).stride a = 1}
    {k : PUnit → Prog (TpuEff nD τ sig (Elt F) Λ₀ .tc) β} {Q : β → St F → Prop}
    (h : Runs c M (k ⟨⟩) {s with x14 := VecWindow.put s.x14 off size w} Q) :
    Runs c M (Prog.lift (.store M.a14 (Rect.unit (s := S1024x512) off size inb) w Finset.univ hx hm) >>= k) s Q := by
  unfold Runs at h ⊢
  unfold held at *
  iintro ⟨H3, H4, H5, H6, H7, H8, H9, H10, H11, H12, H13, H14, H15, H16⟩
  iapply (wp_store_owns c M.a14) $$ H14
  iintro H14
  iapply h
  iframe

theorem Runs.store14w {inb : ∀ a, (![0, 0] : Fin (S1024x512).rank → ℕ) a + (S1024x512).size a ≤ (S1024x512).size a} {w : (Rect.unit (s := S1024x512) ![0, 0] (S1024x512).size inb).shape.Idx → Elt F .f32}
    {hx : (M.a14.access (Rect.unit (s := S1024x512) ![0, 0] (S1024x512).size inb)).Stores Finset.univ} {hm : Finset.univ = Finset.univ ∨ ∀ a, (Rect.unit (s := S1024x512) ![0, 0] (S1024x512).size inb).stride a = 1}
    {k : PUnit → Prog (TpuEff nD τ sig (Elt F) Λ₀ .tc) β} {Q : β → St F → Prop}
    (h : Runs c M (k ⟨⟩) {s with x14 := w} Q) :
    Runs c M (Prog.lift (.store M.a14 (Rect.unit (s := S1024x512) ![0, 0] (S1024x512).size inb) w Finset.univ hx hm) >>= k) s Q := by
  refine Runs.store14 ?_
  rw [put_full zeros2]
  exact h

theorem Runs.load15 {off size : Fin (S1024x512).rank → ℕ} {inb : ∀ a, off a + size a ≤ (S1024x512).size a} {hl : M.a15.view.LoadsAt (Rect.unit (s := S1024x512) off size inb).toLoadRect}
    {k : ((Rect.unit (s := S1024x512) off size inb).shape.Idx → Elt F .bf16) → Prog (TpuEff nD τ sig (Elt F) Λ₀ .tc) β} {Q : β → St F → Prop}
    (h : Runs c M (k (View.ld s.x15 (Rect.unit (s := S1024x512) off size inb))) s Q) :
    Runs c M (Prog.lift (.load M.a15 (Rect.unit (s := S1024x512) off size inb).toLoadRect hl) >>= k) s Q := by
  unfold Runs at h ⊢
  unfold held at *
  iintro ⟨H3, H4, H5, H6, H7, H8, H9, H10, H11, H12, H13, H14, H15, H16⟩
  iapply (wp_load_owns c M.a15) $$ H15
  iintro H15
  iapply h
  iframe

theorem Runs.load15w {inb : ∀ a, (![0, 0] : Fin (S1024x512).rank → ℕ) a + (S1024x512).size a ≤ (S1024x512).size a} {hl : M.a15.view.LoadsAt (Rect.unit (s := S1024x512) ![0, 0] (S1024x512).size inb).toLoadRect}
    {k : ((Rect.unit (s := S1024x512) ![0, 0] (S1024x512).size inb).shape.Idx → Elt F .bf16) → Prog (TpuEff nD τ sig (Elt F) Λ₀ .tc) β} {Q : β → St F → Prop}
    (h : Runs c M (k s.x15) s Q) :
    Runs c M (Prog.lift (.load M.a15 (Rect.unit (s := S1024x512) ![0, 0] (S1024x512).size inb).toLoadRect hl) >>= k) s Q := by
  refine Runs.load15 ?_
  rw [View.ld_unit_zero zeros2]
  exact h

theorem Runs.store15 {off size : Fin (S1024x512).rank → ℕ} {inb : ∀ a, off a + size a ≤ (S1024x512).size a} {w : (Rect.unit (s := S1024x512) off size inb).shape.Idx → Elt F .bf16}
    {hx : (M.a15.access (Rect.unit (s := S1024x512) off size inb)).Stores Finset.univ} {hm : Finset.univ = Finset.univ ∨ ∀ a, (Rect.unit (s := S1024x512) off size inb).stride a = 1}
    {k : PUnit → Prog (TpuEff nD τ sig (Elt F) Λ₀ .tc) β} {Q : β → St F → Prop}
    (h : Runs c M (k ⟨⟩) {s with x15 := VecWindow.put s.x15 off size w} Q) :
    Runs c M (Prog.lift (.store M.a15 (Rect.unit (s := S1024x512) off size inb) w Finset.univ hx hm) >>= k) s Q := by
  unfold Runs at h ⊢
  unfold held at *
  iintro ⟨H3, H4, H5, H6, H7, H8, H9, H10, H11, H12, H13, H14, H15, H16⟩
  iapply (wp_store_owns c M.a15) $$ H15
  iintro H15
  iapply h
  iframe

theorem Runs.store15w {inb : ∀ a, (![0, 0] : Fin (S1024x512).rank → ℕ) a + (S1024x512).size a ≤ (S1024x512).size a} {w : (Rect.unit (s := S1024x512) ![0, 0] (S1024x512).size inb).shape.Idx → Elt F .bf16}
    {hx : (M.a15.access (Rect.unit (s := S1024x512) ![0, 0] (S1024x512).size inb)).Stores Finset.univ} {hm : Finset.univ = Finset.univ ∨ ∀ a, (Rect.unit (s := S1024x512) ![0, 0] (S1024x512).size inb).stride a = 1}
    {k : PUnit → Prog (TpuEff nD τ sig (Elt F) Λ₀ .tc) β} {Q : β → St F → Prop}
    (h : Runs c M (k ⟨⟩) {s with x15 := w} Q) :
    Runs c M (Prog.lift (.store M.a15 (Rect.unit (s := S1024x512) ![0, 0] (S1024x512).size inb) w Finset.univ hx hm) >>= k) s Q := by
  refine Runs.store15 ?_
  rw [put_full zeros2]
  exact h

theorem Runs.load16 {off size : Fin (S1024x512).rank → ℕ} {inb : ∀ a, off a + size a ≤ (S1024x512).size a} {hl : M.a16.view.LoadsAt (Rect.unit (s := S1024x512) off size inb).toLoadRect}
    {k : ((Rect.unit (s := S1024x512) off size inb).shape.Idx → Elt F .bf16) → Prog (TpuEff nD τ sig (Elt F) Λ₀ .tc) β} {Q : β → St F → Prop}
    (h : Runs c M (k (View.ld s.x16 (Rect.unit (s := S1024x512) off size inb))) s Q) :
    Runs c M (Prog.lift (.load M.a16 (Rect.unit (s := S1024x512) off size inb).toLoadRect hl) >>= k) s Q := by
  unfold Runs at h ⊢
  unfold held at *
  iintro ⟨H3, H4, H5, H6, H7, H8, H9, H10, H11, H12, H13, H14, H15, H16⟩
  iapply (wp_load_owns c M.a16) $$ H16
  iintro H16
  iapply h
  iframe

theorem Runs.load16w {inb : ∀ a, (![0, 0] : Fin (S1024x512).rank → ℕ) a + (S1024x512).size a ≤ (S1024x512).size a} {hl : M.a16.view.LoadsAt (Rect.unit (s := S1024x512) ![0, 0] (S1024x512).size inb).toLoadRect}
    {k : ((Rect.unit (s := S1024x512) ![0, 0] (S1024x512).size inb).shape.Idx → Elt F .bf16) → Prog (TpuEff nD τ sig (Elt F) Λ₀ .tc) β} {Q : β → St F → Prop}
    (h : Runs c M (k s.x16) s Q) :
    Runs c M (Prog.lift (.load M.a16 (Rect.unit (s := S1024x512) ![0, 0] (S1024x512).size inb).toLoadRect hl) >>= k) s Q := by
  refine Runs.load16 ?_
  rw [View.ld_unit_zero zeros2]
  exact h

theorem Runs.store16 {off size : Fin (S1024x512).rank → ℕ} {inb : ∀ a, off a + size a ≤ (S1024x512).size a} {w : (Rect.unit (s := S1024x512) off size inb).shape.Idx → Elt F .bf16}
    {hx : (M.a16.access (Rect.unit (s := S1024x512) off size inb)).Stores Finset.univ} {hm : Finset.univ = Finset.univ ∨ ∀ a, (Rect.unit (s := S1024x512) off size inb).stride a = 1}
    {k : PUnit → Prog (TpuEff nD τ sig (Elt F) Λ₀ .tc) β} {Q : β → St F → Prop}
    (h : Runs c M (k ⟨⟩) {s with x16 := VecWindow.put s.x16 off size w} Q) :
    Runs c M (Prog.lift (.store M.a16 (Rect.unit (s := S1024x512) off size inb) w Finset.univ hx hm) >>= k) s Q := by
  unfold Runs at h ⊢
  unfold held at *
  iintro ⟨H3, H4, H5, H6, H7, H8, H9, H10, H11, H12, H13, H14, H15, H16⟩
  iapply (wp_store_owns c M.a16) $$ H16
  iintro H16
  iapply h
  iframe

theorem Runs.store16w {inb : ∀ a, (![0, 0] : Fin (S1024x512).rank → ℕ) a + (S1024x512).size a ≤ (S1024x512).size a} {w : (Rect.unit (s := S1024x512) ![0, 0] (S1024x512).size inb).shape.Idx → Elt F .bf16}
    {hx : (M.a16.access (Rect.unit (s := S1024x512) ![0, 0] (S1024x512).size inb)).Stores Finset.univ} {hm : Finset.univ = Finset.univ ∨ ∀ a, (Rect.unit (s := S1024x512) ![0, 0] (S1024x512).size inb).stride a = 1}
    {k : PUnit → Prog (TpuEff nD τ sig (Elt F) Λ₀ .tc) β} {Q : β → St F → Prop}
    (h : Runs c M (k ⟨⟩) {s with x16 := w} Q) :
    Runs c M (Prog.lift (.store M.a16 (Rect.unit (s := S1024x512) ![0, 0] (S1024x512).size inb) w Finset.univ hx hm) >>= k) s Q := by
  refine Runs.store16 ?_
  rw [put_full zeros2]
  exact h

/-- A two-armed conditional: either arm, under its own hypothesis. -/
theorem Runs.dite {p : Prop} [Decidable p] {A : p → Prog (TpuEff nD τ sig (Elt F) Λ₀ .tc) β} {B : ¬ p → Prog (TpuEff nD τ sig (Elt F) Λ₀ .tc) β}
    {Q : β → St F → Prop} (hA : ∀ h : p, Runs c M (A h) s Q) (hB : ∀ h : ¬ p, Runs c M (B h) s Q) : Runs c M (if h : p then A h else B h) s Q := by
  by_cases h : p
  · rw [dif_pos h]; exact hA h
  · rw [dif_neg h]; exact hB h

/-- A counted loop: an invariant that every trip carries from its number to the next holds at the trip count. -/
theorem Runs.loop {l : Scf.Loop 32} {hok : l.OK} {σ : Type} {init : σ} {body : Fin l.trips → σ → Prog (TpuEff nD τ sig (Elt F) Λ₀ .tc) σ} (I : ℕ → σ → St F → Prop)
    (h0 : I 0 init s) (hbody : ∀ (k : Fin l.trips) (acc : σ) (s' : St F), I k acc s' → Runs c M (body k acc) s' (I (k.val + 1))) :
    Runs c M (Scf.Loop.for l hok init body) s (I l.trips) := by
  unfold Runs
  have key := Scf.wp_for (Fr := frame) (wpE := wpE (defs₀ (F := F)) 𝒱₀ (c : Thread nD τ) none) (Es := Set.univ) l.lb l.ub l.st hok init body
    (fun k acc => iprop(∃ s' : St F, ⌜I k acc s'⌝ ∗ held c M s')) (Q := fun r => iprop(∃ s' : St F, ⌜I l.trips r s'⌝ ∗ held c M s')) (by
      intro k acc
      iintro ⟨%s', %hk, H⟩
      iapply (show held c M s' ⊢ _ from hbody k acc s' hk) $$ H)
  refine BIBase.Entails.trans ?_ key
  iintro H
  isplitl [H]
  · iexists s
    isplitr
    · ipureintro; exact h0
    · iexact H
  · iintro %r H
    iexact H

end Cert.Proof.KernelIdeal
end
-- ==== Proof.Trip.lean ====
module

public import proofs.«01_k».proof.Proof.Runs
public import Idealize.ShloMosaic.Lib.ValueIdx

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! # The accumulation over the full key blocks -/

/-- Block `j` of the stacked keys (256 rows for the even head above 256 rows for the odd head). -/
def kblk (X : Vec F S32x512x256 .bf16) (j : ℕ) : Vec F S1x512x256 .bf16 := fun y => X (ix3 (⟨j % 32, Nat.mod_lt _ (by decide)⟩ : Fin 32) (⟨(y 1).val, (y 1).isLt⟩ : Fin 512) (⟨(y 2).val, (y 2).isLt⟩ : Fin 256))
/-- Block `j` of the stacked values. -/
def vblk (X : Vec F S32x512x128 .bf16) (j : ℕ) : Vec F S1x512x128 .bf16 := fun y => X (ix3 (⟨j % 32, Nat.mod_lt _ (by decide)⟩ : Fin 32) (⟨(y 1).val, (y 1).isLt⟩ : Fin 512) (⟨(y 2).val, (y 2).isLt⟩ : Fin 128))

/-- The scores of a tile of 1024 queries against one block of stacked keys. -/
def nzM (q : FVec F S1024x256 .bf16) (kb : Vec F S1x512x256 .bf16) : FVec F S1024x512 .f32 := k0_pay17 q kb
/-- The result accumulator after adding the product of a block's weights and its values. -/
def oM (a : Vec F S1024x512 .bf16) (o : Vec F S1024x128 .f32) (vb : Vec F S1x512x128 .bf16) : FVec F S1024x128 .f32 := k0_pay18 a o vb
/-- The carry (sum of the log-remainders of the keys already seen) after one more block. -/
def cM (nz : Vec F S1024x512 .f32) (c : Vec F S1024x256 .f32) : FVec F S1024x256 .f32 := k0_pay23 (k0_pay19 nz) (k0_pay20 nz) k0_pay21 c
/-- The weights of a block from its scores and the carry of the blocks after it. -/
def aM (nz : Vec F S1024x512 .f32) (u : Vec F S256x256 .bf16) (c : Vec F S1024x256 .f32) : FVec F S1024x512 .bf16 := k0_pay24 nz (k0_pay19 nz) (k0_pay20 nz) k0_pay21 u c

/-- What one tile carries from block to block: the result accumulator, the carry, the next block's scores, the last
    block's weights. -/
structure Acc (F : FTy → Type) where
  o : Vec F S1024x128 .f32
  c : Vec F S1024x256 .f32
  nz : Vec F S1024x512 .f32
  a : Vec F S1024x512 .bf16

/-- One block: the weights `A.a` belong to block `b`, the scores `A.nz` to block `b - 1`, and block `b - 2`'s scores
    are computed ahead. -/
def Acc.step (q : FVec F S1024x256 .bf16) (K : Vec F S32x512x256 .bf16) (V : Vec F S32x512x128 .bf16) (U : Vec F S256x256 .bf16) (b : ℕ) (A : Acc F) : Acc F :=
  ⟨oM A.a A.o (vblk V b), cM A.nz A.c, nzM q (kblk K (b - 2)), aM A.nz U A.c⟩

/-- `n` blocks, downwards from block `b`. -/
def Acc.steps (q : FVec F S1024x256 .bf16) (K : Vec F S32x512x256 .bf16) (V : Vec F S32x512x128 .bf16) (U : Vec F S256x256 .bf16) (b : ℕ) (A : Acc F) : ℕ → Acc F
  | 0 => A
  | n + 1 => Acc.step q K V U (b - n) (Acc.steps q K V U b A n)

/-- What a tile carries, read off the arrays (between an even number of blocks). -/
def St.acc (s : St F) : Acc F := ⟨s.x11, s.x12, s.x13, s.x15⟩

/-- The arrays that the walk over the blocks leaves alone. -/
def Kept (s s' : St F) : Prop :=
  s'.x3 = s.x3 ∧ s'.x4 = s.x4 ∧ s'.x5 = s.x5 ∧ s'.x6 = s.x6 ∧ s'.x8 = s.x8 ∧ s'.x9 = s.x9 ∧ s'.x10 = s.x10

theorem ld_kblk (X : Vec F S32x512x256 .bf16) {off : Fin 3 → ℕ} (inb : ∀ a, off a + S1x512x256.size a ≤ S32x512x256.size a) (j : ℕ) (h : off = ![j, 0, 0]) :
    View.ld X (Rect.unit (s := S32x512x256) off S1x512x256.size inb) = kblk X j := by
  subst h
  have hj : j + 1 ≤ 32 := inb 0
  funext y
  have y0 : (y 0).val < 1 := (y 0).isLt
  have y1 : (y 1).val < 512 := (y 1).isLt
  have y2 : (y 2).val < 256 := (y 2).isLt
  refine congrArg X (funext fun a => Fin.ext ?_)
  match a with
  | 0 => show j + 1 * (y 0).val = j % 32; omega
  | 1 => show 0 + 1 * (y 1).val = (y 1).val; omega
  | 2 => show 0 + 1 * (y 2).val = (y 2).val; omega

theorem ld_vblk (X : Vec F S32x512x128 .bf16) {off : Fin 3 → ℕ} (inb : ∀ a, off a + S1x512x128.size a ≤ S32x512x128.size a) (j : ℕ) (h : off = ![j, 0, 0]) :
    View.ld X (Rect.unit (s := S32x512x128) off S1x512x128.size inb) = vblk X j := by
  subst h
  have hj : j + 1 ≤ 32 := inb 0
  funext y
  have y0 : (y 0).val < 1 := (y 0).isLt
  have y1 : (y 1).val < 512 := (y 1).isLt
  have y2 : (y 2).val < 128 := (y 2).isLt
  refine congrArg X (funext fun a => Fin.ext ?_)
  match a with
  | 0 => show j + 1 * (y 0).val = j % 32; omega
  | 1 => show 0 + 1 * (y 1).val = (y 1).val; omega
  | 2 => show 0 + 1 * (y 2).val = (y 2).val; omega

variable {c : Dev nD} {M : Mems} {β : Type} {s : St F}

theorem Runs.load8b (j : ℕ) {off : Fin 3 → ℕ} (ho : off = ![j, 0, 0]) {inb : ∀ a, off a + S1x512x256.size a ≤ S32x512x256.size a} {hl : M.a8.view.LoadsAt (Rect.unit (s := S32x512x256) off S1x512x256.size inb).toLoadRect}
    {k : Vec F S1x512x256 .bf16 → Prog (TpuEff nD τ sig (Elt F) Λ₀ .tc) β} {Q : β → St F → Prop}
    (h : Runs c M (k (kblk s.x8 j)) s Q) : Runs c M (Prog.lift (.load M.a8 (Rect.unit (s := S32x512x256) off S1x512x256.size inb).toLoadRect hl) >>= k) s Q := by
  refine Runs.load8 ?_
  rw [ld_kblk s.x8 inb j ho]; exact h

theorem Runs.load9b (j : ℕ) {off : Fin 3 → ℕ} (ho : off = ![j, 0, 0]) {inb : ∀ a, off a + S1x512x128.size a ≤ S32x512x128.size a} {hl : M.a9.view.LoadsAt (Rect.unit (s := S32x512x128) off S1x512x128.size inb).toLoadRect}
    {k : Vec F S1x512x128 .bf16 → Prog (TpuEff nD τ sig (Elt F) Λ₀ .tc) β} {Q : β → St F → Prop}
    (h : Runs c M (k (vblk s.x9 j)) s Q) : Runs c M (Prog.lift (.load M.a9 (Rect.unit (s := S32x512x128) off S1x512x128.size inb).toLoadRect hl) >>= k) s Q := by
  refine Runs.load9 ?_
  rw [ld_vblk s.x9 inb j ho]; exact h

/-- The block whose scores are computed ahead at step `r` of trip `k`. -/
theorem off4_eq : ∀ i : grid0.Coords, ∀ k : Fin (k0_t1_loop i).trips, ∀ r : Fin 8, k0_off4 i k (BitVec.ofNat 32 r.val) = ![4 * (i 2).val - 8 * k.val - r.val - 2, 0, 0] := by decide +kernel
/-- The block whose weights are used at step `r` of trip `k`. -/
theorem off5_eq : ∀ i : grid0.Coords, ∀ k : Fin (k0_t1_loop i).trips, ∀ r : Fin 8, k0_off5 i k (BitVec.ofNat 32 r.val) = ![4 * (i 2).val - 8 * k.val - r.val, 0, 0] := by decide +kernel

set_option maxHeartbeats 2000000 in
/-- A trip of the loop takes eight blocks. -/
theorem trip_runs (i : grid0.Coords) (k : Fin (k0_t1_loop i).trips) (r0 : BitVec 32) (arg2 : BitVec 32) (q : FVec F S1024x256 .bf16) (v21 : BitVec 32) (v237 : FVec F S1024x512 .f32) (v251 : IVec S1024x512 1) (v265 : FVec F S1024x512 .f32) (v276 : Vec F S1024x256 .f32) (v282 v283 : FVec F S1024x512 .f32) :
    Runs c M (k0_t1_body i M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 arg2 q v21 v237 v251 v265 v276 v282 v283 k r0) s
      (fun _ s' => Kept s s' ∧ s'.acc = Acc.steps q s.x8 s.x9 s.x10 (4 * (i 2).val - 8 * k.val) s.acc 8) := by
  unfold k0_t1_body; try dsimp only
  refine Runs.bind ?_
  rw [k0_part3_eq_skeleton]; unfold k0_part3_skel; try dsimp only
  refine Runs.load13w ?_
  refine Runs.load8b (4 * (i 2).val - 8 * k.val - 0 - 2) (off4_eq i k 0) ?_
  refine Runs.load14w ?_
  refine Runs.store14w ?_; try dsimp only
  refine Runs.load15w ?_
  refine Runs.load11w ?_
  refine Runs.load9b (4 * (i 2).val - 8 * k.val - 0) (off5_eq i k 0) ?_
  refine Runs.load11w ?_
  refine Runs.store11w ?_; try dsimp only
  refine Runs.pure ?_; try dsimp only
  refine Runs.bind ?_
  rw [k0_part4_eq_skeleton]; unfold k0_part4_skel; try dsimp only
  refine Runs.load10w ?_
  refine Runs.load12w ?_
  refine Runs.load12w ?_
  refine Runs.store12w ?_; try dsimp only
  refine Runs.load16w ?_
  refine Runs.store16w ?_; try dsimp only
  refine Runs.load14w ?_
  refine Runs.pure ?_; try dsimp only
  refine Runs.bind ?_
  rw [k0_part5_eq_skeleton]; unfold k0_part5_skel; try dsimp only
  refine Runs.load8b (4 * (i 2).val - 8 * k.val - 1 - 2) (off4_eq i k 1) ?_
  refine Runs.load13w ?_
  refine Runs.store13w ?_; try dsimp only
  refine Runs.load16w ?_
  refine Runs.load11w ?_
  refine Runs.load9b (4 * (i 2).val - 8 * k.val - 1) (off5_eq i k 1) ?_
  refine Runs.load11w ?_
  refine Runs.store11w ?_; try dsimp only
  refine Runs.pure ?_; try dsimp only
  refine Runs.bind ?_
  rw [k0_part6_eq_skeleton]; unfold k0_part6_skel; try dsimp only
  refine Runs.load10w ?_
  refine Runs.load12w ?_
  refine Runs.load12w ?_
  refine Runs.store12w ?_; try dsimp only
  refine Runs.load15w ?_
  refine Runs.store15w ?_; try dsimp only
  refine Runs.load13w ?_
  refine Runs.load8b (4 * (i 2).val - 8 * k.val - 2 - 2) (off4_eq i k 2) ?_
  refine Runs.pure ?_; try dsimp only
  refine Runs.bind ?_
  rw [k0_part7_eq_skeleton]; unfold k0_part7_skel; try dsimp only
  refine Runs.load14w ?_
  refine Runs.store14w ?_; try dsimp only
  refine Runs.load15w ?_
  refine Runs.load11w ?_
  refine Runs.load9b (4 * (i 2).val - 8 * k.val - 2) (off5_eq i k 2) ?_
  refine Runs.load11w ?_
  refine Runs.store11w ?_; try dsimp only
  refine Runs.load10w ?_
  refine Runs.load12w ?_
  refine Runs.pure ?_; try dsimp only
  refine Runs.bind ?_
  rw [k0_part8_eq_skeleton]; unfold k0_part8_skel; try dsimp only
  refine Runs.load12w ?_
  refine Runs.store12w ?_; try dsimp only
  refine Runs.load16w ?_
  refine Runs.store16w ?_; try dsimp only
  refine Runs.load14w ?_
  refine Runs.load8b (4 * (i 2).val - 8 * k.val - 3 - 2) (off4_eq i k 3) ?_
  refine Runs.load13w ?_
  refine Runs.store13w ?_; try dsimp only
  refine Runs.load16w ?_
  refine Runs.pure ?_; try dsimp only
  refine Runs.bind ?_
  rw [k0_part9_eq_skeleton]; unfold k0_part9_skel; try dsimp only
  refine Runs.load11w ?_
  refine Runs.load9b (4 * (i 2).val - 8 * k.val - 3) (off5_eq i k 3) ?_
  refine Runs.load11w ?_
  refine Runs.store11w ?_; try dsimp only
  refine Runs.load10w ?_
  refine Runs.load12w ?_
  refine Runs.pure ?_; try dsimp only
  refine Runs.bind ?_
  rw [k0_part10_eq_skeleton]; unfold k0_part10_skel; try dsimp only
  refine Runs.load12w ?_
  refine Runs.store12w ?_; try dsimp only
  refine Runs.load15w ?_
  refine Runs.store15w ?_; try dsimp only
  refine Runs.load13w ?_
  refine Runs.load8b (4 * (i 2).val - 8 * k.val - 4 - 2) (off4_eq i k 4) ?_
  refine Runs.load14w ?_
  refine Runs.store14w ?_; try dsimp only
  refine Runs.load15w ?_
  refine Runs.load11w ?_
  refine Runs.load9b (4 * (i 2).val - 8 * k.val - 4) (off5_eq i k 4) ?_
  refine Runs.pure ?_; try dsimp only
  refine Runs.bind ?_
  rw [k0_part11_eq_skeleton]; unfold k0_part11_skel; try dsimp only
  refine Runs.load11w ?_
  refine Runs.store11w ?_; try dsimp only
  refine Runs.load10w ?_
  refine Runs.load12w ?_
  refine Runs.pure ?_; try dsimp only
  refine Runs.bind ?_
  rw [k0_part12_eq_skeleton]; unfold k0_part12_skel; try dsimp only
  refine Runs.load12w ?_
  refine Runs.store12w ?_; try dsimp only
  refine Runs.load16w ?_
  refine Runs.store16w ?_; try dsimp only
  refine Runs.load14w ?_
  refine Runs.load8b (4 * (i 2).val - 8 * k.val - 5 - 2) (off4_eq i k 5) ?_
  refine Runs.load13w ?_
  refine Runs.store13w ?_; try dsimp only
  refine Runs.load16w ?_
  refine Runs.load11w ?_
  refine Runs.load9b (4 * (i 2).val - 8 * k.val - 5) (off5_eq i k 5) ?_
  refine Runs.load11w ?_
  refine Runs.store11w ?_; try dsimp only
  refine Runs.pure ?_; try dsimp only
  refine Runs.bind ?_
  rw [k0_part13_eq_skeleton]; unfold k0_part13_skel; try dsimp only
  refine Runs.load10w ?_
  refine Runs.load12w ?_
  refine Runs.load12w ?_
  refine Runs.store12w ?_; try dsimp only
  refine Runs.load15w ?_
  refine Runs.store15w ?_; try dsimp only
  refine Runs.pure ?_; try dsimp only
  refine Runs.bind ?_
  rw [k0_part14_eq_skeleton]; unfold k0_part14_skel; try dsimp only
  refine Runs.load13w ?_
  refine Runs.load8b (4 * (i 2).val - 8 * k.val - 6 - 2) (off4_eq i k 6) ?_
  refine Runs.load14w ?_
  refine Runs.store14w ?_; try dsimp only
  refine Runs.load15w ?_
  refine Runs.load11w ?_
  refine Runs.load9b (4 * (i 2).val - 8 * k.val - 6) (off5_eq i k 6) ?_
  refine Runs.load11w ?_
  refine Runs.store11w ?_; try dsimp only
  refine Runs.pure ?_; try dsimp only
  refine Runs.bind ?_
  rw [k0_part15_eq_skeleton]; unfold k0_part15_skel; try dsimp only
  refine Runs.load10w ?_
  refine Runs.load12w ?_
  refine Runs.load12w ?_
  refine Runs.store12w ?_; try dsimp only
  refine Runs.load16w ?_
  refine Runs.store16w ?_; try dsimp only
  refine Runs.load14w ?_
  refine Runs.pure ?_; try dsimp only
  refine Runs.bind ?_
  rw [k0_part16_eq_skeleton]; unfold k0_part16_skel; try dsimp only
  refine Runs.load8b (4 * (i 2).val - 8 * k.val - 7 - 2) (off4_eq i k 7) ?_
  refine Runs.load13w ?_
  refine Runs.store13w ?_; try dsimp only
  refine Runs.load16w ?_
  refine Runs.load11w ?_
  refine Runs.load9b (4 * (i 2).val - 8 * k.val - 7) (off5_eq i k 7) ?_
  refine Runs.load11w ?_
  refine Runs.store11w ?_; try dsimp only
  refine Runs.load10w ?_
  refine Runs.pure ?_; try dsimp only
  refine Runs.load12w ?_
  refine Runs.load12w ?_
  refine Runs.store12w ?_; try dsimp only
  refine Runs.load15w ?_
  refine Runs.store15w ?_; try dsimp only
  refine Runs.pure ?_; try dsimp only
  refine ⟨⟨rfl, rfl, rfl, rfl, rfl, rfl, rfl⟩, ?_⟩
  rfl
end Cert.Proof.KernelIdeal
end
-- ==== Proof.Body.lean ====
module

public import proofs.«01_k».proof.Proof.Trip

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! # One grid point, from what its arrays hold to what it leaves in them -/

/-- The offset row of a pair of heads: the first three lanes carry an offset's parts, the others are zero. -/
def kOff (x6 : Vec F S1x2x128 .f32) (f : FVec F S2x128 .f32 → IVec S2x128 32 → FVec F S2x128 .f32 → FVec F S2x128 .bf16 → FVec F S32x256x128 .bf16) : FVec F S32x256x128 .bf16 :=
  f (k0_pay8 x6) (iota .tc S2x128 32 [1] iota_S2x128_d1_w32) k0_pay9 (k0_pay10 x6)

/-- The stacked keys, written from the key window and the offset window. -/
def kInit (x4 : Vec F S1x8192x128 .bf16) (x6 : Vec F S1x2x128 .f32) (x8 : Vec F S32x512x256 .bf16) : Vec F S32x512x256 .bf16 :=
  VecWindow.put (VecWindow.put (VecWindow.put (VecWindow.put x8 ![0, 0, 0] S32x256x128.size (k0_pay6 x4)) ![0, 256, 0] S32x256x128.size (k0_pay7 x4))
    ![0, 0, 128] S32x256x128.size (kOff x6 k0_pay12)) ![0, 256, 128] S32x256x128.size (kOff x6 k0_pay13)

/-- The stacked values, written from the value window. -/
def vInit (x5 : Vec F S1x8192x128 .bf16) (x9 : Vec F S32x512x128 .bf16) : Vec F S32x512x128 .bf16 :=
  VecWindow.put (VecWindow.put x9 ![0, 0, 0] S32x256x128.size (k0_pay15 k0_pay3 x5)) ![0, 256, 0] S32x256x128.size (k0_pay160 (k0_pay14 x5) (k0_pay16 k0_pay4))

/-- What the first point of a row of tiles writes before its tile. -/
def St.prep (s : St F) : St F := { s with x8 := kInit s.x4 s.x6 s.x8, x9 := vInit s.x5 s.x9, x10 := k0_pay161 }

section Diag
variable (x3 : Vec F S1x1024x128 .f32) (K : Vec F S32x512x256 .bf16) (V : Vec F S32x512x128 .bf16) (U : Vec F S256x256 .bf16) (n : ℕ)

/-- Scores of the last 256 query rows against the tile's fourth block. -/
def nz3 : FVec F S256x512 .f32 := k0_pay165 x3 (kblk K (n + 3))
/-- Scores of the last 512 query rows against the tile's third block. -/
def nz2 : FVec F S512x512 .f32 := k0_pay166 (k0_pay162 x3) (kblk K (n + 2))
/-- Scores of the last 768 query rows against the tile's second block. -/
def nz1 : FVec F S768x512 .f32 := k0_pay172 (k0_pay162 x3) (kblk K (n + 1))
/-- Scores of all 1024 query rows against the tile's first block. -/
def nz0 : FVec F S1024x512 .f32 := k0_pay179 (k0_pay162 x3) (kblk K n)

def c3 : Vec F S256x256 .f32 := View.ld (k0_pay164 (F := F)) (Rect.unit (s := S1024x256) ![768, 0] S256x256.size inb_S1024x256_S256x256_768_0)
/-- The carry after the fourth block. -/
def C3 : Vec F S1024x256 .f32 := VecWindow.put (k0_pay164 (F := F)) ![768, 0] S256x256.size (k0_pay171 (k0_pay168 (nz3 x3 K n)) c3)
/-- The weights of the fourth block, before the mask. -/
def a3 : FVec F S256x512 .f32 := k0_pay169 (nz3 x3 K n) U c3
/-- The accumulator after the fourth block. -/
def O3 : Vec F S1024x128 .f32 := VecWindow.put (k0_pay163 (F := F)) ![768, 0] S256x128.size
  (k0_pay173 k0_pay167 (a3 x3 K U n) k0_pay170 (View.ld (k0_pay163 (F := F)) (Rect.unit (s := S1024x128) ![768, 0] S256x128.size inb_S1024x128_S256x128_768_0)) (vblk V (n + 3)))

def c2 : Vec F S512x256 .f32 := View.ld (C3 x3 K n) (Rect.unit (s := S1024x256) ![512, 0] S512x256.size inb_S1024x256_S512x256_512_0)
/-- The carry after the third block. -/
def C2 : Vec F S1024x256 .f32 := VecWindow.put (C3 x3 K n) ![512, 0] S512x256.size
  (k0_pay178 (k0_pay177 (nz2 x3 K n) k0_pay174 (Scalar.ofBits .f32 0x00000000#32) (c2 x3 K n)))
/-- The weights of the third block. -/
def a2 : FVec F S512x512 .f32 := k0_pay176 (nz2 x3 K n) k0_pay174 (Scalar.ofBits .f32 0x00000000#32) U (c2 x3 K n)
/-- The accumulator after the third block. -/
def O2 : Vec F S1024x128 .f32 := VecWindow.put (O3 x3 K V U n) ![512, 0] S512x128.size
  (k0_pay180 (a2 x3 K U n) (View.ld (O3 x3 K V U n) (Rect.unit (s := S1024x128) ![512, 0] S512x128.size inb_S1024x128_S512x128_512_0)) (vblk V (n + 2)))

def c1 : Vec F S768x256 .f32 := View.ld (C2 x3 K n) (Rect.unit (s := S1024x256) ![256, 0] S768x256.size inb_S1024x256_S768x256_256_0)
/-- The carry after the second block. -/
def C1 : Vec F S1024x256 .f32 := VecWindow.put (C2 x3 K n) ![256, 0] S768x256.size (k0_pay184 (k0_pay182 (nz1 x3 K n)) (c1 x3 K n))
/-- The weights of the second block. -/
def a1 : FVec F S768x512 .bf16 := k0_pay185 k0_pay181 (k0_pay182 (nz1 x3 K n)) (k0_pay183 (nz1 x3 K n)) U (c1 x3 K n)
/-- The accumulator after the second block. -/
def O1 : Vec F S1024x128 .f32 := VecWindow.put (O2 x3 K V U n) ![256, 0] S768x128.size
  (k0_pay187 (a1 x3 K U n) (View.ld (O2 x3 K V U n) (Rect.unit (s := S1024x128) ![256, 0] S768x128.size inb_S1024x128_S768x128_256_0)) (vblk V (n + 1)))

/-- The carry after the first block. -/
def C0 : Vec F S1024x256 .f32 := k0_pay192 (k0_pay189 (nz0 x3 K n)) (C1 x3 K n)
/-- The weights of the first block. -/
def a0 : FVec F S1024x512 .bf16 := k0_pay193 k0_pay188 (k0_pay190 (C1 x3 K n)) (k0_pay191 (nz0 x3 K n) U)

/-- What a tile carries after its own four blocks: the first block's weights are pending and the scores of the block
    before the tile are computed. `n` is the number of the tile's first block. -/
def diag : Acc F := ⟨O1 x3 K V U n, C0 x3 K n, nzM (k0_pay162 x3) (kblk K (n - 1)), a0 x3 K U n⟩

/-- What a tile carries when only the last pending product is left. -/
def tileAcc : Acc F := Acc.steps (k0_pay162 x3) K V U n (diag x3 K V U n) n
/-- A tile's result. -/
def tileOut : Vec F S1x1024x128 .bf16 := k0_pay2 (k0_pay1 (tileAcc x3 K V U n).a (tileAcc x3 K V U n).o (vblk V 0))
end Diag

theorem steps_add (q : FVec F S1024x256 .bf16) (K : Vec F S32x512x256 .bf16) (V : Vec F S32x512x128 .bf16) (U : Vec F S256x256 .bf16) (b : ℕ) (A : Acc F) (m : ℕ) :
    ∀ n : ℕ, Acc.steps q K V U b A (m + n) = Acc.steps q K V U (b - m) (Acc.steps q K V U b A m) n
  | 0 => rfl
  | n + 1 => by
    show Acc.step q K V U (b - (m + n)) (Acc.steps q K V U b A (m + n)) = Acc.step q K V U (b - m - n) _
    rw [steps_add q K V U b A m n, Nat.sub_sub]

theorem first_iff : ∀ i : grid0.Coords, Scalar.cmpi .ne (Scalar.extui (Scalar.cmpi .eq (BitVec.ofNat 32 (i 2).val) 0#32) : BitVec 32) 0#32 = 1#1 ↔ (i 2).val = 0 := by decide +kernel
theorem odd_iff : ∀ i : grid0.Coords, k0_cond2 i = 1#1 ↔ (i 2).val % 2 = 1 := by decide +kernel
theorem t1_trips : ∀ i : grid0.Coords, (k0_t1_loop i).trips = (i 2).val / 2 := by decide +kernel
theorem t2_trips : ∀ i : grid0.Coords, (k0_t2_loop i).trips = 0 := by decide +kernel
theorem off3_eq : ∀ i : grid0.Coords, k0_off3 i = ![4 * (i 2).val - 1, 0, 0] := by decide +kernel
theorem off2_eq : ∀ i : grid0.Coords, ∀ r : Fin 3, k0_off2 i (BitVec.ofNat 32 (1 + r.val)) = ![4 * (i 2).val + (r.val + 1), 0, 0] := by decide +kernel

variable {c : Dev nD} {M : Mems} {β : Type} {s : St F}

theorem acc_eq {s : St F} {A : Acc F} (h : s.acc = A) : s.x11 = A.o ∧ s.x12 = A.c ∧ s.x13 = A.nz ∧ s.x15 = A.a := by subst h; exact ⟨rfl, rfl, rfl, rfl⟩
theorem Kept.trans {s s' s'' : St F} (h : Kept s s') (h' : Kept s' s'') : Kept s s'' := by
  obtain ⟨a, b, c, d, e, f, g⟩ := h; obtain ⟨a', b', c', d', e', f', g'⟩ := h'
  exact ⟨a'.trans a, b'.trans b, c'.trans c, d'.trans d, e'.trans e, f'.trans f, g'.trans g⟩

set_option maxHeartbeats 2000000 in
/-- The last four blocks of an odd tile. -/
theorem last4_runs (i : grid0.Coords) (q : FVec F S1024x256 .bf16) (hc : k0_cond2 i = 1#1) {Q : FVec F S1024x512 .bf16 → St F → Prop}
    (hQ : ∀ w s', Kept s s' → St.acc {s' with x15 := k0_pay199 w} = Acc.steps q s.x8 s.x9 s.x10 4 s.acc 4 → Q w s') :
    Runs c M (k0_part37 i M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 q hc) s Q := by
  rw [k0_part37_eq_skeleton]; unfold k0_part37_skel; try dsimp only
  refine Runs.bind ?_
  rw [k0_part31_eq_skeleton]; unfold k0_part31_skel; try dsimp only
  refine Runs.load13w ?_
  refine Runs.load8b (4 - 0 - 2) (by decide) ?_
  refine Runs.load14w ?_
  refine Runs.store14w ?_; try dsimp only
  refine Runs.load15w ?_
  refine Runs.load11w ?_
  refine Runs.load9b (4 - 0) (by decide) ?_
  refine Runs.load11w ?_
  refine Runs.store11w ?_; try dsimp only
  refine Runs.pure ?_; try dsimp only
  refine Runs.bind ?_
  rw [k0_part32_eq_skeleton]; unfold k0_part32_skel; try dsimp only
  refine Runs.load10w ?_
  refine Runs.load12w ?_
  refine Runs.load12w ?_
  refine Runs.store12w ?_; try dsimp only
  refine Runs.load16w ?_
  refine Runs.store16w ?_; try dsimp only
  refine Runs.load14w ?_
  refine Runs.load8b (4 - 1 - 2) (by decide) ?_
  refine Runs.load13w ?_
  refine Runs.pure ?_; try dsimp only
  refine Runs.bind ?_
  rw [k0_part33_eq_skeleton]; unfold k0_part33_skel; try dsimp only
  refine Runs.store13w ?_; try dsimp only
  refine Runs.load16w ?_
  refine Runs.load11w ?_
  refine Runs.load9b (4 - 1) (by decide) ?_
  refine Runs.load11w ?_
  refine Runs.store11w ?_; try dsimp only
  refine Runs.load10w ?_
  refine Runs.load12w ?_
  refine Runs.pure ?_; try dsimp only
  refine Runs.bind ?_
  rw [k0_part34_eq_skeleton]; unfold k0_part34_skel; try dsimp only
  refine Runs.load12w ?_
  refine Runs.store12w ?_; try dsimp only
  refine Runs.load15w ?_
  refine Runs.store15w ?_; try dsimp only
  refine Runs.load13w ?_
  refine Runs.load8b (4 - 2 - 2) (by decide) ?_
  refine Runs.load14w ?_
  refine Runs.store14w ?_; try dsimp only
  refine Runs.load15w ?_
  refine Runs.load11w ?_
  refine Runs.load9b (4 - 2) (by decide) ?_
  refine Runs.pure ?_; try dsimp only
  refine Runs.bind ?_
  rw [k0_part35_eq_skeleton]; unfold k0_part35_skel; try dsimp only
  refine Runs.load11w ?_
  refine Runs.store11w ?_; try dsimp only
  refine Runs.load10w ?_
  refine Runs.load12w ?_
  refine Runs.pure ?_; try dsimp only
  refine Runs.bind ?_
  rw [k0_part36_eq_skeleton]; unfold k0_part36_skel; try dsimp only
  refine Runs.load12w ?_
  refine Runs.store12w ?_; try dsimp only
  refine Runs.load16w ?_
  refine Runs.store16w ?_; try dsimp only
  refine Runs.load14w ?_
  refine Runs.load8b (4 - 3 - 2) (by decide) ?_
  refine Runs.load13w ?_
  refine Runs.store13w ?_; try dsimp only
  refine Runs.load16w ?_
  refine Runs.load11w ?_
  refine Runs.load9b (4 - 3) (by decide) ?_
  refine Runs.load11w ?_
  refine Runs.store11w ?_; try dsimp only
  refine Runs.pure ?_; try dsimp only
  refine Runs.load10w ?_
  refine Runs.load12w ?_
  refine Runs.load12w ?_
  refine Runs.store12w ?_; try dsimp only
  refine Runs.load15w ?_
  refine Runs.pure ?_; try dsimp only
  exact hQ _ _ ⟨rfl, rfl, rfl, rfl, rfl, rfl, rfl⟩ rfl

set_option maxHeartbeats 2000000 in
/-- The opening of a grid point: the stacks are prepared at the first tile of a row, the accumulators are cleared, and
    the fourth block's scores are computed. -/
theorem open_runs (i : grid0.Coords) (s1 : St F) (h0 : (i 2).val = 0 → s1 = s.prep) (h1 : (i 2).val ≠ 0 → s1 = s) {Q : _ → St F → Prop}
    (hQ : Q ⟨BitVec.ofNat 32 (i 2).val, k0_pay162 s1.x3, Scalar.muli (BitVec.ofNat 32 (i 2).val) 4#32, k0_pay165 s1.x3 (kblk s1.x8 (4 * (i 2).val + 3)), 3#32⟩ { s1 with x11 := k0_pay163, x12 := k0_pay164 }) :
    Runs c M (k0_part38 i M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16) s Q := by
  rw [k0_part38_eq_skeleton]; unfold k0_part38_skel; try dsimp only
  refine Runs.dite (fun h => ?_) (fun h => ?_)
  · have e := h0 ((first_iff i).1 h); subst e
    refine Runs.bind ?_
    rw [k0_part1_eq_skeleton]; unfold k0_part1_skel; try dsimp only
    refine Runs.load4w ?_
    refine Runs.load8 ?_
    refine Runs.store8 ?_; try dsimp only
    refine Runs.load8 ?_
    refine Runs.store8 ?_; try dsimp only
    refine Runs.load6w ?_
    refine Runs.pure ?_; try dsimp only
    refine Runs.bind ?_
    rw [k0_part2_eq_skeleton]; unfold k0_part2_skel; try dsimp only
    refine Runs.load8 ?_
    refine Runs.store8 ?_; try dsimp only
    refine Runs.load8 ?_
    refine Runs.store8 ?_; try dsimp only
    refine Runs.load5w ?_
    refine Runs.load9 ?_
    refine Runs.store9 ?_; try dsimp only
    refine Runs.pure ?_; try dsimp only
    refine Runs.load9 ?_
    refine Runs.store9 ?_; try dsimp only
    refine Runs.load10w ?_
    refine Runs.store10w ?_; try dsimp only
    refine Runs.load3w ?_
    refine Runs.load11w ?_
    refine Runs.store11w ?_; try dsimp only
    refine Runs.load12w ?_
    refine Runs.store12w ?_; try dsimp only
    refine Runs.load8b (4 * (i 2).val + 3) (Gen.k0_off1_eq i 3) ?_
    refine Runs.pure ?_; try dsimp only
    exact hQ
  · have e := h1 (fun h' => h ((first_iff i).2 h')); subst e
    refine Runs.load3w ?_
    refine Runs.load11w ?_
    refine Runs.store11w ?_; try dsimp only
    refine Runs.load12w ?_
    refine Runs.store12w ?_; try dsimp only
    refine Runs.load8b (4 * (i 2).val + 3) (Gen.k0_off1_eq i 3) ?_
    refine Runs.pure ?_; try dsimp only
    exact hQ

set_option maxHeartbeats 2000000 in
/-- The close of a grid point's own four blocks and the walk over the blocks before the tile. -/
theorem walk_runs (i : grid0.Coords) (arg2 : BitVec 32) (v12 : FVec F S1024x256 .bf16) (v21 : BitVec 32) (v237 : FVec F S1024x512 .f32) (v251 : IVec S1024x512 1) (v265 : FVec F S1024x512 .f32) (v276 : Vec F S1024x256 .f32) (v282 v283 : FVec F S1024x512 .f32) {Q : PUnit → St F → Prop}
    (hQ : ∀ s', Kept s s' → s'.acc = Acc.steps v12 s.x8 s.x9 s.x10 (4 * (i 2).val) ⟨s.x11, k0_pay192 v265 v276, k0_pay194 v237, k0_pay193 v251 v282 v283⟩ (4 * (i 2).val) → Q PUnit.unit s') :
    Runs c M (k0_part45 i M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 arg2 v12 v21 v237 v251 v265 v276 v282 v283) s Q := by
  rw [k0_part45_eq_skeleton]; unfold k0_part45_skel; try dsimp only
  refine Runs.load12w ?_
  refine Runs.store12w ?_; try dsimp only
  refine Runs.load15w ?_
  refine Runs.store15w ?_; try dsimp only
  refine Runs.load13w ?_
  refine Runs.store13w ?_; try dsimp only
  generalize hA : (⟨s.x11, k0_pay192 v265 v276, k0_pay194 v237, k0_pay193 v251 v282 v283⟩ : Acc F) = A at hQ
  refine Runs.bind (Runs.conseq (Runs.loop (fun k _ s' => Kept s s' ∧ s'.acc = Acc.steps v12 s.x8 s.x9 s.x10 (4 * (i 2).val) A (8 * k)) ⟨⟨rfl, rfl, rfl, rfl, rfl, rfl, rfl⟩, hA⟩ ?_) ?_)
  · rintro k r0 s' ⟨hk, ha⟩
    refine Runs.conseq (trip_runs i k r0 arg2 v12 v21 v237 v251 v265 v276 v282 v283) ?_
    rintro _ s'' ⟨hk', ha'⟩
    refine ⟨hk.trans hk', ?_⟩
    obtain ⟨-, -, -, -, h8, h9, h10⟩ := hk
    rw [ha', h8, h9, h10, ha, Nat.mul_add, steps_add]
  rintro r1 s1 ⟨hk1, ha1⟩
  try dsimp only
  refine Runs.bind (Runs.conseq (Runs.loop (fun _ _ s' => Kept s s' ∧ s'.acc = Acc.steps v12 s.x8 s.x9 s.x10 (4 * (i 2).val) A (8 * ((i 2).val / 2))) ⟨hk1, by rw [ha1, t1_trips]⟩ ?_) ?_)
  · intro k; have h1 := k.isLt; have h2 := t2_trips i; omega
  rintro r2 s2 ⟨hk2, ha2⟩
  try dsimp only
  refine Runs.dite (fun h => ?_) (fun h => ?_)
  · refine Runs.bind (last4_runs i v12 h fun w s3 hk3 ha3 => ?_)
    try dsimp only
    refine Runs.store15w ?_; try dsimp only
    refine Runs.pure ?_; try dsimp only
    refine hQ { s3 with x15 := k0_pay199 w } (hk2.trans hk3) ?_
    obtain ⟨-, -, -, -, h8, h9, h10⟩ := hk2
    rw [ha3, h8, h9, h10, ha2]
    have ho := (odd_iff i).1 h
    have e : 4 * (i 2).val - 8 * ((i 2).val / 2) = 4 := by omega
    have e' : 8 * ((i 2).val / 2) + 4 = 4 * (i 2).val := by omega
    have := steps_add v12 s.x8 s.x9 s.x10 (4 * (i 2).val) A (8 * ((i 2).val / 2)) 4
    rw [e, e'] at this
    exact this.symm
  · refine Runs.pure ?_; try dsimp only
    refine hQ s2 hk2 ?_
    have ho : ¬ (i 2).val % 2 = 1 := fun h' => h ((odd_iff i).2 h')
    rw [ha2]
    congr 1; omega

set_option maxHeartbeats 2000000 in
/-- A grid point runs from any contents: it prepares the stacks at the first tile of a row, and leaves the tile's
    result in the result window. -/
theorem point_runs (i : grid0.Coords) (s1 : St F) (h0 : (i 2).val = 0 → s1 = s.prep) (h1 : (i 2).val ≠ 0 → s1 = s) :
    Runs c M (cc0_attention_prompt (F := F) i M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16) s
      (fun _ s' => Kept s1 s' ∧ s'.x7 = tileOut s1.x3 s1.x8 s1.x9 s1.x10 (4 * (i 2).val)) := by
  rw [cc0_attention_prompt_eq_skeleton]; unfold cc0_attention_prompt_skel; try dsimp only
  refine Runs.bind (open_runs i s1 h0 h1 ?_); try dsimp only
  refine Runs.bind ?_
  rw [k0_part39_eq_skeleton]; unfold k0_part39_skel; try dsimp only
  refine Runs.load8b (4 * (i 2).val + 2) (Gen.k0_off1_eq i 2) ?_
  refine Runs.load10w ?_
  refine Runs.load12 ?_
  refine Runs.pure ?_; try dsimp only
  refine Runs.bind ?_
  rw [k0_part40_eq_skeleton]; unfold k0_part40_skel; try dsimp only
  refine Runs.load12 ?_
  refine Runs.store12 ?_; try dsimp only
  refine Runs.load8b (4 * (i 2).val + 1) (Gen.k0_off1_eq i 1) ?_
  refine Runs.load11 ?_
  refine Runs.load9b (4 * (i 2).val + 3) (off2_eq i 2) ?_
  refine Runs.load11 ?_
  refine Runs.store11 ?_; try dsimp only
  refine Runs.pure ?_; try dsimp only
  refine Runs.bind ?_
  rw [k0_part41_eq_skeleton]; unfold k0_part41_skel; try dsimp only
  refine Runs.load10w ?_
  refine Runs.load12 ?_
  refine Runs.load12 ?_
  refine Runs.pure ?_; try dsimp only
  refine Runs.bind ?_
  rw [k0_part42_eq_skeleton]; unfold k0_part42_skel; try dsimp only
  refine Runs.store12 ?_; try dsimp only
  refine Runs.load8b (4 * (i 2).val) (Gen.k0_off1_eq i 0) ?_
  refine Runs.load11 ?_
  refine Runs.load9b (4 * (i 2).val + 2) (off2_eq i 1) ?_
  refine Runs.load11 ?_
  refine Runs.store11 ?_; try dsimp only
  refine Runs.pure ?_; try dsimp only
  refine Runs.bind ?_
  rw [k0_part43_eq_skeleton]; unfold k0_part43_skel; try dsimp only
  refine Runs.load10w ?_
  refine Runs.load12 ?_
  refine Runs.load12 ?_
  refine Runs.store12 ?_; try dsimp only
  refine Runs.load8b (4 * (i 2).val - 1) (off3_eq i) ?_
  refine Runs.pure ?_; try dsimp only
  refine Runs.bind ?_
  rw [k0_part44_eq_skeleton]; unfold k0_part44_skel; try dsimp only
  refine Runs.load11 ?_
  refine Runs.load9b (4 * (i 2).val + 1) (off2_eq i 0) ?_
  refine Runs.load11 ?_
  refine Runs.store11 ?_; try dsimp only
  refine Runs.load10w ?_
  refine Runs.load12w ?_
  refine Runs.pure ?_; try dsimp only
  refine Runs.bind (walk_runs i _ _ _ _ _ _ _ _ _ fun s2 hk ha => ?_); try dsimp only
  obtain ⟨e11, e12, e13, e15⟩ := acc_eq ha
  refine Runs.load15w ?_
  refine Runs.load11w ?_
  refine Runs.load9b 0 rfl ?_
  refine Runs.load11w ?_
  refine Runs.store11w ?_; try dsimp only
  refine Runs.load11w ?_
  refine Runs.load7w ?_
  refine Runs.store7w ?_; try dsimp only
  refine Runs.pure ?_; try dsimp only
  refine ⟨hk, ?_⟩
  have e9 := hk.2.2.2.2.2.1
  rw [e15, e11, e9]
  rfl

end Cert.Proof.KernelIdeal
end
-- ==== Proof.Stacks.lean ====
module

public import proofs.«01_k».proof.Proof.Body

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! # Writing a window of an array, index by index -/

section Put
variable {α : Type} {s : Shape}

/-- Inside the window a put array is the payload. -/
theorem put_in (x : s.Idx → α) (off size : Fin s.rank → ℕ) (w : ((a : Fin s.rank) → Fin (size a)) → α) (y : s.Idx)
    (z : (a : Fin s.rank) → Fin (size a)) (h : ∀ a, (y a).val = off a + (z a).val) : VecWindow.put x off size w y = w z := by
  have hy : ∀ a, off a ≤ (y a).val ∧ (y a).val < off a + size a := fun a => by
    have := (z a).isLt; have := h a; omega
  unfold VecWindow.put
  rw [dif_pos hy]
  refine congrArg w (funext fun a => Fin.ext ?_)
  have := h a
  show (y a).val - off a = (z a).val
  omega

/-- Outside the window a put array is what it was. -/
theorem put_out (x : s.Idx → α) (off size : Fin s.rank → ℕ) (w : ((a : Fin s.rank) → Fin (size a)) → α) (y : s.Idx)
    (a : Fin s.rank) (h : (y a).val < off a ∨ off a + size a ≤ (y a).val) : VecWindow.put x off size w y = x y := by
  unfold VecWindow.put
  refine dif_neg fun hy => ?_
  have := hy a; omega
end Put

section Stacks
variable (x4 x5 : Vec F S1x8192x128 .bf16) (x6 : Vec F S1x2x128 .f32) (x8 : Vec F S32x512x256 .bf16) (x9 : Vec F S32x512x128 .bf16)
  (j : Fin 32) (r : Fin 256) (l : Fin 128)

theorem kInit_00 : kInit x4 x6 x8 (ix3 j (⟨r.val, by omega⟩ : Fin 512) (⟨l.val, by omega⟩ : Fin 256)) = k0_pay6 x4 (ix3 j r l) := by
  unfold kInit
  rw [put_out _ _ _ _ _ (1 : Fin 3) (.inl (by show r.val < 256; omega)), put_out _ _ _ _ _ (2 : Fin 3) (.inl (by show l.val < 128; omega)),
    put_out _ _ _ _ _ (1 : Fin 3) (.inl (by show r.val < 256; omega))]
  exact put_in (s := S32x512x256) _ _ _ _ _ (show (⟨3, ![32, 256, 128]⟩ : Shape).Idx from ix3 j r l) fun a => match a with
    | 0 => (Nat.zero_add _).symm | 1 => (Nat.zero_add _).symm | 2 => (Nat.zero_add _).symm

theorem kInit_10 : kInit x4 x6 x8 (ix3 j (⟨256 + r.val, by omega⟩ : Fin 512) (⟨l.val, by omega⟩ : Fin 256)) = k0_pay7 x4 (ix3 j r l) := by
  unfold kInit
  rw [put_out _ _ _ _ _ (2 : Fin 3) (.inl (by show l.val < 128; omega)), put_out _ _ _ _ _ (2 : Fin 3) (.inl (by show l.val < 128; omega))]
  exact put_in (s := S32x512x256) _ _ _ _ _ (show (⟨3, ![32, 256, 128]⟩ : Shape).Idx from ix3 j r l) fun a => match a with
    | 0 => (Nat.zero_add _).symm | 1 => rfl | 2 => (Nat.zero_add _).symm

theorem kInit_01 : kInit x4 x6 x8 (ix3 j (⟨r.val, by omega⟩ : Fin 512) (⟨128 + l.val, by omega⟩ : Fin 256)) = kOff x6 k0_pay12 (ix3 j r l) := by
  unfold kInit
  rw [put_out _ _ _ _ _ (1 : Fin 3) (.inl (by show r.val < 256; omega))]
  exact put_in (s := S32x512x256) _ _ _ _ _ (show (⟨3, ![32, 256, 128]⟩ : Shape).Idx from ix3 j r l) fun a => match a with
    | 0 => (Nat.zero_add _).symm | 1 => (Nat.zero_add _).symm | 2 => rfl

theorem kInit_11 : kInit x4 x6 x8 (ix3 j (⟨256 + r.val, by omega⟩ : Fin 512) (⟨128 + l.val, by omega⟩ : Fin 256)) = kOff x6 k0_pay13 (ix3 j r l) := by
  unfold kInit
  exact put_in (s := S32x512x256) _ _ _ _ _ (show (⟨3, ![32, 256, 128]⟩ : Shape).Idx from ix3 j r l) fun a => match a with
    | 0 => (Nat.zero_add _).symm | 1 => rfl | 2 => rfl

theorem vInit_0 : vInit x5 x9 (ix3 j (⟨r.val, by omega⟩ : Fin 512) l) = k0_pay15 k0_pay3 x5 (ix3 j r l) := by
  unfold vInit
  rw [put_out _ _ _ _ _ (1 : Fin 3) (.inl (by show r.val < 256; omega))]
  exact put_in (s := S32x512x128) _ _ _ _ _ (show (⟨3, ![32, 256, 128]⟩ : Shape).Idx from ix3 j r l) fun a => match a with
    | 0 => (Nat.zero_add _).symm | 1 => (Nat.zero_add _).symm | 2 => (Nat.zero_add _).symm

theorem vInit_1 : vInit x5 x9 (ix3 j (⟨256 + r.val, by omega⟩ : Fin 512) l) = k0_pay160 (k0_pay14 x5) (k0_pay16 k0_pay4) (ix3 j r l) := by
  unfold vInit
  exact put_in (s := S32x512x128) _ _ _ _ _ (show (⟨3, ![32, 256, 128]⟩ : Shape).Idx from ix3 j r l) fun a => match a with
    | 0 => (Nat.zero_add _).symm | 1 => rfl | 2 => (Nat.zero_add _).symm
end Stacks

/-- An index of a rank-three shape by its coordinates. -/
theorem ix3_eta {A B C : ℕ} (y : (⟨3, ![A, B, C]⟩ : Shape).Idx) : y = ix3 (⟨(y 0).val, (y 0).isLt⟩ : Fin A) (⟨(y 1).val, (y 1).isLt⟩ : Fin B) (⟨(y 2).val, (y 2).isLt⟩ : Fin C) := by
  funext a; match a with | 0 => rfl | 1 => rfl | 2 => rfl

/-- The stacked keys do not depend on what the array held. -/
theorem kInit_old (x4 : Vec F S1x8192x128 .bf16) (x6 : Vec F S1x2x128 .f32) (a b : Vec F S32x512x256 .bf16) : kInit x4 x6 a = kInit x4 x6 b := by
  funext y
  have h0 : (y 0).val < 32 := (y 0).isLt
  have h1 : (y 1).val < 512 := (y 1).isLt
  have h2 : (y 2).val < 256 := (y 2).isLt
  rw [ix3_eta (A := 32) (B := 512) (C := 256) y]
  by_cases hr : (y 1).val < 256 <;> by_cases hl : (y 2).val < 128
  · exact (kInit_00 x4 x6 a ⟨(y 0).val, h0⟩ ⟨(y 1).val, hr⟩ ⟨(y 2).val, hl⟩).trans (kInit_00 x4 x6 b ⟨(y 0).val, h0⟩ ⟨(y 1).val, hr⟩ ⟨(y 2).val, hl⟩).symm
  · obtain ⟨l, hl'⟩ : ∃ l : Fin 128, (y 2).val = 128 + l.val := ⟨⟨(y 2).val - 128, by omega⟩, by show _ = 128 + (_ - 128); omega⟩
    simp only [hl']
    exact (kInit_01 x4 x6 a ⟨(y 0).val, h0⟩ ⟨(y 1).val, hr⟩ l).trans (kInit_01 x4 x6 b ⟨(y 0).val, h0⟩ ⟨(y 1).val, hr⟩ l).symm
  · obtain ⟨r, hr'⟩ : ∃ r : Fin 256, (y 1).val = 256 + r.val := ⟨⟨(y 1).val - 256, by omega⟩, by show _ = 256 + (_ - 256); omega⟩
    simp only [hr']
    exact (kInit_10 x4 x6 a ⟨(y 0).val, h0⟩ r ⟨(y 2).val, hl⟩).trans (kInit_10 x4 x6 b ⟨(y 0).val, h0⟩ r ⟨(y 2).val, hl⟩).symm
  · obtain ⟨l, hl'⟩ : ∃ l : Fin 128, (y 2).val = 128 + l.val := ⟨⟨(y 2).val - 128, by omega⟩, by show _ = 128 + (_ - 128); omega⟩
    obtain ⟨r, hr'⟩ : ∃ r : Fin 256, (y 1).val = 256 + r.val := ⟨⟨(y 1).val - 256, by omega⟩, by show _ = 256 + (_ - 256); omega⟩
    simp only [hl', hr']
    exact (kInit_11 x4 x6 a ⟨(y 0).val, h0⟩ r l).trans (kInit_11 x4 x6 b ⟨(y 0).val, h0⟩ r l).symm

/-- The stacked values do not depend on what the array held. -/
theorem vInit_old (x5 : Vec F S1x8192x128 .bf16) (a b : Vec F S32x512x128 .bf16) : vInit x5 a = vInit x5 b := by
  funext y
  have h0 : (y 0).val < 32 := (y 0).isLt
  have h1 : (y 1).val < 512 := (y 1).isLt
  have h2 : (y 2).val < 128 := (y 2).isLt
  rw [ix3_eta (A := 32) (B := 512) (C := 128) y]
  by_cases hr : (y 1).val < 256
  · exact (vInit_0 x5 a ⟨(y 0).val, h0⟩ ⟨(y 1).val, hr⟩ ⟨(y 2).val, h2⟩).trans (vInit_0 x5 b ⟨(y 0).val, h0⟩ ⟨(y 1).val, hr⟩ ⟨(y 2).val, h2⟩).symm
  · obtain ⟨r, hr'⟩ : ∃ r : Fin 256, (y 1).val = 256 + r.val := ⟨⟨(y 1).val - 256, by omega⟩, by show _ = 256 + (_ - 256); omega⟩
    simp only [hr']
    exact (vInit_1 x5 a ⟨(y 0).val, h0⟩ r ⟨(y 2).val, h2⟩).trans (vInit_1 x5 b ⟨(y 0).val, h0⟩ r ⟨(y 2).val, h2⟩).symm

end Cert.Proof.KernelIdeal
end
-- ==== Proof.Launch.lean ====
module

public import proofs.«01_k».proof.Proof.Stacks

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]
local notation "𝕄" => MT nD τ sig Unit (Elt F) ℕ (UR sig nD τ) ℕ

/-! # The launch: every grid point in turn -/

variable (m : (ℓ : Loc nD τ sig) → Buf (Elt F) ℓ) (ρ : Dev nD → PrngReg)

/-- The grid coordinates of a point. -/
theorem crd : ∀ t : Fin grid0.N, (grid0.coords t 0).val = t.val / 32 ∧ (grid0.coords t 1).val = t.val / 8 % 4 ∧ (grid0.coords t 2).val = t.val % 8 := by decide +kernel

theorem idx0 : ∀ t : Fin grid0.N, win0_0.index t 0 = t.val / 32 ∧ win0_0.index t 1 = t.val % 8 ∧ win0_0.index t 2 = t.val / 8 % 4 := by decide +kernel
theorem idx1 : ∀ t : Fin grid0.N, win0_1.index t 0 = t.val / 32 ∧ win0_1.index t 1 = 0 ∧ win0_1.index t 2 = t.val / 8 % 4 := by decide +kernel
theorem idx2 : ∀ t : Fin grid0.N, win0_2.index t 0 = t.val / 32 ∧ win0_2.index t 1 = 0 ∧ win0_2.index t 2 = t.val / 8 % 4 := by decide +kernel
theorem idx3 : ∀ t : Fin grid0.N, win0_3.index t 0 = t.val / 8 % 4 ∧ win0_3.index t 1 = 0 ∧ win0_3.index t 2 = 0 := by decide +kernel
theorem idx4 : ∀ t : Fin grid0.N, win0_4.index t 0 = t.val / 32 ∧ win0_4.index t 1 = t.val % 8 ∧ win0_4.index t 2 = t.val / 8 % 4 := by decide +kernel

theorem lt64 (t : Fin grid0.N) : t.val < 64 := lt_of_lt_of_eq t.isLt N_0

/-- The query block of a point, read at an index. -/
theorem iblk0_apply (c : Dev nD) (t : Fin grid0.N) (r : Fin 1024) (l : Fin 128) :
    (iblk m c 0 t : Vec F S1x1024x128 .f32) (ix3 (0 : Fin 1) r l)
      = (V m c main_arg0 : Vec F S2x8192x512 .f32) (ix3 (⟨t.val / 32, by have := lt64 t; omega⟩ : Fin 2) (⟨t.val % 8 * 1024 + r.val, by omega⟩ : Fin 8192) (⟨t.val / 8 % 4 * 128 + l.val, by omega⟩ : Fin 512)) := by
  obtain ⟨h0, h1, h2⟩ := idx0 t
  unfold iblk
  rw [View.read_apply]
  refine congrArg (V m c main_arg0 : Vec F S2x8192x512 .f32) (funext fun a => Fin.ext ?_)
  match a with
  | ⟨0, _⟩ => show win0_0.index t 0 * 1 + 1 * 0 = t.val / 32; rw [h0]; omega
  | ⟨1, _⟩ => show win0_0.index t 1 * 1024 + 1 * r.val = _; rw [h1]; show _ = t.val % 8 * 1024 + r.val; omega
  | ⟨2, _⟩ => show win0_0.index t 2 * 128 + 1 * l.val = _; rw [h2]; show _ = t.val / 8 % 4 * 128 + l.val; omega

/-- The key block of a point, read at an index. -/
theorem iblk1_apply (c : Dev nD) (t : Fin grid0.N) (r : Fin 8192) (l : Fin 128) :
    (iblk m c 1 t : Vec F S1x8192x128 .bf16) (ix3 (0 : Fin 1) r l)
      = (V m c main_v0 : Vec F S2x8192x512 .bf16) (ix3 (⟨t.val / 32, by have := lt64 t; omega⟩ : Fin 2) r (⟨t.val / 8 % 4 * 128 + l.val, by omega⟩ : Fin 512)) := by
  obtain ⟨h0, h1, h2⟩ := idx1 t
  unfold iblk
  rw [View.read_apply]
  refine congrArg (V m c main_v0 : Vec F S2x8192x512 .bf16) (funext fun a => Fin.ext ?_)
  match a with
  | ⟨0, _⟩ => show win0_1.index t 0 * 1 + 1 * 0 = t.val / 32; rw [h0]; omega
  | ⟨1, _⟩ => show win0_1.index t 1 * 8192 + 1 * r.val = r.val; rw [h1]; omega
  | ⟨2, _⟩ => show win0_1.index t 2 * 128 + 1 * l.val = _; rw [h2]; show _ = t.val / 8 % 4 * 128 + l.val; omega

/-- The value block of a point, read at an index. -/
theorem iblk2_apply (c : Dev nD) (t : Fin grid0.N) (r : Fin 8192) (l : Fin 128) :
    (iblk m c 2 t : Vec F S1x8192x128 .bf16) (ix3 (0 : Fin 1) r l)
      = (V m c main_v1 : Vec F S2x8192x512 .bf16) (ix3 (⟨t.val / 32, by have := lt64 t; omega⟩ : Fin 2) r (⟨t.val / 8 % 4 * 128 + l.val, by omega⟩ : Fin 512)) := by
  obtain ⟨h0, h1, h2⟩ := idx2 t
  unfold iblk
  rw [View.read_apply]
  refine congrArg (V m c main_v1 : Vec F S2x8192x512 .bf16) (funext fun a => Fin.ext ?_)
  match a with
  | ⟨0, _⟩ => show win0_2.index t 0 * 1 + 1 * 0 = t.val / 32; rw [h0]; omega
  | ⟨1, _⟩ => show win0_2.index t 1 * 8192 + 1 * r.val = r.val; rw [h1]; omega
  | ⟨2, _⟩ => show win0_2.index t 2 * 128 + 1 * l.val = _; rw [h2]; show _ = t.val / 8 % 4 * 128 + l.val; omega

/-- The offset block of a point, read at an index. -/
theorem iblk3_apply (c : Dev nD) (t : Fin grid0.N) (h : Fin 2) (l : Fin 128) :
    (iblk m c 3 t : Vec F S1x2x128 .f32) (ix3 (0 : Fin 1) h l)
      = (V m c main_v3 : Vec F S4x2x128 .f32) (ix3 (⟨t.val / 8 % 4, by omega⟩ : Fin 4) h l) := by
  obtain ⟨h0, h1, h2⟩ := idx3 t
  unfold iblk
  rw [View.read_apply]
  refine congrArg (V m c main_v3 : Vec F S4x2x128 .f32) (funext fun a => Fin.ext ?_)
  match a with
  | ⟨0, _⟩ => show win0_3.index t 0 * 1 + 1 * 0 = _; rw [h0]; show _ = t.val / 8 % 4; omega
  | ⟨1, _⟩ => show win0_3.index t 1 * 2 + 1 * h.val = h.val; rw [h1]; omega
  | ⟨2, _⟩ => show win0_3.index t 2 * 128 + 1 * l.val = l.val; rw [h2]; omega

/-- The keys, values and offsets of the points of one row of tiles are the same. -/
theorem row_eq (c : Dev nD) (t t' : Fin grid0.N) (h : t.val / 8 = t'.val / 8) :
    (iblk m c 1 t : Vec F S1x8192x128 .bf16) = iblk m c 1 t' ∧ (iblk m c 2 t : Vec F S1x8192x128 .bf16) = iblk m c 2 t' ∧ (iblk m c 3 t : Vec F S1x2x128 .f32) = iblk m c 3 t' := by
  have h1 : t.val / 32 = t'.val / 32 := by omega
  refine ⟨funext fun y => ?_, funext fun y => ?_, funext fun y => ?_⟩
  · obtain ⟨r, l, rfl⟩ : ∃ (r : Fin 8192) (l : Fin 128), y = ix3 (0 : Fin 1) r l :=
      ⟨⟨(y 1).val, (y 1).isLt⟩, ⟨(y 2).val, (y 2).isLt⟩, funext fun a => match a with | 0 => Fin.ext (by have : (y 0).val < 1 := (y 0).isLt; show (y 0).val = 0; omega) | 1 => rfl | 2 => rfl⟩
    rw [iblk1_apply, iblk1_apply]; simp only [h, h1]
  · obtain ⟨r, l, rfl⟩ : ∃ (r : Fin 8192) (l : Fin 128), y = ix3 (0 : Fin 1) r l :=
      ⟨⟨(y 1).val, (y 1).isLt⟩, ⟨(y 2).val, (y 2).isLt⟩, funext fun a => match a with | 0 => Fin.ext (by have : (y 0).val < 1 := (y 0).isLt; show (y 0).val = 0; omega) | 1 => rfl | 2 => rfl⟩
    rw [iblk2_apply, iblk2_apply]; simp only [h, h1]
  · obtain ⟨r, l, rfl⟩ : ∃ (r : Fin 2) (l : Fin 128), y = ix3 (0 : Fin 1) r l :=
      ⟨⟨(y 1).val, (y 1).isLt⟩, ⟨(y 2).val, (y 2).isLt⟩, funext fun a => match a with | 0 => Fin.ext (by have : (y 0).val < 1 := (y 0).isLt; show (y 0).val = 0; omega) | 1 => rfl | 2 => rfl⟩
    rw [iblk3_apply, iblk3_apply]; simp only [h]

/-- The stacked keys at a point. -/
def Kst (c : Dev nD) (t : Fin grid0.N) : Vec F S32x512x256 .bf16 := kInit (iblk m c 1 t) (iblk m c 3 t) (fun _ => Scalar.ofBits .bf16 0x0000#16)
/-- The stacked values at a point. -/
def Vst (c : Dev nD) (t : Fin grid0.N) : Vec F S32x512x128 .bf16 := vInit (iblk m c 2 t) (fun _ => Scalar.ofBits .bf16 0x0000#16)
/-- The result block a point leaves. -/
def outAt (c : Dev nD) (t : Fin grid0.N) : Vec F S1x1024x128 .bf16 := tileOut (iblk m c 0 t) (Kst m c t) (Vst m c t) k0_pay161 (4 * (t.val % 8))

/-- What the scratch arrays hold before point `n` inside a row of tiles. -/
def Ready (c : Dev nD) (n : ℕ) (s : St F) : Prop := ∀ t : Fin grid0.N, t.val = n → n % 8 ≠ 0 → s.x8 = Kst m c t ∧ s.x9 = Vst m c t ∧ s.x10 = k0_pay161

/-- The nine scratch arrays at given contents. -/
def scr (c : Dev nD) (s : St F) : sProp 𝕄 :=
  iprop(owns (c : Thread nD τ) (Memref.whole cc0_scratch0) fullShare s.x8 ∗ owns (c : Thread nD τ) (Memref.whole cc0_scratch1) fullShare s.x9 ∗ owns (c : Thread nD τ) (Memref.whole cc0_scratch2) fullShare s.x10 ∗ owns (c : Thread nD τ) (Memref.whole cc0_scratch3) fullShare s.x11 ∗ owns (c : Thread nD τ) (Memref.whole cc0_scratch4) fullShare s.x12 ∗ owns (c : Thread nD τ) (Memref.whole cc0_scratch5) fullShare s.x13 ∗ owns (c : Thread nD τ) (Memref.whole cc0_scratch6) fullShare s.x14 ∗ owns (c : Thread nD τ) (Memref.whole cc0_scratch7) fullShare s.x15 ∗ owns (c : Thread nD τ) (Memref.whole cc0_scratch8) fullShare s.x16)

/-- Before point `n`: the scratch arrays, ready if the point is inside a row of tiles. -/
def PhiS (c : Dev nD) (n : ℕ) (_ : n ≤ cfg0.N) : sProp 𝕄 := iprop((∃ s : St F, ⌜Ready m c n s⌝ ∗ scr c s) ∗ ∃ r, prngReg c r)

/-- The proof data of the launch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d

theorem Phi_castSucc (c : Dev nD) (t : Fin cfg0.N) : (dats m 0 c).Φ t.castSucc = PhiS m c t.val (Nat.le_of_lt t.isLt) := by
  dsimp only [dats]; exact Pipeline.Dat.Φ_castSucc (PhiS m c) t

/-- The arrays of a point. -/
def memsAt (t : Fin cfg0.N) : Mems where
  a3 := win0_0.stage (cfg0.slots t 0)
  h3 := hstage0_0 ((cfg0.slots t 0).cast nbuf0_0)
  a4 := win0_1.stage (cfg0.slots t 1)
  h4 := hstage0_1 ((cfg0.slots t 1).cast nbuf0_1)
  a5 := win0_2.stage (cfg0.slots t 2)
  h5 := hstage0_2 ((cfg0.slots t 2).cast nbuf0_2)
  a6 := win0_3.stage (cfg0.slots t 3)
  h6 := hstage0_3 ((cfg0.slots t 3).cast nbuf0_3)
  a7 := win0_4.stage (cfg0.slots t 4)
  h7 := hstage0_4 ((cfg0.slots t 4).cast nbuf0_4)
  a8 := Memref.whole cc0_scratch0
  h8 := Memref.isWhole_whole _
  a9 := Memref.whole cc0_scratch1
  h9 := Memref.isWhole_whole _
  a10 := Memref.whole cc0_scratch2
  h10 := Memref.isWhole_whole _
  a11 := Memref.whole cc0_scratch3
  h11 := Memref.isWhole_whole _
  a12 := Memref.whole cc0_scratch4
  h12 := Memref.isWhole_whole _
  a13 := Memref.whole cc0_scratch5
  h13 := Memref.isWhole_whole _
  a14 := Memref.whole cc0_scratch6
  h14 := Memref.isWhole_whole _
  a15 := Memref.whole cc0_scratch7
  h15 := Memref.isWhole_whole _
  a16 := Memref.whole cc0_scratch8
  h16 := Memref.isWhole_whole _

/-- A grid point from its blocks: it leaves the result block, and the scratch arrays ready for the next point. -/
theorem point_at (c : Dev nD) (t : Fin cfg0.N) (s : St F) (hs : Ready m c t.val s) :
    Runs c (memsAt t) (bodyAt0 t) { s with x3 := iblk m c 0 t, x4 := iblk m c 1 t, x5 := iblk m c 2 t, x6 := iblk m c 3 t }
      (fun _ s' => s'.x3 = iblk m c 0 t ∧ s'.x4 = iblk m c 1 t ∧ s'.x5 = iblk m c 2 t ∧ s'.x6 = iblk m c 3 t ∧ s'.x7 = outAt m c t ∧ Ready m c (t.val + 1) s') := by
  have hc : (grid0.coords t 2).val = t.val % 8 := (crd t).2.2
  have key : ∀ s1 : St F, s1.x3 = iblk m c 0 t → s1.x4 = iblk m c 1 t → s1.x5 = iblk m c 2 t → s1.x6 = iblk m c 3 t → s1.x8 = Kst m c t → s1.x9 = Vst m c t → s1.x10 = k0_pay161 →
      ∀ s' : St F, Kept s1 s' → s'.x7 = tileOut s1.x3 s1.x8 s1.x9 s1.x10 (4 * (grid0.coords t 2).val) →
      s'.x3 = iblk m c 0 t ∧ s'.x4 = iblk m c 1 t ∧ s'.x5 = iblk m c 2 t ∧ s'.x6 = iblk m c 3 t ∧ s'.x7 = outAt m c t ∧ Ready m c (t.val + 1) s' := by
    rintro s1 e3 e4 e5 e6 e8 e9 e10 s' ⟨k3, k4, k5, k6, k8, k9, k10⟩ h7
    refine ⟨k3.trans e3, k4.trans e4, k5.trans e5, k6.trans e6, ?_, ?_⟩
    · rw [h7, e3, e8, e9, e10, hc]; rfl
    · intro t' ht' hn
      obtain ⟨r1, r2, r3⟩ := row_eq m c t t' (by omega)
      refine ⟨k8.trans (e8.trans ?_), k9.trans (e9.trans ?_), k10.trans e10⟩
      · unfold Kst; rw [r1, r3]
      · unfold Vst; rw [r2]
  by_cases h : t.val % 8 = 0
  · refine Runs.conseq (point_runs (grid0.coords t) (St.prep { s with x3 := iblk m c 0 t, x4 := iblk m c 1 t, x5 := iblk m c 2 t, x6 := iblk m c 3 t }) (fun _ => rfl) (fun h' => absurd (hc.trans h) h')) ?_
    rintro _ s' ⟨hk, h7⟩
    exact key _ rfl rfl rfl rfl (kInit_old _ _ _ _) (vInit_old _ _ _) rfl s' hk h7
  · refine Runs.conseq (point_runs (grid0.coords t) { s with x3 := iblk m c 0 t, x4 := iblk m c 1 t, x5 := iblk m c 2 t, x6 := iblk m c 3 t } (fun h' => absurd (hc.symm.trans h') h) (fun _ => rfl)) ?_
    rintro _ s' ⟨hk, h7⟩
    obtain ⟨e8, e9, e10⟩ := hs t rfl h
    exact key { s with x3 := iblk m c 0 t, x4 := iblk m c 1 t, x5 := iblk m c 2 t, x6 := iblk m c 3 t } rfl rfl rfl rfl e8 e9 e10 s' hk h7

/-- The body obligation of the launch. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3]
  rw [Phi_castSucc, show (dats m 0 c).Φ t.succ = PhiS m c (t.val + 1) t.isLt from rfl,
    show (dats m 0 c).owesAt () t.succ = (dats m 0 c).owesAt () t.castSucc from rfl, after0_0, after0_1, after0_2, after0_3, after0_4]
  unfold PhiS scr
  iintro ⟨⟨⟨%s, %hs, H8, H9, H10, H11, H12, H13, H14, H15, H16⟩, Hg⟩, Ho, ⟨%d0, H3⟩, ⟨%d1, H4⟩, ⟨%d2, H5⟩, ⟨%d3, H6⟩, ⟨%d4, H7⟩⟩
  iapply (wp_wand_r frame (wpE (defs₀ (F := F)) 𝒱₀ (c : Thread nD τ) none) Set.univ)
  isplitl [H3 H4 H5 H6 H7 H8 H9 H10 H11 H12 H13 H14 H15 H16]
  · iapply (show held c (memsAt t) _ ⊢ _ from point_at m c t { s with x7 := (dats m 0 c).before 4 t d4 } hs)
    unfold held
    dsimp only [memsAt]
    iframe
  · iintro %r
    unfold held
    dsimp only [memsAt]
    iintro ⟨%s', %hq, H3, H4, H5, H6, H7, H8, H9, H10, H11, H12, H13, H14, H15, H16⟩
    obtain ⟨e3, e4, e5, e6, e7, hr⟩ := hq
    rw [e3, e4, e5, e6, e7]
    iframe
    iexists s'
    iframe
    ipureintro
    exact hr

/-- The first point. -/
def t0 : Fin grid0.N := ⟨0, by decide⟩

/-- What the launch starts from is what the first point needs. -/
theorem start_Phi (c : Dev nD) : Pipeline.ΦA spec0 c ⊢ (dats m 0 c).Φ 0 := by
  show Pipeline.ΦA spec0 c ⊢ PhiS m c 0 (Nat.zero_le _)
  unfold Pipeline.ΦA PhiS scr
  rw [scopedRest0_eq]
  iintro ⟨⟨⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩, Hg⟩
  isplitr [Hg]
  · iexists (⟨iblk m c 0 t0, iblk m c 1 t0, iblk m c 2 t0, iblk m c 3 t0, outAt m c t0, f8, f9, f10, f11, f12, f13, f14, f15, f16⟩ : St F)
    rw [owns_whole, owns_whole, owns_whole, owns_whole, owns_whole, owns_whole, owns_whole, owns_whole, owns_whole]
    iframe
    ipureintro
    intro t _ h
    exact absurd rfl h
  · iexact Hg

/-- What the last point leaves is what the launch gives back. -/
theorem end_Phi (c : Dev nD) : (dats m 0 c).Φ (Fin.last cfg0.N) ⊢ Pipeline.ΦA spec0 c := by
  show PhiS m c cfg0.N (Nat.le_refl _) ⊢ Pipeline.ΦA spec0 c
  unfold Pipeline.ΦA PhiS scr
  rw [scopedRest0_eq]
  simp only [owns_whole]
  iintro ⟨⟨%s, -, H8, H9, H10, H11, H12, H13, H14, H15, H16⟩, Hg⟩
  isplitr [Hg]
  · isplitl [H8]
    · iexists s.x8; iexact H8
    isplitl [H9]
    · iexists s.x9; iexact H9
    isplitl [H10]
    · iexists s.x10; iexact H10
    isplitl [H11]
    · iexists s.x11; iexact H11
    isplitl [H12]
    · iexists s.x12; iexact H12
    isplitl [H13]
    · iexists s.x13; iexact H13
    isplitl [H14]
    · iexists s.x14; iexact H14
    isplitl [H15]
    · iexists s.x15; iexact H15
    iexists s.x16; iexact H16
  · iexact Hg

set_option backward.isDefEq.respectTransparency.types false in
/-- Every run ends with each array of the launch at its final contents and all counters at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ 𝒱₀ m ρ main
    (hbody := fun c => (body_obligation m c).loose) (hshare := fun c => (dats m 0 c).share_full fun _ => rfl) (howed := fun _ _ => rfl) (V := V m)
    (hmain := hmain m 𝒱₀) (hA := fun _ _ => rfl) (hin := start_Phi m) (hout := end_Phi m)

/-- Every run ends with the arguments unchanged and all counters at zero. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) ∧ r.2.sem = fun _ => 0) :=
  θ_run_with_sems (frame_of m ρ (dats m) fun _ _ => rfl) (run_main m ρ)

end Cert.Proof.KernelIdeal
end
-- ==== Proof.Cumsum.lean ====
module

public import Idealize.ShloMosaic.Lib.Pointwise
public import Idealize.ShloMosaic.Lib.IdealHost

@[expose] public section

set_option maxRecDepth 16384

noncomputable section

namespace Cert.Proof.ReferenceIdeal

open Idealize.ShloMosaic Idealize.ShloMosaic.TcCoe Idealize.ShloMosaic.Tactic

/-! # A running sum from the end, at an index -/

theorem fold_add {ι : Type} (L : List ι) (f : ι → EReal) (v : EReal) : L.foldl (fun r n => r + f n) v = v + (L.map f).sum := by
  induction L generalizing v with
  | nil => simp
  | cons a L ih => rw [List.foldl_cons, ih, List.map_cons, List.sum_cons, add_assoc]

/-- The one-row windows' positions are the window's columns. -/
def winEquiv (N : ℕ) : Fin N ≃ (⟨4, ![1, 1, 1, N]⟩ : Shape).Idx where
  toFun k := ix4 (0 : Fin 1) (0 : Fin 1) (0 : Fin 1) k
  invFun w := w 3
  left_inv _ := rfl
  right_inv w := funext fun a => match a with
    | ⟨0, _⟩ => Subsingleton.elim (α := Fin 1) _ _
    | ⟨1, _⟩ => Subsingleton.elim (α := Fin 1) _ _
    | ⟨2, _⟩ => Subsingleton.elim (α := Fin 1) _ _
    | ⟨3, _⟩ => rfl

/-- jnp's reversed `cumsum` along the last of four axes, as it prints: entry `j` is the sum of the entries from `j` on. -/
theorem rev_cumsum {A B C N Nm1 : ℕ} {u : Shape} (x : (⟨4, ![A, B, C, N]⟩ : Shape).Idx → EReal) (init : u.Idx → EReal) (hu : 0 < u.numel)
    (h0 : init (Shape.Idx.first hu) = 0)
    (h : (⟨4, ![A, B, C, N]⟩ : Shape).ReduceWindows ![1, 1, 1, N] ![1, 1, 1, 1] ![0, 0, 0, 0] ![0, 0, 0, Nm1] ⟨4, ![A, B, C, N]⟩)
    (a : Fin A) (b : Fin B) (c : Fin C) (j : Fin N) (G : ℕ → EReal) (hG : ∀ k : Fin N, x (ix4 a b c k) = G k.val) :
    Host.reduceWindowAdd (F := Ideal) (φ := .f32) ![1, 1, 1, N] ![1, 1, 1, 1] ![0, 0, 0, 0] ![0, 0, 0, Nm1] x init h hu (ix4 a b c j) = ∑ s ∈ Finset.Ico j.val N, G s := by
  unfold Host.reduceWindowAdd
  rw [Ideal.hostReduceWindowAdd_def, h0]
  unfold Ideal.hostReduceWindowAdd Host.reduceWindow
  dsimp only
  rw [fold_add, zero_add, ← Fin.sum_univ_def]
  have hj := j.isLt
  refine (Equiv.sum_comp ((winEquiv N).trans (Shape.rowMajor ⟨4, ![1, 1, 1, N]⟩)) _).symm.trans ?_
  refine (Finset.sum_congr rfl (g := fun k : Fin N => if j.val + k.val < N then G (j.val + k.val) else 0) fun k _ => ?_).trans ?_
  · have hs : (Shape.rowMajor ⟨4, ![1, 1, 1, N]⟩).symm (((winEquiv N).trans (Shape.rowMajor ⟨4, ![1, 1, 1, N]⟩)) k) = ix4 (0 : Fin 1) (0 : Fin 1) (0 : Fin 1) k := by
      rw [Equiv.trans_apply, Equiv.symm_apply_apply]; rfl
    simp only [hs]
    by_cases hk : j.val + k.val < N
    · rw [if_pos hk, dif_pos]
      · refine (congrArg x (funext fun q => Fin.ext ?_)).trans (hG ⟨j.val + k.val, hk⟩)
        match q with
        | ⟨0, _⟩ => show a.val * 1 + 0 - 0 = a.val; omega
        | ⟨1, _⟩ => show b.val * 1 + 0 - 0 = b.val; omega
        | ⟨2, _⟩ => show c.val * 1 + 0 - 0 = c.val; omega
        | ⟨3, _⟩ => show j.val * 1 + k.val - 0 = j.val + k.val; omega
      · intro q
        have ha := a.isLt
        have hb := b.isLt
        have hc := c.isLt
        match q with
        | ⟨0, _⟩ => show 0 ≤ a.val * 1 + 0 ∧ a.val * 1 + 0 - 0 < A; omega
        | ⟨1, _⟩ => show 0 ≤ b.val * 1 + 0 ∧ b.val * 1 + 0 - 0 < B; omega
        | ⟨2, _⟩ => show 0 ≤ c.val * 1 + 0 ∧ c.val * 1 + 0 - 0 < C; omega
        | ⟨3, _⟩ => show 0 ≤ j.val * 1 + k.val ∧ j.val * 1 + k.val - 0 < N; omega
    · rw [if_neg hk, dif_neg]
      intro hin
      have h3 := (hin ⟨3, by norm_num⟩).2
      change j.val * 1 + k.val - 0 < N at h3
      omega
  · rw [Fin.sum_univ_eq_sum_range (fun n => if j.val + n < N then G (j.val + n) else 0) N, Finset.sum_Ico_eq_sum_range, ← Finset.sum_filter]
    refine Finset.sum_congr (Finset.ext fun n => ?_) fun _ _ => rfl
    rw [Finset.mem_range, Finset.mem_filter, Finset.mem_range]
    omega

end Cert.Proof.ReferenceIdeal
end
-- ==== Proof.Words.lean ====
module

public import proofs.«01_k».proof.Proof.Body
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

/-! # The kernel's words at exact values: the real functions and the elementwise readings -/

/-- The base-two logarithm of one minus the gate, of minus the logit in base two. -/
def lam (x : ℝ) : ℝ := min x 0 - Real.log (1 + Real.rpow 2 (-max x (-x))) * (Real.log 2)⁻¹

theorem log2e_eq : Named.named (F := Ideal) κ "log2e" (φ := .f32) 0x3FB8AA3B#32 = (((Real.log 2)⁻¹ : ℝ) : EReal) :=
  IdealRules.named_const.ideal_named_scalar _ _ _ _ rfl
theorem qscale_eq : Named.named (F := Ideal) κ "q_scale" (φ := .f32) 0xBE38AA3B#32 = ((-((1 / 8) * (Real.log 2)⁻¹) : ℝ) : EReal) :=
  IdealRules.named_const.ideal_named_scalar _ _ _ _ rfl

theorem coe_max' (a b : ℝ) : max (a : EReal) (b : EReal) = ((max a b : ℝ) : EReal) := (EReal.coe_strictMono.monotone.map_max).symm
theorem coe_min' (a b : ℝ) : min (a : EReal) (b : EReal) = ((min a b : ℝ) : EReal) := (EReal.coe_strictMono.monotone.map_min).symm
theorem coe_sum' {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The elementwise part of the weights at a real. -/
theorem lam_word (x : ℝ) : min (x : EReal) 0 - Ideal.log (1 + FloatOps.exp2 (F := Ideal) (φ := .f32) (0 - FloatOps.absf (F := Ideal) (φ := .f32) (x : EReal))) * (((Real.log 2)⁻¹ : ℝ) : EReal) = (lam x : EReal) := by
  have e1 : FloatOps.absf (F := Ideal) (φ := .f32) (x : EReal) = ((max x (-x) : ℝ) : EReal) := by
    show max (x : EReal) (-(x : EReal)) = _
    rw [← EReal.coe_neg, coe_max']
  have e2 : FloatOps.exp2 (F := Ideal) (φ := .f32) (0 - ((max x (-x) : ℝ) : EReal)) = ((Real.rpow 2 (-max x (-x)) : ℝ) : EReal) := by
    rw [show (0 : EReal) - ((max x (-x) : ℝ) : EReal) = ((-max x (-x) : ℝ) : EReal) from by rw [zero_sub, EReal.coe_neg]]
    exact Ideal.exp2_coe _
  have hp : (0 : ℝ) < Real.rpow 2 (-max x (-x)) := Real.rpow_pos_of_pos (by norm_num) _
  rw [e1, e2, show (1 : EReal) + ((Real.rpow 2 (-max x (-x)) : ℝ) : EReal) = ((1 + Real.rpow 2 (-max x (-x)) : ℝ) : EReal) from by rw [EReal.coe_add, EReal.coe_one],
    Ideal.log_coe, if_neg (by linarith), ← EReal.coe_mul, show (0 : EReal) = ((0 : ℝ) : EReal) from rfl, coe_min', ← EReal.coe_sub]
  rfl

/-- The mask word of a diagonal block. -/
theorem sel_word (j r : ℕ) (hj : j < 512) (hr : r < 1024) (x y : EReal) :
    Scalar.select (IntOp.cmpi CmpIPredicate.slt (IntOp.andi (BitVec.ofNat 32 j) 255#32) (BitVec.ofNat 32 r)) x y = if j % 256 < r then x else y := by
  have h1 : IntOp.andi (BitVec.ofNat 32 j) 255#32 = BitVec.ofNat 32 (j % 256) := by
    show BitVec.ofNat 32 j &&& 255#32 = _
    apply BitVec.eq_of_toNat_eq
    rw [BitVec.toNat_and, BitVec.toNat_ofNat, BitVec.toNat_ofNat, BitVec.toNat_ofNat, show (255 % 2 ^ 32 : ℕ) = 2 ^ 8 - 1 from by norm_num, Nat.and_two_pow_sub_one_eq_mod]
    omega
  rw [h1]
  have h2 : (BitVec.ofNat 32 (j % 256)).slt (BitVec.ofNat 32 r) = decide (j % 256 < r) := by
    rw [BitVec.slt_eq_decide, BitVec.toInt_eq_toNat_of_lt (by rw [BitVec.toNat_ofNat]; omega), BitVec.toInt_eq_toNat_of_lt (by rw [BitVec.toNat_ofNat]; omega), BitVec.toNat_ofNat, BitVec.toNat_ofNat]
    rw [show j % 256 % 2 ^ 32 = j % 256 from by omega, show r % 2 ^ 32 = r from by omega]
    simp only [Nat.cast_lt]
  by_cases h : j % 256 < r
  · rw [if_pos h]
    have : IntOp.cmpi CmpIPredicate.slt (BitVec.ofNat 32 (j % 256)) (BitVec.ofNat 32 r) = 1#1 := by
      unfold IntOp.cmpi; simp [h2, h]
    rw [this]; rfl
  · rw [if_neg h]
    have : IntOp.cmpi CmpIPredicate.slt (BitVec.ofNat 32 (j % 256)) (BitVec.ofNat 32 r) = 0#1 := by
      unfold IntOp.cmpi; simp [h2, h]
    rw [this]; rfl

end Cert.Proof.KernelIdeal
end
-- ==== Proof.Blocks.lean ====
module

public import proofs.«01_k».proof.Proof.Words
public import proofs.«01_k».proof.Proof.Body

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

/-! # The blocks' weights, carries and products at an index -/

/-- The log-remainder of a column under the mask of a diagonal block. -/
def lamM (lim : ℕ) (N : ℕ → ℝ) (j : ℕ) : ℝ := if j % 256 < lim then lam (N j) else 0
/-- The weight of a column from the scores of its row and the carries of the two heads. -/
def wgt (lim : ℕ) (N g : ℕ → ℝ) (j : ℕ) : ℝ :=
  if j % 256 < lim then Real.rpow 2 (lamM lim N j - N j + (∑ x : Fin 256, lamM lim N (256 * (j / 256) + x.val) * (if j % 256 < x.val then 1 else 0)) + g (j / 256)) else 0

theorem lamM_coe (lim : ℕ) (N : ℕ → ℝ) (j : ℕ) : (if j % 256 < lim then (lam (N j) : EReal) else 0) = (lamM lim N j : EReal) := by
  unfold lamM; split_ifs <;> rfl

theorem wgt_coe (lim : ℕ) (N g : ℕ → ℝ) (j : ℕ) : (if j % 256 < lim then FloatOps.exp2 (F := Ideal) (φ := .f32) ((lamM lim N j : EReal) - (N j : EReal)
      + (∑ x : Fin 256, (lamM lim N (256 * (j / 256) + x.val) : EReal) * (if j % 256 < x.val then 1 else 0)) + (g (j / 256) : EReal)) else 0) = (wgt lim N g j : EReal) := by
  unfold wgt
  split_ifs with h
  · have e : (∑ x : Fin 256, (lamM lim N (256 * (j / 256) + x.val) : EReal) * (if j % 256 < x.val then 1 else 0)) = ((∑ x : Fin 256, lamM lim N (256 * (j / 256) + x.val) * (if j % 256 < x.val then 1 else 0) : ℝ) : EReal) := by
      rw [← coe_sum']
      refine Finset.sum_congr rfl fun x _ => ?_
      split_ifs
      · rw [mul_one, mul_one]
      · rw [mul_zero, mul_zero, EReal.coe_zero]
    rw [e, ← EReal.coe_sub, ← EReal.coe_add, ← EReal.coe_add]
    exact Ideal.exp2_coe _
  · rfl

section Read
variable (U : FVec Ideal S256x256 .bf16) (hU : ∀ a b : Fin 256, U (ix2 a b) = if b.val < a.val then (1 : EReal) else 0) (N g : ℕ → ℝ)

/-- The carry after the fourth block. -/
theorem cRead3 (nz : FVec Ideal S256x512 .f32) (c : FVec Ideal S256x256 .f32) (r : Fin 256) (hN : ∀ j (h : j < 512), nz (ix2 r (⟨j, h⟩ : Fin 512)) = (N j : EReal))
    (hc : ∀ l (h : l < 256), c (ix2 r (⟨l, h⟩ : Fin 256)) = (g (l / 128) : EReal)) (l : ℕ) (h : l < 256) :
    k0_pay171 (k0_pay168 nz) c (ix2 r (⟨l, h⟩ : Fin 256)) = ((g (l / 128) + ∑ x : Fin 256, lamM r.val N (256 * (l / 128) + x.val) : ℝ) : EReal) := by
  rw [EReal.coe_add, ← coe_sum']
  simp only [← lamM_coe]
  unfold k0_pay171 k0_pay168 k0_pay167
  pointwise
  by_cases h1 : l < 128
  · rw [show l / 128 = 0 from by omega]
    simp (disch := omega) only [h1, dite_true, if_true, hc, hN, log2e_eq, lam_word, sel_word, if_pos, Nat.mul_zero, Nat.zero_add, show l / 128 = 0 from by omega]
  · rw [show l / 128 = 1 from by omega]
    simp (disch := omega) only [h1, dite_false, if_false, hc, hN, log2e_eq, lam_word, sel_word, if_pos, Nat.mul_one, show l / 128 = 1 from by omega]

include hU in
/-- The weights of the fourth block. -/
theorem aRead3 (nz : FVec Ideal S256x512 .f32) (c : FVec Ideal S256x256 .f32) (r : Fin 256) (hN : ∀ j (h : j < 512), nz (ix2 r (⟨j, h⟩ : Fin 512)) = (N j : EReal))
    (hc : ∀ l (h : l < 256), c (ix2 r (⟨l, h⟩ : Fin 256)) = (g (l / 128) : EReal)) (j : ℕ) (h : j < 512) :
    select k0_pay167 (k0_pay169 nz U c) k0_pay170 (ix2 r (⟨j, h⟩ : Fin 512)) = (wgt r.val N g j : EReal) := by
  rw [← wgt_coe]
  simp only [← lamM_coe]
  unfold k0_pay169 k0_pay170 k0_pay168 k0_pay167
  pointwise
  rcases (show j < 128 ∨ (128 ≤ j ∧ j < 256) ∨ (256 ≤ j ∧ j < 384) ∨ 384 ≤ j from by omega) with h1 | h1 | h1 | h1
  · rw [show j / 256 = 0 from by omega, show j % 256 = j from by omega]
    simp (disch := omega) only [dif_pos, dif_neg, hc, hU, hN, log2e_eq, lam_word, sel_word, if_pos, Nat.mul_zero, Nat.zero_add, show j / 128 = 0 from by omega, show j % 256 = j from by omega, ite_mul, zero_mul]
  · rw [show j / 256 = 0 from by omega, show j % 256 = j from by omega]
    simp (disch := omega) only [dif_pos, dif_neg, hc, hU, hN, log2e_eq, lam_word, sel_word, if_pos, Nat.mul_zero, Nat.zero_add, show (j - 128) / 128 = 0 from by omega, show j % 256 = j from by omega, ite_mul, zero_mul]
  · rw [show j / 256 = 1 from by omega, show j % 256 = j - 256 from by omega]
    simp (disch := omega) only [dif_pos, dif_neg, hc, hU, hN, log2e_eq, lam_word, sel_word, if_pos, Nat.mul_one, show (128 + (j - 128 - 128)) / 128 = 1 from by omega, show j % 256 = j - 256 from by omega, ite_mul, zero_mul]
  · rw [show j / 256 = 1 from by omega, show j % 256 = j - 256 from by omega]
    simp (disch := omega) only [dif_pos, dif_neg, hc, hU, hN, log2e_eq, lam_word, sel_word, if_pos, Nat.mul_one, show (128 + (j - 128 - 128 - 128)) / 128 = 1 from by omega, show j % 256 = j - 256 from by omega, ite_mul, zero_mul]

/-- The carry after the third block. -/
theorem cRead2 (nz : FVec Ideal S512x512 .f32) (c : FVec Ideal S512x256 .f32) (r : Fin 512) (hN : ∀ j (h : j < 512), nz (ix2 r (⟨j, h⟩ : Fin 512)) = (N j : EReal))
    (hc : ∀ l (h : l < 256), c (ix2 r (⟨l, h⟩ : Fin 256)) = (g (l / 128) : EReal)) (l : ℕ) (h : l < 256) :
    k0_pay178 (k0_pay177 nz k0_pay174 (Scalar.ofBits .f32 0x00000000#32) c) (ix2 r (⟨l, h⟩ : Fin 256)) = ((g (l / 128) + ∑ x : Fin 256, lamM r.val N (256 * (l / 128) + x.val) : ℝ) : EReal) := by
  rw [EReal.coe_add, ← coe_sum']
  simp only [← lamM_coe]
  unfold k0_pay178 k0_pay177 k0_pay174 k0_pay175
  pointwise
  by_cases h1 : l < 128
  · rw [show l / 128 = 0 from by omega]
    simp (disch := omega) only [h1, dite_true, if_true, hc, hN, log2e_eq, lam_word, sel_word, if_pos, Nat.mul_zero, Nat.zero_add, show l / 128 = 0 from by omega]
  · rw [show l / 128 = 1 from by omega]
    simp (disch := omega) only [h1, dite_false, if_false, hc, hN, log2e_eq, lam_word, sel_word, if_pos, Nat.mul_one, show l / 128 = 1 from by omega]

include hU in
/-- The weights of the third block. -/
theorem aRead2 (nz : FVec Ideal S512x512 .f32) (c : FVec Ideal S512x256 .f32) (r : Fin 512) (hN : ∀ j (h : j < 512), nz (ix2 r (⟨j, h⟩ : Fin 512)) = (N j : EReal))
    (hc : ∀ l (h : l < 256), c (ix2 r (⟨l, h⟩ : Fin 256)) = (g (l / 128) : EReal)) (j : ℕ) (h : j < 512) :
    k0_pay176 nz k0_pay174 (Scalar.ofBits .f32 0x00000000#32) U c (ix2 r (⟨j, h⟩ : Fin 512)) = (wgt r.val N g j : EReal) := by
  rw [← wgt_coe]
  simp only [← lamM_coe]
  unfold k0_pay176 k0_pay174 k0_pay175
  pointwise
  rcases (show j < 128 ∨ (128 ≤ j ∧ j < 256) ∨ (256 ≤ j ∧ j < 384) ∨ 384 ≤ j from by omega) with h1 | h1 | h1 | h1
  · rw [show j / 256 = 0 from by omega, show j % 256 = j from by omega]
    simp (disch := omega) only [dif_pos, dif_neg, hc, hU, hN, log2e_eq, lam_word, sel_word, if_pos, Nat.mul_zero, Nat.zero_add, show j / 128 = 0 from by omega, show j % 256 = j from by omega, ite_mul, zero_mul]
  · rw [show j / 256 = 0 from by omega, show j % 256 = j from by omega]
    simp (disch := omega) only [dif_pos, dif_neg, hc, hU, hN, log2e_eq, lam_word, sel_word, if_pos, Nat.mul_zero, Nat.zero_add, show (j - 128) / 128 = 0 from by omega, show j % 256 = j from by omega, ite_mul, zero_mul]
  · rw [show j / 256 = 1 from by omega, show j % 256 = j - 256 from by omega]
    simp (disch := omega) only [dif_pos, dif_neg, hc, hU, hN, log2e_eq, lam_word, sel_word, if_pos, Nat.mul_one, show (128 + (j - 128 - 128)) / 128 = 1 from by omega, show j % 256 = j - 256 from by omega, ite_mul, zero_mul]
  · rw [show j / 256 = 1 from by omega, show j % 256 = j - 256 from by omega]
    simp (disch := omega) only [dif_pos, dif_neg, hc, hU, hN, log2e_eq, lam_word, sel_word, if_pos, Nat.mul_one, show (128 + (j - 128 - 128 - 128)) / 128 = 1 from by omega, show j % 256 = j - 256 from by omega, ite_mul, zero_mul]

/-- The carry after the second block. -/
theorem cRead1 (nz : FVec Ideal S768x512 .f32) (c : FVec Ideal S768x256 .f32) (r : Fin 768) (hN : ∀ j (h : j < 512), nz (ix2 r (⟨j, h⟩ : Fin 512)) = (N j : EReal))
    (hc : ∀ l (h : l < 256), c (ix2 r (⟨l, h⟩ : Fin 256)) = (g (l / 128) : EReal)) (l : ℕ) (h : l < 256) :
    k0_pay184 (k0_pay182 nz) c (ix2 r (⟨l, h⟩ : Fin 256)) = ((g (l / 128) + ∑ x : Fin 256, lamM r.val N (256 * (l / 128) + x.val) : ℝ) : EReal) := by
  rw [EReal.coe_add, ← coe_sum']
  simp only [← lamM_coe]
  unfold k0_pay184 k0_pay182 k0_pay181
  pointwise
  by_cases h1 : l < 128
  · rw [show l / 128 = 0 from by omega]
    simp (disch := omega) only [h1, dite_true, if_true, hc, hN, log2e_eq, lam_word, sel_word, if_pos, Nat.mul_zero, Nat.zero_add, show l / 128 = 0 from by omega]
  · rw [show l / 128 = 1 from by omega]
    simp (disch := omega) only [h1, dite_false, if_false, hc, hN, log2e_eq, lam_word, sel_word, if_pos, Nat.mul_one, show l / 128 = 1 from by omega]

include hU in
/-- The weights of the second block. -/
theorem aRead1 (nz : FVec Ideal S768x512 .f32) (c : FVec Ideal S768x256 .f32) (r : Fin 768) (hN : ∀ j (h : j < 512), nz (ix2 r (⟨j, h⟩ : Fin 512)) = (N j : EReal))
    (hc : ∀ l (h : l < 256), c (ix2 r (⟨l, h⟩ : Fin 256)) = (g (l / 128) : EReal)) (j : ℕ) (h : j < 512) :
    k0_pay185 k0_pay181 (k0_pay182 nz) (k0_pay183 nz) U c (ix2 r (⟨j, h⟩ : Fin 512)) = (wgt r.val N g j : EReal) := by
  rw [← wgt_coe]
  simp only [← lamM_coe]
  unfold k0_pay185 k0_pay183 k0_pay182 k0_pay181
  pointwise
  rcases (show j < 128 ∨ (128 ≤ j ∧ j < 256) ∨ (256 ≤ j ∧ j < 384) ∨ 384 ≤ j from by omega) with h1 | h1 | h1 | h1
  · rw [show j / 256 = 0 from by omega, show j % 256 = j from by omega]
    simp (disch := omega) only [dif_pos, dif_neg, hc, hU, hN, log2e_eq, lam_word, sel_word, if_pos, Nat.mul_zero, Nat.zero_add, show j / 128 = 0 from by omega, show j % 256 = j from by omega, ite_mul, zero_mul]
  · rw [show j / 256 = 0 from by omega, show j % 256 = j from by omega]
    simp (disch := omega) only [dif_pos, dif_neg, hc, hU, hN, log2e_eq, lam_word, sel_word, if_pos, Nat.mul_zero, Nat.zero_add, show (j - 128) / 128 = 0 from by omega, show j % 256 = j from by omega, ite_mul, zero_mul]
  · rw [show j / 256 = 1 from by omega, show j % 256 = j - 256 from by omega]
    simp (disch := omega) only [dif_pos, dif_neg, hc, hU, hN, log2e_eq, lam_word, sel_word, if_pos, Nat.mul_one, show (128 + (j - 128 - 128)) / 128 = 1 from by omega, show j % 256 = j - 256 from by omega, ite_mul, zero_mul]
  · rw [show j / 256 = 1 from by omega, show j % 256 = j - 256 from by omega]
    simp (disch := omega) only [dif_pos, dif_neg, hc, hU, hN, log2e_eq, lam_word, sel_word, if_pos, Nat.mul_one, show (128 + (j - 128 - 128 - 128)) / 128 = 1 from by omega, show j % 256 = j - 256 from by omega, ite_mul, zero_mul]

/-- The carry after the first block. -/
theorem cRead0 (nz : FVec Ideal S1024x512 .f32) (c : FVec Ideal S1024x256 .f32) (r : Fin 1024) (hN : ∀ j (h : j < 512), nz (ix2 r (⟨j, h⟩ : Fin 512)) = (N j : EReal))
    (hc : ∀ l (h : l < 256), c (ix2 r (⟨l, h⟩ : Fin 256)) = (g (l / 128) : EReal)) (l : ℕ) (h : l < 256) :
    k0_pay192 (k0_pay189 nz) c (ix2 r (⟨l, h⟩ : Fin 256)) = ((g (l / 128) + ∑ x : Fin 256, lamM r.val N (256 * (l / 128) + x.val) : ℝ) : EReal) := by
  rw [EReal.coe_add, ← coe_sum']
  simp only [← lamM_coe]
  unfold k0_pay192 k0_pay189 k0_pay188
  pointwise
  by_cases h1 : l < 128
  · rw [show l / 128 = 0 from by omega]
    simp (disch := omega) only [h1, dite_true, if_true, hc, hN, log2e_eq, lam_word, sel_word, if_pos, Nat.mul_zero, Nat.zero_add, show l / 128 = 0 from by omega]
  · rw [show l / 128 = 1 from by omega]
    simp (disch := omega) only [h1, dite_false, if_false, hc, hN, log2e_eq, lam_word, sel_word, if_pos, Nat.mul_one, show l / 128 = 1 from by omega]

include hU in
/-- The weights of the first block. -/
theorem aRead0 (nz : FVec Ideal S1024x512 .f32) (c : FVec Ideal S1024x256 .f32) (r : Fin 1024) (hN : ∀ j (h : j < 512), nz (ix2 r (⟨j, h⟩ : Fin 512)) = (N j : EReal))
    (hc : ∀ l (h : l < 256), c (ix2 r (⟨l, h⟩ : Fin 256)) = (g (l / 128) : EReal)) (j : ℕ) (h : j < 512) :
    k0_pay193 k0_pay188 (k0_pay190 c) (k0_pay191 nz U) (ix2 r (⟨j, h⟩ : Fin 512)) = (wgt r.val N g j : EReal) := by
  rw [← wgt_coe]
  simp only [← lamM_coe]
  unfold k0_pay193 k0_pay190 k0_pay191 k0_pay189 k0_pay188
  pointwise
  rcases (show j < 128 ∨ (128 ≤ j ∧ j < 256) ∨ (256 ≤ j ∧ j < 384) ∨ 384 ≤ j from by omega) with h1 | h1 | h1 | h1
  · rw [show j / 256 = 0 from by omega, show j % 256 = j from by omega]
    simp (disch := omega) only [dif_pos, dif_neg, hc, hU, hN, log2e_eq, lam_word, sel_word, if_pos, Nat.mul_zero, Nat.zero_add, show j / 128 = 0 from by omega, show j % 256 = j from by omega, ite_mul, zero_mul]
  · rw [show j / 256 = 0 from by omega, show j % 256 = j from by omega]
    simp (disch := omega) only [dif_pos, dif_neg, hc, hU, hN, log2e_eq, lam_word, sel_word, if_pos, Nat.mul_zero, Nat.zero_add, show (j - 128) / 128 = 0 from by omega, show j % 256 = j from by omega, ite_mul, zero_mul]
  · rw [show j / 256 = 1 from by omega, show j % 256 = j - 256 from by omega]
    simp (disch := omega) only [dif_pos, dif_neg, hc, hU, hN, log2e_eq, lam_word, sel_word, if_pos, Nat.mul_one, show (128 + (j - 128 - 128)) / 128 = 1 from by omega, show j % 256 = j - 256 from by omega, ite_mul, zero_mul]
  · rw [show j / 256 = 1 from by omega, show j % 256 = j - 256 from by omega]
    simp (disch := omega) only [dif_pos, dif_neg, hc, hU, hN, log2e_eq, lam_word, sel_word, if_pos, Nat.mul_one, show (128 + (j - 128 - 128 - 128)) / 128 = 1 from by omega, show j % 256 = j - 256 from by omega, ite_mul, zero_mul]

/-- The carry after a block before the tile. -/
theorem cReadM (nz : FVec Ideal S1024x512 .f32) (c : FVec Ideal S1024x256 .f32) (r : Fin 1024) (hN : ∀ j (h : j < 512), nz (ix2 r (⟨j, h⟩ : Fin 512)) = (N j : EReal))
    (hc : ∀ l (h : l < 256), c (ix2 r (⟨l, h⟩ : Fin 256)) = (g (l / 128) : EReal)) (l : ℕ) (h : l < 256) :
    cM (F := Ideal) nz c (ix2 r (⟨l, h⟩ : Fin 256)) = ((g (l / 128) + ∑ x : Fin 256, lamM 256 N (256 * (l / 128) + x.val) : ℝ) : EReal) := by
  rw [EReal.coe_add, ← coe_sum']
  simp only [← lamM_coe]
  unfold cM k0_pay23 k0_pay19 k0_pay20 k0_pay21 k0_pay22
  pointwise
  by_cases h1 : l < 128
  · rw [show l / 128 = 0 from by omega]
    simp (disch := omega) only [h1, dite_true, if_true, hc, hN, log2e_eq, lam_word, sel_word, if_pos, Nat.mul_zero, Nat.zero_add, show l / 128 = 0 from by omega]
  · rw [show l / 128 = 1 from by omega]
    simp (disch := omega) only [h1, dite_false, if_false, hc, hN, log2e_eq, lam_word, sel_word, if_pos, Nat.mul_one, show l / 128 = 1 from by omega]

include hU in
/-- The weights of a block before the tile. -/
theorem aReadM (nz : FVec Ideal S1024x512 .f32) (c : FVec Ideal S1024x256 .f32) (r : Fin 1024) (hN : ∀ j (h : j < 512), nz (ix2 r (⟨j, h⟩ : Fin 512)) = (N j : EReal))
    (hc : ∀ l (h : l < 256), c (ix2 r (⟨l, h⟩ : Fin 256)) = (g (l / 128) : EReal)) (j : ℕ) (h : j < 512) :
    aM (F := Ideal) nz U c (ix2 r (⟨j, h⟩ : Fin 512)) = (wgt 256 N g j : EReal) := by
  rw [← wgt_coe]
  simp only [← lamM_coe]
  unfold aM k0_pay24 k0_pay19 k0_pay20 k0_pay21 k0_pay22
  pointwise
  rcases (show j < 128 ∨ (128 ≤ j ∧ j < 256) ∨ (256 ≤ j ∧ j < 384) ∨ 384 ≤ j from by omega) with h1 | h1 | h1 | h1
  · rw [show j / 256 = 0 from by omega, show j % 256 = j from by omega]
    simp (disch := omega) only [dif_pos, dif_neg, hc, hU, hN, log2e_eq, lam_word, sel_word, if_pos, Nat.mul_zero, Nat.zero_add, show j / 128 = 0 from by omega, show j % 256 = j from by omega, ite_mul, zero_mul]
  · rw [show j / 256 = 0 from by omega, show j % 256 = j from by omega]
    simp (disch := omega) only [dif_pos, dif_neg, hc, hU, hN, log2e_eq, lam_word, sel_word, if_pos, Nat.mul_zero, Nat.zero_add, show (j - 128) / 128 = 0 from by omega, show j % 256 = j from by omega, ite_mul, zero_mul]
  · rw [show j / 256 = 1 from by omega, show j % 256 = j - 256 from by omega]
    simp (disch := omega) only [dif_pos, dif_neg, hc, hU, hN, log2e_eq, lam_word, sel_word, if_pos, Nat.mul_one, show (128 + (j - 128 - 128)) / 128 = 1 from by omega, show j % 256 = j - 256 from by omega, ite_mul, zero_mul]
  · rw [show j / 256 = 1 from by omega, show j % 256 = j - 256 from by omega]
    simp (disch := omega) only [dif_pos, dif_neg, hc, hU, hN, log2e_eq, lam_word, sel_word, if_pos, Nat.mul_one, show (128 + (j - 128 - 128 - 128)) / 128 = 1 from by omega, show j % 256 = j - 256 from by omega, ite_mul, zero_mul]

end Read

section Products

/-- The accumulator after a product, at an index. -/
theorem oRead3 (M : IVec S256x512 1) (a1 z : FVec Ideal S256x512 .f32) (a : FVec Ideal S256x512 .f32) (ha : select M a1 z = a) (o : FVec Ideal S256x128 .f32) (v : FVec Ideal S1x512x128 .bf16) (r : Fin 256) (l : Fin 128) :
    k0_pay173 M a1 z o v (ix2 r l) = o (ix2 r l) + ∑ x : Fin 512, a (ix2 r x) * v (ix3 (0 : Fin 1) x l) := by
  subst ha
  unfold k0_pay173
  pointwise

/-- The accumulator after a product, at an index. -/
theorem oRead2 (a : FVec Ideal S512x512 .f32) (o : FVec Ideal S512x128 .f32) (v : FVec Ideal S1x512x128 .bf16) (r : Fin 512) (l : Fin 128) :
    k0_pay180 a o v (ix2 r l) = o (ix2 r l) + ∑ x : Fin 512, a (ix2 r x) * v (ix3 (0 : Fin 1) x l) := by
  unfold k0_pay180
  pointwise

/-- The accumulator after a product, at an index. -/
theorem oRead1 (a : FVec Ideal S768x512 .bf16) (o : FVec Ideal S768x128 .f32) (v : FVec Ideal S1x512x128 .bf16) (r : Fin 768) (l : Fin 128) :
    k0_pay187 a o v (ix2 r l) = o (ix2 r l) + ∑ x : Fin 512, a (ix2 r x) * v (ix3 (0 : Fin 1) x l) := by
  unfold k0_pay187
  pointwise

/-- The accumulator after a product, at an index. -/
theorem oReadM (a : FVec Ideal S1024x512 .bf16) (o : FVec Ideal S1024x128 .f32) (v : FVec Ideal S1x512x128 .bf16) (r : Fin 1024) (l : Fin 128) :
    oM a o v (ix2 r l) = o (ix2 r l) + ∑ x : Fin 512, a (ix2 r x) * v (ix3 (0 : Fin 1) x l) := by
  unfold oM k0_pay18
  pointwise

/-- A tile's result at an index: the last product added to the accumulator. -/
theorem outRead (a : FVec Ideal S1024x512 .bf16) (o : FVec Ideal S1024x128 .f32) (v : FVec Ideal S1x512x128 .bf16) (r : Fin 1024) (l : Fin 128) :
    (k0_pay2 (F := Ideal) (k0_pay1 (F := Ideal) a o v) (ix3 (0 : Fin 1) r l) : EReal) = o (ix2 r l) + ∑ x : Fin 512, a (ix2 r x) * v (ix3 (0 : Fin 1) x l) := by
  unfold k0_pay2 k0_pay1
  pointwise

/-- The scores of a block, at an index. -/
theorem nzRead3 (x3 : FVec Ideal S1x1024x128 .f32) (kb : FVec Ideal S1x512x256 .bf16) (r : Fin 256) (j : Fin 512) :
    (k0_pay165 (F := Ideal) x3 kb (ix2 r j) : EReal) = ∑ x : Fin 256, (k0_pay162 (F := Ideal) x3) (ix2 (⟨768 + r.val, by omega⟩ : Fin 1024) x) * kb (ix3 (0 : Fin 1) j x) := by
  unfold k0_pay165
  generalize k0_pay162 (F := Ideal) x3 = q
  pointwise

/-- The scores of a block, at an index. -/
theorem nzRead2 (q : FVec Ideal S1024x256 .bf16) (kb : FVec Ideal S1x512x256 .bf16) (r : Fin 512) (j : Fin 512) :
    (k0_pay166 q kb (ix2 r j) : EReal) = ∑ x : Fin 256, q (ix2 (⟨512 + r.val, by omega⟩ : Fin 1024) x) * kb (ix3 (0 : Fin 1) j x) := by
  unfold k0_pay166
  pointwise

/-- The scores of a block, at an index. -/
theorem nzRead1 (q : FVec Ideal S1024x256 .bf16) (kb : FVec Ideal S1x512x256 .bf16) (r : Fin 768) (j : Fin 512) :
    (k0_pay172 q kb (ix2 r j) : EReal) = ∑ x : Fin 256, q (ix2 (⟨256 + r.val, by omega⟩ : Fin 1024) x) * kb (ix3 (0 : Fin 1) j x) := by
  unfold k0_pay172
  pointwise

/-- The scores of a block, at an index. -/
theorem nzRead0 (q : FVec Ideal S1024x256 .bf16) (kb : FVec Ideal S1x512x256 .bf16) (r : Fin 1024) (j : Fin 512) :
    (k0_pay179 q kb (ix2 r j) : EReal) = ∑ x : Fin 256, q (ix2 r x) * kb (ix3 (0 : Fin 1) j x) := by
  unfold k0_pay179
  pointwise

/-- The scores of a block, at an index. -/
theorem nzReadM (q : FVec Ideal S1024x256 .bf16) (kb : FVec Ideal S1x512x256 .bf16) (r : Fin 1024) (j : Fin 512) :
    (nzM q kb (ix2 r j) : EReal) = ∑ x : Fin 256, q (ix2 r x) * kb (ix3 (0 : Fin 1) j x) := by
  unfold nzM k0_pay17
  pointwise

end Products
end Cert.Proof.KernelIdeal
end
-- ==== Proof.Tile.lean ====
module

public import proofs.«01_k».proof.Proof.Blocks
public import proofs.«01_k».proof.Proof.Stacks
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

/-! # A tile's result at a row -/

section Sums
variable (t : ℕ) (ν : ℕ → ℕ → ℝ) (w : ℕ → Fin 128 → EReal)

/-- The log-remainder of a key for the row at position `t`. -/
def lm (e s : ℕ) : ℝ := if s < t then lam (ν e s) else 0
/-- The log-remainders of the keys from `s` on. -/
def sm (e s : ℕ) : ℝ := ∑ x ∈ Finset.Ico s 8192, lm t ν e x
/-- The weight of a key. -/
def am (e s : ℕ) : ℝ := if s < t then Real.rpow 2 (lm t ν e s - ν e s + sm t ν e (s + 1)) else 0
/-- The weighted values of the keys from `s` on. -/
def om (s : ℕ) (l : Fin 128) : EReal := ∑ x ∈ Finset.Ico s 8192, (am t ν (l.val / 64) x : EReal) * w x l

theorem sum_blk {M : Type} [AddCommMonoid M] (f : ℕ → M) (m : ℕ) (hm : m < 32) : ∑ x ∈ Finset.Ico (256 * m) 8192, f x = ∑ k : Fin 256, f (256 * m + k.val) + ∑ x ∈ Finset.Ico (256 * (m + 1)) 8192, f x := by
  rw [← Finset.sum_Ico_consecutive f (show 256 * m ≤ 256 * (m + 1) by omega) (show 256 * (m + 1) ≤ 8192 by omega), Finset.sum_Ico_eq_sum_range,
    show 256 * (m + 1) - 256 * m = 256 from by omega, Finset.sum_range]

theorem sm_zero (e s : ℕ) (h : t ≤ s) : sm t ν e s = 0 := by
  unfold sm
  refine Finset.sum_eq_zero fun x hx => ?_
  rw [Finset.mem_Ico] at hx
  unfold lm; rw [if_neg (by omega)]

theorem om_zero (s : ℕ) (l : Fin 128) (h : t ≤ s) : om t ν w s l = 0 := by
  unfold om
  refine Finset.sum_eq_zero fun x hx => ?_
  rw [Finset.mem_Ico] at hx
  unfold am; rw [if_neg (by omega), EReal.coe_zero, zero_mul]

variable (m lim : ℕ) (hm : m < 32) (hl : ∀ k, k < 256 → (k < lim ↔ 256 * m + k < t))
include hm hl

theorem lamM_eq (j : ℕ) : lamM lim (fun j => ν (j / 256) (256 * m + j % 256)) j = lm t ν (j / 256) (256 * m + j % 256) := by
  unfold lamM lm
  have := hl (j % 256) (Nat.mod_lt _ (by norm_num))
  by_cases h : j % 256 < lim
  · rw [if_pos h, if_pos (this.mp h)]
  · rw [if_neg h, if_neg (fun h' => h (this.mpr h'))]

theorem sm_step (e : ℕ) : sm t ν e (256 * (m + 1)) + ∑ x : Fin 256, lamM lim (fun j => ν (j / 256) (256 * m + j % 256)) (256 * e + x.val) = sm t ν e (256 * m) := by
  unfold sm
  rw [sum_blk (lm t ν e) m hm, add_comm]
  refine congrArg (· + _) (Finset.sum_congr rfl fun x _ => ?_)
  rw [lamM_eq t ν m lim hm hl, show (256 * e + x.val) / 256 = e from by omega, show (256 * e + x.val) % 256 = x.val from by omega]

theorem wgt_eq (j : ℕ) : wgt lim (fun j => ν (j / 256) (256 * m + j % 256)) (fun e => sm t ν e (256 * (m + 1))) j = am t ν (j / 256) (256 * m + j % 256) := by
  unfold wgt am
  have hk := hl (j % 256) (Nat.mod_lt _ (by norm_num))
  by_cases h : j % 256 < lim
  · rw [if_pos h, if_pos (hk.mp h), lamM_eq t ν m lim hm hl]
    refine congrArg (Real.rpow 2) ?_
    rw [add_assoc]
    refine congrArg (fun y => lm t ν (j / 256) (256 * m + j % 256) - ν (j / 256) (256 * m + j % 256) + y) ?_
    have hj : j % 256 < 256 := Nat.mod_lt _ (by norm_num)
    unfold sm
    rw [← Finset.sum_Ico_consecutive (lm t ν (j / 256)) (show 256 * m + j % 256 + 1 ≤ 256 * (m + 1) by omega) (show 256 * (m + 1) ≤ 8192 by omega)]
    refine congrArg (· + _) ?_
    have e1 : (∑ x : Fin 256, lamM lim (fun j => ν (j / 256) (256 * m + j % 256)) (256 * (j / 256) + x.val) * (if j % 256 < x.val then 1 else 0))
        = ∑ x ∈ Finset.Ico (256 * m) (256 * (m + 1)), lm t ν (j / 256) x * (if 256 * m + j % 256 < x then 1 else 0) := by
      rw [Finset.sum_Ico_eq_sum_range, show 256 * (m + 1) - 256 * m = 256 from by omega, Finset.sum_range]
      refine Finset.sum_congr rfl fun x _ => ?_
      rw [lamM_eq t ν m lim hm hl, show (256 * (j / 256) + x.val) / 256 = j / 256 from by omega, show (256 * (j / 256) + x.val) % 256 = x.val from by omega]
      by_cases hx : j % 256 < x.val
      · rw [if_pos hx, if_pos (by omega)]
      · rw [if_neg hx, if_neg (by omega)]
    rw [e1, ← Finset.sum_Ico_consecutive _ (show 256 * m ≤ 256 * m + j % 256 + 1 by omega) (show 256 * m + j % 256 + 1 ≤ 256 * (m + 1) by omega),
      Finset.sum_eq_zero (s := Finset.Ico (256 * m) (256 * m + j % 256 + 1)) (fun x hx => by rw [Finset.mem_Ico] at hx; rw [if_neg (by omega), mul_zero]), zero_add]
    refine Finset.sum_congr rfl fun x hx => ?_
    rw [Finset.mem_Ico] at hx
    rw [if_pos (by omega), mul_one]
  · rw [if_neg h, if_neg (fun h' => h (hk.mpr h'))]

omit hl in
theorem om_step (l : Fin 128) (a v : Fin 512 → EReal) (ha : ∀ x, a x = (am t ν (x.val / 256) (256 * m + x.val % 256) : EReal))
    (hv : ∀ x, v x = if x.val / 256 = l.val / 64 then w (256 * m + x.val % 256) l else 0) :
    om t ν w (256 * (m + 1)) l + ∑ x : Fin 512, a x * v x = om t ν w (256 * m) l := by
  unfold om
  rw [sum_blk (fun x => (am t ν (l.val / 64) x : EReal) * w x l) m hm, add_comm]
  refine congrArg (· + _) ?_
  have hl2 : l.val / 64 = 0 ∨ l.val / 64 = 1 := by omega
  have e0 : ∑ x : Fin 512, a x * v x = ∑ x ∈ Finset.range (256 + 256), (am t ν (x / 256) (256 * m + x % 256) : EReal) * (if x / 256 = l.val / 64 then w (256 * m + x % 256) l else 0) := by
    rw [Finset.sum_range]
    exact Finset.sum_congr rfl fun x _ => by rw [ha, hv]
  rw [e0, Finset.sum_range_add, Finset.sum_range, Finset.sum_range]
  rcases hl2 with h | h
  · rw [h, Finset.sum_eq_zero (s := Finset.univ) (f := fun i : Fin 256 => (am t ν ((256 + i.val) / 256) (256 * m + (256 + i.val) % 256) : EReal) * (if (256 + i.val) / 256 = 0 then w (256 * m + (256 + i.val) % 256) l else 0)) (fun x _ => by
      rw [if_neg (by omega), mul_zero]), add_zero]
    refine Finset.sum_congr rfl fun x _ => ?_
    rw [show x.val / 256 = 0 from by omega, show x.val % 256 = x.val from by omega, if_pos rfl]
  · rw [h, Finset.sum_eq_zero (s := Finset.univ) (f := fun i : Fin 256 => (am t ν (i.val / 256) (256 * m + i.val % 256) : EReal) * (if i.val / 256 = 1 then w (256 * m + i.val % 256) l else 0)) (fun x _ => by
      rw [if_neg (by omega), mul_zero]), zero_add]
    refine Finset.sum_congr rfl fun x _ => ?_
    rw [show (256 + x.val) / 256 = 1 from by omega, show (256 + x.val) % 256 = x.val from by omega, if_pos rfl]
end Sums

section Ld

theorem ldc3 (x3 : Vec Ideal S1x1024x128 .f32) (K : Vec Ideal S32x512x256 .bf16) (i : ℕ) (r' : Fin 256) (l : ℕ) (h : l < 256) : c3 (F := Ideal) (ix2 r' (⟨l, h⟩ : Fin 256)) = k0_pay164 (F := Ideal) (ix2 (⟨768 + r'.val, by omega⟩ : Fin 1024) (⟨l, h⟩ : Fin 256)) := by
  unfold c3
  generalize k0_pay164 (F := Ideal) = X
  pointwise

theorem ldo3 (X : Vec Ideal S1024x128 .f32) (r' : Fin 256) (l : Fin 128) : View.ld X (Rect.unit (s := S1024x128) ![768, 0] S256x128.size inb_S1024x128_S256x128_768_0) (ix2 r' l) = X (ix2 (⟨768 + r'.val, by omega⟩ : Fin 1024) l) := by
  pointwise

theorem ldc2 (x3 : Vec Ideal S1x1024x128 .f32) (K : Vec Ideal S32x512x256 .bf16) (i : ℕ) (r' : Fin 512) (l : ℕ) (h : l < 256) : c2 x3 K (4 * i) (ix2 r' (⟨l, h⟩ : Fin 256)) = C3 x3 K (4 * i) (ix2 (⟨512 + r'.val, by omega⟩ : Fin 1024) (⟨l, h⟩ : Fin 256)) := by
  unfold c2
  generalize C3 x3 K (4 * i) = X
  pointwise

theorem ldo2 (X : Vec Ideal S1024x128 .f32) (r' : Fin 512) (l : Fin 128) : View.ld X (Rect.unit (s := S1024x128) ![512, 0] S512x128.size inb_S1024x128_S512x128_512_0) (ix2 r' l) = X (ix2 (⟨512 + r'.val, by omega⟩ : Fin 1024) l) := by
  pointwise

theorem ldc1 (x3 : Vec Ideal S1x1024x128 .f32) (K : Vec Ideal S32x512x256 .bf16) (i : ℕ) (r' : Fin 768) (l : ℕ) (h : l < 256) : c1 x3 K (4 * i) (ix2 r' (⟨l, h⟩ : Fin 256)) = C2 x3 K (4 * i) (ix2 (⟨256 + r'.val, by omega⟩ : Fin 1024) (⟨l, h⟩ : Fin 256)) := by
  unfold c1
  generalize C2 x3 K (4 * i) = X
  pointwise

theorem ldo1 (X : Vec Ideal S1024x128 .f32) (r' : Fin 768) (l : Fin 128) : View.ld X (Rect.unit (s := S1024x128) ![256, 0] S768x128.size inb_S1024x128_S768x128_256_0) (ix2 r' l) = X (ix2 (⟨256 + r'.val, by omega⟩ : Fin 1024) l) := by
  pointwise
end Ld

section Tile
variable (x3 : Vec Ideal S1x1024x128 .f32) (K : Vec Ideal S32x512x256 .bf16) (V : Vec Ideal S32x512x128 .bf16) (U : Vec Ideal S256x256 .bf16)
  (i : ℕ) (hi : i < 8) (r : Fin 1024) (ν : ℕ → ℕ → ℝ) (w : ℕ → Fin 128 → EReal)
  (hU : ∀ a b : Fin 256, U (ix2 a b) = if b.val < a.val then (1 : EReal) else 0)
  (hS : ∀ m, m < 32 → ∀ j (h : j < 512), (∑ x : Fin 256, (k0_pay162 x3 (ix2 r x) : EReal) * kblk K m (ix3 (0 : Fin 1) (⟨j, h⟩ : Fin 512) x)) = ((ν (j / 256) (256 * m + j % 256) : ℝ) : EReal))
  (hV : ∀ m, m < 32 → ∀ (j : Fin 512) (l : Fin 128), (vblk V m (ix3 (0 : Fin 1) j l) : EReal) = if j.val / 256 = l.val / 64 then w (256 * m + j.val % 256) l else 0)

theorem zero_c (l : ℕ) (h : l < 256) : (k0_pay164 (F := Ideal) (ix2 r (⟨l, h⟩ : Fin 256)) : EReal) = 0 := by
  unfold k0_pay164; pointwise
theorem zero_o (l : Fin 128) : (k0_pay163 (F := Ideal) (ix2 r l) : EReal) = 0 := by
  unfold k0_pay163; pointwise

include hi hS in
theorem nzT3 (r' : Fin 256) (hr : r.val = 768 + r'.val) (j : ℕ) (h : j < 512) : (nz3 x3 K (4 * i) (ix2 r' (⟨j, h⟩ : Fin 512)) : EReal) = ((ν (j / 256) (256 * (4 * i + 3) + j % 256) : ℝ) : EReal) := by
  unfold nz3
  have e : (⟨768 + r'.val, by omega⟩ : Fin 1024) = r := Fin.ext hr.symm
  rw [nzRead3, e]
  exact hS (4 * i + 3) (by omega) j h

include hi hS in
theorem cT3  (l : ℕ) (h : l < 256) : (C3 x3 K (4 * i) (ix2 r (⟨l, h⟩ : Fin 256)) : EReal) = ((sm (1024 * i + r.val) ν (l / 128) (256 * (4 * i + 3)) : ℝ) : EReal) := by
  have hp : ∀ l (h : l < 256), (k0_pay164 (F := Ideal) (ix2 r (⟨l, h⟩ : Fin 256)) : EReal) = ((sm (1024 * i + r.val) ν (l / 128) (256 * (4 * i + 4)) : ℝ) : EReal) := fun l h => by
    rw [zero_c, sm_zero _ _ _ _ (by omega), EReal.coe_zero]
  unfold C3
  by_cases hr : 768 ≤ r.val
  · obtain ⟨r', hr'⟩ : ∃ r' : Fin 256, r.val = 768 + r'.val := ⟨⟨r.val - 768, by omega⟩, by show _ = 768 + (_ - 768); omega⟩
    have e : (⟨768 + r'.val, by omega⟩ : Fin 1024) = r := Fin.ext hr'.symm
    rw [put_in (s := S1024x256) _ _ _ _ _ (show (⟨2, ![256, 256]⟩ : Shape).Idx from ix2 r' (⟨l, h⟩ : Fin 256)) (fun a => match a with | 0 => hr' | 1 => (Nat.zero_add _).symm)]
    refine (cRead3 _ (fun e => sm (1024 * i + r.val) ν e (256 * (4 * i + 3 + 1))) (nz3 x3 K (4 * i)) _ r' (nzT3 x3 K i hi r ν hS r' hr') (fun l h => ?_) l h).trans (congrArg _ ?_)
    · rw [ldc3 x3 K i, e]; exact hp l h
    · exact sm_step (1024 * i + r.val) ν (4 * i + 3) r'.val (by omega) (fun k hk => by omega) (l / 128)
  · rw [put_out (s := S1024x256) _ _ _ _ _ (0 : Fin 2) (.inl (by show r.val < 768; omega)), hp, sm_zero _ _ _ _ (by omega), sm_zero _ _ _ _ (by omega)]

include hi hS hU in
theorem aT3  (r' : Fin 256) (hr' : r.val = 768 + r'.val) (j : ℕ) (h : j < 512) : (select k0_pay167 (a3 x3 K U (4 * i)) (k0_pay170 (F := Ideal)) (ix2 r' (⟨j, h⟩ : Fin 512)) : EReal) = ((am (1024 * i + r.val) ν (j / 256) (256 * (4 * i + 3) + j % 256) : ℝ) : EReal) := by
  have hp : ∀ l (h : l < 256), (k0_pay164 (F := Ideal) (ix2 r (⟨l, h⟩ : Fin 256)) : EReal) = ((sm (1024 * i + r.val) ν (l / 128) (256 * (4 * i + 4)) : ℝ) : EReal) := fun l h => by
    rw [zero_c, sm_zero _ _ _ _ (by omega), EReal.coe_zero]
  have e : (⟨768 + r'.val, by omega⟩ : Fin 1024) = r := Fin.ext hr'.symm
  unfold a3
  refine (aRead3 U hU _ (fun e => sm (1024 * i + r.val) ν e (256 * (4 * i + 3 + 1))) (nz3 x3 K (4 * i)) _ r' (nzT3 x3 K i hi r ν hS r' hr') (fun l h => ?_) j h).trans (congrArg _ ?_)
  · rw [ldc3 x3 K i, e]; exact hp l h
  · exact wgt_eq (1024 * i + r.val) ν (4 * i + 3) r'.val (by omega) (fun k hk => by omega) j

include hi hS hU hV in
theorem oT3   (l : Fin 128) : (O3 x3 K V U (4 * i) (ix2 r l) : EReal) = om (1024 * i + r.val) ν w (256 * (4 * i + 3)) l := by
  have hq : ∀ l, (k0_pay163 (F := Ideal) (ix2 r l) : EReal) = om (1024 * i + r.val) ν w (256 * (4 * i + 4)) l := fun l => by
    rw [zero_o, om_zero _ _ _ _ _ (by omega)]
  unfold O3
  by_cases hr : 768 ≤ r.val
  · obtain ⟨r', hr'⟩ : ∃ r' : Fin 256, r.val = 768 + r'.val := ⟨⟨r.val - 768, by omega⟩, by show _ = 768 + (_ - 768); omega⟩
    have e : (⟨768 + r'.val, by omega⟩ : Fin 1024) = r := Fin.ext hr'.symm
    rw [put_in (s := S1024x128) _ _ _ _ _ (show (⟨2, ![256, 128]⟩ : Shape).Idx from ix2 r' l) (fun a => match a with | 0 => hr' | 1 => (Nat.zero_add _).symm)]
    refine (oRead3 _ _ _ _ rfl _ _ r' l).trans ?_
    rw [ldo3, e, hq l]
    exact om_step (1024 * i + r.val) ν w (4 * i + 3) (by omega) l _ _ (fun x => aT3 x3 K U i hi r ν hU hS r' hr' x.val x.isLt) (fun x => hV (4 * i + 3) (by omega) x l)
  · rw [put_out (s := S1024x128) _ _ _ _ _ (0 : Fin 2) (.inl (by show r.val < 768; omega)), hq, om_zero _ _ _ _ _ (by omega), om_zero _ _ _ _ _ (by omega)]

include hi hS in
theorem nzT2 (r' : Fin 512) (hr : r.val = 512 + r'.val) (j : ℕ) (h : j < 512) : (nz2 x3 K (4 * i) (ix2 r' (⟨j, h⟩ : Fin 512)) : EReal) = ((ν (j / 256) (256 * (4 * i + 2) + j % 256) : ℝ) : EReal) := by
  unfold nz2
  have e : (⟨512 + r'.val, by omega⟩ : Fin 1024) = r := Fin.ext hr.symm
  rw [nzRead2, e]
  exact hS (4 * i + 2) (by omega) j h

include hi hS in
theorem cT2 (hp : ∀ l (h : l < 256), (C3 x3 K (4 * i) (ix2 r (⟨l, h⟩ : Fin 256)) : EReal) = ((sm (1024 * i + r.val) ν (l / 128) (256 * (4 * i + 3)) : ℝ) : EReal)) (l : ℕ) (h : l < 256) : (C2 x3 K (4 * i) (ix2 r (⟨l, h⟩ : Fin 256)) : EReal) = ((sm (1024 * i + r.val) ν (l / 128) (256 * (4 * i + 2)) : ℝ) : EReal) := by
  unfold C2
  by_cases hr : 512 ≤ r.val
  · obtain ⟨r', hr'⟩ : ∃ r' : Fin 512, r.val = 512 + r'.val := ⟨⟨r.val - 512, by omega⟩, by show _ = 512 + (_ - 512); omega⟩
    have e : (⟨512 + r'.val, by omega⟩ : Fin 1024) = r := Fin.ext hr'.symm
    rw [put_in (s := S1024x256) _ _ _ _ _ (show (⟨2, ![512, 256]⟩ : Shape).Idx from ix2 r' (⟨l, h⟩ : Fin 256)) (fun a => match a with | 0 => hr' | 1 => (Nat.zero_add _).symm)]
    refine (cRead2 _ (fun e => sm (1024 * i + r.val) ν e (256 * (4 * i + 2 + 1))) (nz2 x3 K (4 * i)) _ r' (nzT2 x3 K i hi r ν hS r' hr') (fun l h => ?_) l h).trans (congrArg _ ?_)
    · rw [ldc2 x3 K i, e]; exact hp l h
    · exact sm_step (1024 * i + r.val) ν (4 * i + 2) r'.val (by omega) (fun k hk => by omega) (l / 128)
  · rw [put_out (s := S1024x256) _ _ _ _ _ (0 : Fin 2) (.inl (by show r.val < 512; omega)), hp, sm_zero _ _ _ _ (by omega), sm_zero _ _ _ _ (by omega)]

include hi hS hU in
theorem aT2 (hp : ∀ l (h : l < 256), (C3 x3 K (4 * i) (ix2 r (⟨l, h⟩ : Fin 256)) : EReal) = ((sm (1024 * i + r.val) ν (l / 128) (256 * (4 * i + 3)) : ℝ) : EReal)) (r' : Fin 512) (hr' : r.val = 512 + r'.val) (j : ℕ) (h : j < 512) : (a2 x3 K U (4 * i) (ix2 r' (⟨j, h⟩ : Fin 512)) : EReal) = ((am (1024 * i + r.val) ν (j / 256) (256 * (4 * i + 2) + j % 256) : ℝ) : EReal) := by
  have e : (⟨512 + r'.val, by omega⟩ : Fin 1024) = r := Fin.ext hr'.symm
  unfold a2
  refine (aRead2 U hU _ (fun e => sm (1024 * i + r.val) ν e (256 * (4 * i + 2 + 1))) (nz2 x3 K (4 * i)) _ r' (nzT2 x3 K i hi r ν hS r' hr') (fun l h => ?_) j h).trans (congrArg _ ?_)
  · rw [ldc2 x3 K i, e]; exact hp l h
  · exact wgt_eq (1024 * i + r.val) ν (4 * i + 2) r'.val (by omega) (fun k hk => by omega) j

include hi hS hU hV in
theorem oT2 (hp : ∀ l (h : l < 256), (C3 x3 K (4 * i) (ix2 r (⟨l, h⟩ : Fin 256)) : EReal) = ((sm (1024 * i + r.val) ν (l / 128) (256 * (4 * i + 3)) : ℝ) : EReal)) (hq : ∀ l, (O3 x3 K V U (4 * i) (ix2 r l) : EReal) = om (1024 * i + r.val) ν w (256 * (4 * i + 3)) l) (l : Fin 128) : (O2 x3 K V U (4 * i) (ix2 r l) : EReal) = om (1024 * i + r.val) ν w (256 * (4 * i + 2)) l := by
  unfold O2
  by_cases hr : 512 ≤ r.val
  · obtain ⟨r', hr'⟩ : ∃ r' : Fin 512, r.val = 512 + r'.val := ⟨⟨r.val - 512, by omega⟩, by show _ = 512 + (_ - 512); omega⟩
    have e : (⟨512 + r'.val, by omega⟩ : Fin 1024) = r := Fin.ext hr'.symm
    rw [put_in (s := S1024x128) _ _ _ _ _ (show (⟨2, ![512, 128]⟩ : Shape).Idx from ix2 r' l) (fun a => match a with | 0 => hr' | 1 => (Nat.zero_add _).symm)]
    refine (oRead2 _ _ _ r' l).trans ?_
    rw [ldo2, e, hq l]
    exact om_step (1024 * i + r.val) ν w (4 * i + 2) (by omega) l _ _ (fun x => aT2 x3 K U i hi r ν hU hS hp r' hr' x.val x.isLt) (fun x => hV (4 * i + 2) (by omega) x l)
  · rw [put_out (s := S1024x128) _ _ _ _ _ (0 : Fin 2) (.inl (by show r.val < 512; omega)), hq, om_zero _ _ _ _ _ (by omega), om_zero _ _ _ _ _ (by omega)]

include hi hS in
theorem nzT1 (r' : Fin 768) (hr : r.val = 256 + r'.val) (j : ℕ) (h : j < 512) : (nz1 x3 K (4 * i) (ix2 r' (⟨j, h⟩ : Fin 512)) : EReal) = ((ν (j / 256) (256 * (4 * i + 1) + j % 256) : ℝ) : EReal) := by
  unfold nz1
  have e : (⟨256 + r'.val, by omega⟩ : Fin 1024) = r := Fin.ext hr.symm
  rw [nzRead1, e]
  exact hS (4 * i + 1) (by omega) j h

include hi hS in
theorem cT1 (hp : ∀ l (h : l < 256), (C2 x3 K (4 * i) (ix2 r (⟨l, h⟩ : Fin 256)) : EReal) = ((sm (1024 * i + r.val) ν (l / 128) (256 * (4 * i + 2)) : ℝ) : EReal)) (l : ℕ) (h : l < 256) : (C1 x3 K (4 * i) (ix2 r (⟨l, h⟩ : Fin 256)) : EReal) = ((sm (1024 * i + r.val) ν (l / 128) (256 * (4 * i + 1)) : ℝ) : EReal) := by
  unfold C1
  by_cases hr : 256 ≤ r.val
  · obtain ⟨r', hr'⟩ : ∃ r' : Fin 768, r.val = 256 + r'.val := ⟨⟨r.val - 256, by omega⟩, by show _ = 256 + (_ - 256); omega⟩
    have e : (⟨256 + r'.val, by omega⟩ : Fin 1024) = r := Fin.ext hr'.symm
    rw [put_in (s := S1024x256) _ _ _ _ _ (show (⟨2, ![768, 256]⟩ : Shape).Idx from ix2 r' (⟨l, h⟩ : Fin 256)) (fun a => match a with | 0 => hr' | 1 => (Nat.zero_add _).symm)]
    refine (cRead1 _ (fun e => sm (1024 * i + r.val) ν e (256 * (4 * i + 1 + 1))) (nz1 x3 K (4 * i)) _ r' (nzT1 x3 K i hi r ν hS r' hr') (fun l h => ?_) l h).trans (congrArg _ ?_)
    · rw [ldc1 x3 K i, e]; exact hp l h
    · exact sm_step (1024 * i + r.val) ν (4 * i + 1) r'.val (by omega) (fun k hk => by omega) (l / 128)
  · rw [put_out (s := S1024x256) _ _ _ _ _ (0 : Fin 2) (.inl (by show r.val < 256; omega)), hp, sm_zero _ _ _ _ (by omega), sm_zero _ _ _ _ (by omega)]

include hi hS hU in
theorem aT1 (hp : ∀ l (h : l < 256), (C2 x3 K (4 * i) (ix2 r (⟨l, h⟩ : Fin 256)) : EReal) = ((sm (1024 * i + r.val) ν (l / 128) (256 * (4 * i + 2)) : ℝ) : EReal)) (r' : Fin 768) (hr' : r.val = 256 + r'.val) (j : ℕ) (h : j < 512) : (a1 x3 K U (4 * i) (ix2 r' (⟨j, h⟩ : Fin 512)) : EReal) = ((am (1024 * i + r.val) ν (j / 256) (256 * (4 * i + 1) + j % 256) : ℝ) : EReal) := by
  have e : (⟨256 + r'.val, by omega⟩ : Fin 1024) = r := Fin.ext hr'.symm
  unfold a1
  refine (aRead1 U hU _ (fun e => sm (1024 * i + r.val) ν e (256 * (4 * i + 1 + 1))) (nz1 x3 K (4 * i)) _ r' (nzT1 x3 K i hi r ν hS r' hr') (fun l h => ?_) j h).trans (congrArg _ ?_)
  · rw [ldc1 x3 K i, e]; exact hp l h
  · exact wgt_eq (1024 * i + r.val) ν (4 * i + 1) r'.val (by omega) (fun k hk => by omega) j

include hi hS hU hV in
theorem oT1 (hp : ∀ l (h : l < 256), (C2 x3 K (4 * i) (ix2 r (⟨l, h⟩ : Fin 256)) : EReal) = ((sm (1024 * i + r.val) ν (l / 128) (256 * (4 * i + 2)) : ℝ) : EReal)) (hq : ∀ l, (O2 x3 K V U (4 * i) (ix2 r l) : EReal) = om (1024 * i + r.val) ν w (256 * (4 * i + 2)) l) (l : Fin 128) : (O1 x3 K V U (4 * i) (ix2 r l) : EReal) = om (1024 * i + r.val) ν w (256 * (4 * i + 1)) l := by
  unfold O1
  by_cases hr : 256 ≤ r.val
  · obtain ⟨r', hr'⟩ : ∃ r' : Fin 768, r.val = 256 + r'.val := ⟨⟨r.val - 256, by omega⟩, by show _ = 256 + (_ - 256); omega⟩
    have e : (⟨256 + r'.val, by omega⟩ : Fin 1024) = r := Fin.ext hr'.symm
    rw [put_in (s := S1024x128) _ _ _ _ _ (show (⟨2, ![768, 128]⟩ : Shape).Idx from ix2 r' l) (fun a => match a with | 0 => hr' | 1 => (Nat.zero_add _).symm)]
    refine (oRead1 _ _ _ r' l).trans ?_
    rw [ldo1, e, hq l]
    exact om_step (1024 * i + r.val) ν w (4 * i + 1) (by omega) l _ _ (fun x => aT1 x3 K U i hi r ν hU hS hp r' hr' x.val x.isLt) (fun x => hV (4 * i + 1) (by omega) x l)
  · rw [put_out (s := S1024x128) _ _ _ _ _ (0 : Fin 2) (.inl (by show r.val < 256; omega)), hq, om_zero _ _ _ _ _ (by omega), om_zero _ _ _ _ _ (by omega)]

/-- What a tile carries at its row when the weights of block `b` are pending. -/
def Good (b : ℕ) (a : Acc Ideal) : Prop :=
  (∀ l : Fin 128, (a.o (ix2 r l) : EReal) = om (1024 * i + r.val) ν w (256 * (b + 1)) l)
  ∧ (∀ l (h : l < 256), (a.c (ix2 r (⟨l, h⟩ : Fin 256)) : EReal) = ((sm (1024 * i + r.val) ν (l / 128) (256 * b) : ℝ) : EReal))
  ∧ (∀ j (h : j < 512), (a.a (ix2 r (⟨j, h⟩ : Fin 512)) : EReal) = ((am (1024 * i + r.val) ν (j / 256) (256 * b + j % 256) : ℝ) : EReal))
  ∧ (0 < b → ∀ j (h : j < 512), (a.nz (ix2 r (⟨j, h⟩ : Fin 512)) : EReal) = ((ν (j / 256) (256 * (b - 1) + j % 256) : ℝ) : EReal))

include hi hS hU hV in
theorem good_diag : Good i r ν w (4 * i) (diag x3 K V U (4 * i)) := by
  have h3 := cT3 x3 K i hi r ν hS
  have h2 := cT2 x3 K i hi r ν hS h3
  have h1 := cT1 x3 K i hi r ν hS h2
  have p3 := oT3 x3 K V U i hi r ν w hU hS hV
  have p2 := oT2 x3 K V U i hi r ν w hU hS hV h3 p3
  have p1 := oT1 x3 K V U i hi r ν w hU hS hV h2 p2
  have hN : ∀ j (h : j < 512), (nz0 x3 K (4 * i) (ix2 r (⟨j, h⟩ : Fin 512)) : EReal) = ((ν (j / 256) (256 * (4 * i) + j % 256) : ℝ) : EReal) := fun j h => by
    unfold nz0
    rw [nzRead0]
    exact hS (4 * i) (by omega) j h
  refine ⟨p1, fun l h => ?_, fun j h => ?_, fun hb j h => ?_⟩
  · show (C0 x3 K (4 * i) (ix2 r (⟨l, h⟩ : Fin 256)) : EReal) = _
    unfold C0
    refine (cRead0 _ (fun e => sm (1024 * i + r.val) ν e (256 * (4 * i + 1))) _ _ r hN h1 l h).trans (congrArg _ ?_)
    exact sm_step (1024 * i + r.val) ν (4 * i) r.val (by omega) (fun k hk => by omega) (l / 128)
  · show (a0 x3 K U (4 * i) (ix2 r (⟨j, h⟩ : Fin 512)) : EReal) = _
    unfold a0
    refine (aRead0 U hU _ (fun e => sm (1024 * i + r.val) ν e (256 * (4 * i + 1))) _ _ r hN h1 j h).trans (congrArg _ ?_)
    exact wgt_eq (1024 * i + r.val) ν (4 * i) r.val (by omega) (fun k hk => by omega) j
  · show (nzM (k0_pay162 x3) (kblk K (4 * i - 1)) (ix2 r (⟨j, h⟩ : Fin 512)) : EReal) = _
    rw [nzReadM]
    exact hS (4 * i - 1) (by omega) j h

include hi hS hU hV in
theorem good_step (b : ℕ) (hb : b + 1 ≤ 4 * i) (a : Acc Ideal) (g : Good i r ν w (b + 1) a) : Good i r ν w b (Acc.step (k0_pay162 x3) K V U (b + 1) a) := by
  obtain ⟨g1, g2, g3, g4⟩ := g
  have hN := g4 (by omega)
  rw [show b + 1 - 1 = b from by omega] at hN
  refine ⟨fun l => ?_, fun l h => ?_, fun j h => ?_, fun h0 j h => ?_⟩
  · show (oM a.a a.o (vblk V (b + 1)) (ix2 r l) : EReal) = _
    rw [oReadM, g1 l]
    exact om_step (1024 * i + r.val) ν w (b + 1) (by omega) l _ _ (fun x => g3 x.val x.isLt) (fun x => hV (b + 1) (by omega) x l)
  · show (cM a.nz a.c (ix2 r (⟨l, h⟩ : Fin 256)) : EReal) = _
    refine (cReadM _ (fun e => sm (1024 * i + r.val) ν e (256 * (b + 1))) a.nz a.c r hN g2 l h).trans (congrArg _ ?_)
    exact sm_step (1024 * i + r.val) ν b 256 (by omega) (fun k hk => by omega) (l / 128)
  · show (aM a.nz U a.c (ix2 r (⟨j, h⟩ : Fin 512)) : EReal) = _
    refine (aReadM U hU _ (fun e => sm (1024 * i + r.val) ν e (256 * (b + 1))) a.nz a.c r hN g2 j h).trans (congrArg _ ?_)
    exact wgt_eq (1024 * i + r.val) ν b 256 (by omega) (fun k hk => by omega) j
  · show (nzM (k0_pay162 x3) (kblk K (b + 1 - 2)) (ix2 r (⟨j, h⟩ : Fin 512)) : EReal) = _
    rw [nzReadM, show b + 1 - 2 = b - 1 from by omega]
    exact hS (b - 1) (by omega) j h

include hi hS hU hV in
theorem good_steps (k : ℕ) (hk : k ≤ 4 * i) : Good i r ν w (4 * i - k) (Acc.steps (k0_pay162 x3) K V U (4 * i) (diag x3 K V U (4 * i)) k) := by
  induction k with
  | zero => exact good_diag x3 K V U i hi r ν w hU hS hV
  | succ k ih =>
    have e : 4 * i - k = (4 * i - (k + 1)) + 1 := by omega
    have g := ih (by omega)
    rw [e] at g
    have := good_step x3 K V U i hi r ν w hU hS hV (4 * i - (k + 1)) (by omega) _ g
    rw [← e] at this
    exact this

include hi hS hU hV in
/-- A tile's result at a row is the weighted sum of the values. -/
theorem tile_row (l : Fin 128) : (tileOut x3 K V U (4 * i) (ix3 (0 : Fin 1) r l) : EReal) = om (1024 * i + r.val) ν w 0 l := by
  have g := good_steps x3 K V U i hi r ν w hU hS hV (4 * i) le_rfl
  rw [Nat.sub_self] at g
  obtain ⟨g1, g2, g3, g4⟩ := g
  unfold tileOut tileAcc
  rw [outRead, g1 l]
  exact om_step (1024 * i + r.val) ν w 0 (by omega) l _ _ (fun x => g3 x.val x.isLt) (fun x => hV 0 (by omega) x l)
end Tile

end Cert.Proof.KernelIdeal
end
-- ==== Proof.Ops.lean ====
module

public import proofs.«01_k».proof.Proof.Tile
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

/-! # The stacked keys, values and queries at exact values -/

theorem ix3_eq {n0 n1 n2 : Nat} (a : Fin n0) (b : Fin n1) (c : Fin n2) : ValueIdx.ix3 a b c = Idealize.ShloMosaic.ix3 a b c := rfl

theorem slt_ofNat (a b : ℕ) (ha : a < 100000) (hb : b < 100000) : (BitVec.ofNat 32 a).slt (BitVec.ofNat 32 b) = decide (a < b) := by
  rw [BitVec.slt_eq_decide, BitVec.toInt_eq_toNat_of_lt (by rw [BitVec.toNat_ofNat]; omega), BitVec.toInt_eq_toNat_of_lt (by rw [BitVec.toNat_ofNat]; omega), BitVec.toNat_ofNat, BitVec.toNat_ofNat]
  rw [show a % 2 ^ 32 = a from by omega, show b % 2 ^ 32 = b from by omega]
  simp only [Nat.cast_lt]

theorem sel_slt (a b : ℕ) (ha : a < 100000) (hb : b < 100000) (x y : EReal) :
    Scalar.select (IntOp.cmpi CmpIPredicate.slt (BitVec.ofNat 32 a) (BitVec.ofNat 32 b)) x y = if a < b then x else y := by
  by_cases h : a < b
  · have : IntOp.cmpi CmpIPredicate.slt (BitVec.ofNat 32 a) (BitVec.ofNat 32 b) = 1#1 := by
      unfold IntOp.cmpi; simp [slt_ofNat a b ha hb, h]
    rw [if_pos h, this]; rfl
  · have : IntOp.cmpi CmpIPredicate.slt (BitVec.ofNat 32 a) (BitVec.ofNat 32 b) = 0#1 := by
      unfold IntOp.cmpi; simp [slt_ofNat a b ha hb, h]
    rw [if_neg h, this]; rfl

theorem sel_sgt (a b : ℕ) (ha : a < 100000) (hb : b < 100000) (x y : EReal) :
    Scalar.select (IntOp.cmpi CmpIPredicate.sgt (BitVec.ofNat 32 a) (BitVec.ofNat 32 b)) x y = if b < a then x else y := by
  by_cases h : b < a
  · have : IntOp.cmpi CmpIPredicate.sgt (BitVec.ofNat 32 a) (BitVec.ofNat 32 b) = 1#1 := by
      unfold IntOp.cmpi; simp [slt_ofNat b a hb ha, h]
    rw [if_pos h, this]; rfl
  · have : IntOp.cmpi CmpIPredicate.sgt (BitVec.ofNat 32 a) (BitVec.ofNat 32 b) = 0#1 := by
      unfold IntOp.cmpi; simp [slt_ofNat b a hb ha, h]
    rw [if_neg h, this]; rfl

theorem ofNat_eq_iff (a b : ℕ) (ha : a < 100000) (hb : b < 100000) : (BitVec.ofNat 32 a = BitVec.ofNat 32 b) ↔ a = b := by
  constructor
  · intro h
    have := congrArg BitVec.toNat h
    rw [BitVec.toNat_ofNat, BitVec.toNat_ofNat] at this
    omega
  · rintro rfl; rfl

theorem sel_eq (a b : ℕ) (ha : a < 100000) (hb : b < 100000) (x y : EReal) :
    Scalar.select (IntOp.cmpi CmpIPredicate.eq (BitVec.ofNat 32 a) (BitVec.ofNat 32 b)) x y = if a = b then x else y := by
  by_cases h : a = b
  · have : IntOp.cmpi CmpIPredicate.eq (BitVec.ofNat 32 a) (BitVec.ofNat 32 b) = 1#1 := by
      unfold IntOp.cmpi; simp [h]
    rw [if_pos h, this]; rfl
  · have : IntOp.cmpi CmpIPredicate.eq (BitVec.ofNat 32 a) (BitVec.ofNat 32 b) = 0#1 := by
      have h' : ¬ (BitVec.ofNat 32 a = BitVec.ofNat 32 b) := fun e => h ((ofNat_eq_iff a b ha hb).mp e)
      show BitVec.ofBool (BitVec.ofNat 32 a == BitVec.ofNat 32 b) = 0#1
      rw [beq_eq_false_iff_ne.mpr h']; rfl
    rw [if_neg h, this]; rfl

theorem tri_read (a b : Fin 256) : (k0_pay161 (F := Ideal)) (ix2 a b) = if b.val < a.val then (1 : EReal) else 0 := by
  unfold k0_pay161
  pointwise
  exact sel_sgt a.val b.val (by omega) (by omega) _ _

section Stk
variable (x4 : Vec Ideal S1x8192x128 .bf16) (x5 : Vec Ideal S1x8192x128 .bf16) (x6 : Vec Ideal S1x2x128 .f32) (m : Fin 32) (k : Fin 256) (l : Fin 128)

theorem k_even : (k0_pay6 x4 (ix3 m k l) : EReal) = if l.val / 64 = 0 then x4 (ix3 (0 : Fin 1) (⟨m.val * 256 + k.val, by omega⟩ : Fin 8192) l) else 0 := by
  unfold k0_pay6 k0_pay5 k0_pay3
  pointwise
  refine (sel_slt l.val 64 (by omega) (by omega) _ _).trans ?_
  by_cases h : l.val < 64
  · rw [if_pos h, if_pos (by omega)]
  · rw [if_neg h, if_neg (by omega)]
theorem k_odd : (k0_pay7 x4 (ix3 m k l) : EReal) = if l.val / 64 = 1 then x4 (ix3 (0 : Fin 1) (⟨m.val * 256 + k.val, by omega⟩ : Fin 8192) l) else 0 := by
  unfold k0_pay7 k0_pay5 k0_pay4
  pointwise
  refine (sel_slt l.val 64 (by omega) (by omega) _ _).trans ?_
  by_cases h : l.val < 64
  · rw [if_pos h, if_neg (by omega)]
  · rw [if_neg h, if_pos (by omega)]
theorem v_even : (k0_pay15 k0_pay3 x5 (ix3 m k l) : EReal) = if 0 = l.val / 64 then x5 (ix3 (0 : Fin 1) (⟨m.val * 256 + k.val, by omega⟩ : Fin 8192) l) else 0 := by
  unfold k0_pay15 k0_pay14 k0_pay3
  pointwise
  refine (sel_slt l.val 64 (by omega) (by omega) _ _).trans ?_
  by_cases h : l.val < 64
  · rw [if_pos h, if_pos (by omega)]
  · rw [if_neg h, if_neg (by omega)]
theorem v_odd : (k0_pay160 (k0_pay14 x5) (k0_pay16 k0_pay4) (ix3 m k l) : EReal) = if 1 = l.val / 64 then x5 (ix3 (0 : Fin 1) (⟨m.val * 256 + k.val, by omega⟩ : Fin 8192) l) else 0 := by
  unfold k0_pay160 k0_pay14 k0_pay16 k0_pay4
  pointwise
  refine (sel_slt l.val 64 (by omega) (by omega) _ _).trans ?_
  by_cases h : l.val < 64
  · rw [if_pos h, if_neg (by omega)]
  · rw [if_neg h, if_pos (by omega)]

/-- The pieces of an offset at exact values: the offset in lane 0, zero in the others. -/
theorem pieces (b : ℝ) (l : ℕ) (hl : l < 128) (o : EReal) (ho : o = ((-b * (Real.log 2)⁻¹ : ℝ) : EReal)) :
    Scalar.select (IntOp.cmpi CmpIPredicate.eq (BitVec.ofNat 32 l) 2#32) (o - o - (o - o))
      (Scalar.select (IntOp.cmpi CmpIPredicate.eq (BitVec.ofNat 32 l) 1#32) (o - o)
        (Scalar.select (IntOp.cmpi CmpIPredicate.eq (BitVec.ofNat 32 l) 0#32) o 0)) = ((if l = 0 then -b * (Real.log 2)⁻¹ else 0 : ℝ) : EReal) := by
  have e : o - o = 0 := by rw [ho, ← EReal.coe_sub, sub_self, EReal.coe_zero]
  rw [e, sub_zero]
  refine (sel_eq l 2 (by omega) (by omega) _ _).trans ?_
  by_cases h2 : l = 2
  · rw [if_pos h2, if_neg (by omega), EReal.coe_zero]
  rw [if_neg h2]
  refine (sel_eq l 1 (by omega) (by omega) _ _).trans ?_
  by_cases h1 : l = 1
  · rw [if_pos h1, if_neg (by omega), EReal.coe_zero]
  rw [if_neg h1]
  refine (sel_eq l 0 (by omega) (by omega) _ _).trans ?_
  by_cases h0 : l = 0
  · rw [if_pos h0, if_pos h0, ho]
  · rw [if_neg h0, if_neg h0, EReal.coe_zero]

theorem off_word (b : ℝ) (x : EReal) (hx : x = (b : EReal)) : (0 - x) * (((Real.log 2)⁻¹ : ℝ) : EReal) = ((-b * (Real.log 2)⁻¹ : ℝ) : EReal) := by
  rw [hx, zero_sub, ← EReal.coe_neg, ← EReal.coe_mul]

theorem off_even (b : ℝ) (hb : ∀ l, x6 (ix3 (0 : Fin 1) (0 : Fin 2) l) = (b : EReal)) : (kOff x6 k0_pay12 (ix3 m k l) : EReal) = ((if l.val = 0 then -b * (Real.log 2)⁻¹ else 0 : ℝ) : EReal) := by
  unfold kOff k0_pay12 k0_pay11 k0_pay10 k0_pay9 k0_pay8
  pointwise
  rw [log2e_eq, off_word b _ (hb l)]
  exact pieces b l.val l.isLt _ rfl
theorem off_odd (b : ℝ) (hb : ∀ l, x6 (ix3 (0 : Fin 1) (1 : Fin 2) l) = (b : EReal)) : (kOff x6 k0_pay13 (ix3 m k l) : EReal) = ((if l.val = 0 then -b * (Real.log 2)⁻¹ else 0 : ℝ) : EReal) := by
  unfold kOff k0_pay13 k0_pay11 k0_pay10 k0_pay9 k0_pay8
  pointwise
  rw [log2e_eq, off_word b _ (hb l)]
  exact pieces b l.val l.isLt _ rfl
end Stk

theorem q_lo (x3 : Vec Ideal S1x1024x128 .f32) (r : Fin 1024) (l : Fin 128) : (k0_pay162 x3 (ix2 r (⟨l.val, by omega⟩ : Fin 256)) : EReal) = x3 (ix3 (0 : Fin 1) r l) * ((-((1 / 8) * (Real.log 2)⁻¹) : ℝ) : EReal) := by
  unfold k0_pay162
  pointwise
  rw [qscale_eq]
theorem q_hi (x3 : Vec Ideal S1x1024x128 .f32) (r : Fin 1024) (l : Fin 128) : (k0_pay162 x3 (ix2 r (⟨128 + l.val, by omega⟩ : Fin 256)) : EReal) = ((if l.val < 3 then 1 else 0 : ℝ) : EReal) := by
  unfold k0_pay162
  pointwise
  refine (sel_slt l.val 3 (by omega) (by omega) _ _).trans ?_
  by_cases h : l.val < 3
  · rw [if_pos h, if_pos h, EReal.coe_one]
  · rw [if_neg h, if_neg h, EReal.coe_zero]

/-- Minus the logit in base two: a query row against a key of one of the two heads. -/
def nu (Q : Fin 128 → ℝ) (Kf : ℕ → Fin 128 → ℝ) (b : ℕ → ℝ) (e s : ℕ) : ℝ :=
  (∑ l : Fin 128, Q l * -((1 / 8) * (Real.log 2)⁻¹) * (if l.val / 64 = e then Kf s l else 0)) + -b e * (Real.log 2)⁻¹

section Rows
variable (x3 : Vec Ideal S1x1024x128 .f32) (x4 : Vec Ideal S1x8192x128 .bf16) (x5 : Vec Ideal S1x8192x128 .bf16) (x6 : Vec Ideal S1x2x128 .f32)
  (x8 : Vec Ideal S32x512x256 .bf16) (x9 : Vec Ideal S32x512x128 .bf16) (r : Fin 1024)
  (Q : Fin 128 → ℝ) (Kf : ℕ → Fin 128 → ℝ) (b : ℕ → ℝ)
  (hq : ∀ l, x3 (ix3 (0 : Fin 1) r l) = (Q l : EReal)) (hk : ∀ (s : Fin 8192) l, x4 (ix3 (0 : Fin 1) s l) = (Kf s.val l : EReal))
  (hb : ∀ (e : Fin 2) l, x6 (ix3 (0 : Fin 1) e l) = (b e.val : EReal))

include hk in
theorem k_lo (m : ℕ) (hm : m < 32) (j : ℕ) (h : j < 512) (l : Fin 128) :
    (kblk (kInit x4 x6 x8) m (ix3 (0 : Fin 1) (⟨j, h⟩ : Fin 512) (⟨l.val, by omega⟩ : Fin 256)) : EReal) = ((if l.val / 64 = j / 256 then Kf (256 * m + j % 256) l else 0 : ℝ) : EReal) := by
  have e : m % 32 = m := Nat.mod_eq_of_lt hm
  rcases Nat.lt_or_ge j 256 with hj | hj
  · refine Eq.trans (?_ : _ = (kInit x4 x6 x8 (ValueIdx.ix3 (⟨m, hm⟩ : Fin 32) (⟨(⟨j, hj⟩ : Fin 256).val, by omega⟩ : Fin 512) (⟨l.val, by omega⟩ : Fin 256)) : EReal)) ?_
    · unfold kblk; refine congrArg _ ?_; simp only [e]; rfl
    refine (kInit_00 (F := Ideal) x4 x6 x8 ⟨m, hm⟩ ⟨j, hj⟩ l).trans ((k_even x4 ⟨m, hm⟩ ⟨j, hj⟩ l).trans ?_)
    rw [hk, show j / 256 = 0 from by omega]
    by_cases hl : l.val / 64 = 0
    · rw [if_pos hl, if_pos hl]
      show ((Kf (m * 256 + j) l : ℝ) : EReal) = _
      rw [show m * 256 + j = 256 * m + j % 256 from by omega]
    · rw [if_neg hl, if_neg hl, EReal.coe_zero]
  · obtain ⟨k, rfl⟩ : ∃ k, j = 256 + k := ⟨j - 256, by omega⟩
    refine Eq.trans (?_ : _ = (kInit x4 x6 x8 (ValueIdx.ix3 (⟨m, hm⟩ : Fin 32) (⟨256 + (⟨k, by omega⟩ : Fin 256).val, by omega⟩ : Fin 512) (⟨l.val, by omega⟩ : Fin 256)) : EReal)) ?_
    · unfold kblk; refine congrArg _ ?_; simp only [e]; rfl
    refine (kInit_10 (F := Ideal) x4 x6 x8 ⟨m, hm⟩ ⟨k, by omega⟩ l).trans ((k_odd x4 ⟨m, hm⟩ ⟨k, by omega⟩ l).trans ?_)
    rw [hk, show (256 + k) / 256 = 1 from by omega]
    by_cases hl : l.val / 64 = 1
    · rw [if_pos hl, if_pos hl]
      show ((Kf (m * 256 + k) l : ℝ) : EReal) = _
      rw [show m * 256 + k = 256 * m + (256 + k) % 256 from by omega]
    · rw [if_neg hl, if_neg hl, EReal.coe_zero]

include hb in
theorem k_hi (m : ℕ) (hm : m < 32) (j : ℕ) (h : j < 512) (l : Fin 128) :
    (kblk (kInit x4 x6 x8) m (ix3 (0 : Fin 1) (⟨j, h⟩ : Fin 512) (⟨128 + l.val, by omega⟩ : Fin 256)) : EReal) = ((if l.val = 0 then -b (j / 256) * (Real.log 2)⁻¹ else 0 : ℝ) : EReal) := by
  have e : m % 32 = m := Nat.mod_eq_of_lt hm
  rcases Nat.lt_or_ge j 256 with hj | hj
  · refine Eq.trans (?_ : _ = (kInit x4 x6 x8 (ValueIdx.ix3 (⟨m, hm⟩ : Fin 32) (⟨(⟨j, hj⟩ : Fin 256).val, by omega⟩ : Fin 512) (⟨128 + l.val, by omega⟩ : Fin 256)) : EReal)) ?_
    · unfold kblk; refine congrArg _ ?_; simp only [e]; rfl
    refine (kInit_01 (F := Ideal) x4 x6 x8 ⟨m, hm⟩ ⟨j, hj⟩ l).trans ((off_even x6 ⟨m, hm⟩ ⟨j, hj⟩ l (b 0) (fun l => hb 0 l)).trans ?_)
    rw [show j / 256 = 0 from by omega]
  · obtain ⟨k, rfl⟩ : ∃ k, j = 256 + k := ⟨j - 256, by omega⟩
    refine Eq.trans (?_ : _ = (kInit x4 x6 x8 (ValueIdx.ix3 (⟨m, hm⟩ : Fin 32) (⟨256 + (⟨k, by omega⟩ : Fin 256).val, by omega⟩ : Fin 512) (⟨128 + l.val, by omega⟩ : Fin 256)) : EReal)) ?_
    · unfold kblk; refine congrArg _ ?_; simp only [e]; rfl
    refine (kInit_11 (F := Ideal) x4 x6 x8 ⟨m, hm⟩ ⟨k, by omega⟩ l).trans ((off_odd x6 ⟨m, hm⟩ ⟨k, by omega⟩ l (b 1) (fun l => hb 1 l)).trans ?_)
    rw [show (256 + k) / 256 = 1 from by omega]

include hq hk hb in
theorem score_eq (m : ℕ) (hm : m < 32) (j : ℕ) (h : j < 512) :
    (∑ x : Fin 256, (k0_pay162 x3 (ix2 r x) : EReal) * kblk (kInit x4 x6 x8) m (ix3 (0 : Fin 1) (⟨j, h⟩ : Fin 512) x)) = ((nu Q Kf b (j / 256) (256 * m + j % 256) : ℝ) : EReal) := by
  refine (Fin.sum_univ_add (M := EReal) (a := 128) (b := 128) fun x : Fin 256 => (k0_pay162 x3 (ix2 r x) : EReal) * kblk (kInit x4 x6 x8) m (ix3 (0 : Fin 1) (⟨j, h⟩ : Fin 512) x)).trans ?_
  unfold nu
  rw [EReal.coe_add, ← coe_sum']
  refine congrArg₂ (· + ·) (Finset.sum_congr rfl fun l _ => ?_) ?_
  · rw [EReal.coe_mul, EReal.coe_mul, ← hq l, ← k_lo x4 x6 x8 Kf hk m hm j h l, ← q_lo x3 r l]
    rfl
  · have e : ∀ l : Fin 128, (k0_pay162 x3 (ix2 r (Fin.natAdd 128 l)) : EReal) * kblk (kInit x4 x6 x8) m (ix3 (0 : Fin 1) (⟨j, h⟩ : Fin 512) (Fin.natAdd 128 l)) = ((if l = 0 then -b (j / 256) * (Real.log 2)⁻¹ else 0 : ℝ) : EReal) := fun l => by
      refine (congrArg₂ (fun x y : EReal => x * y) (q_hi x3 r l) (k_hi x4 x6 x8 b hb m hm j h l)).trans ?_
      rw [← EReal.coe_mul]
      refine congrArg _ ?_
      by_cases hl : l.val = 0
      · rw [if_pos hl, if_pos (by omega), if_pos (Fin.ext hl), one_mul]
      · rw [if_neg hl, if_neg (fun e => hl (congrArg Fin.val e)), mul_zero]
    rw [Finset.sum_congr rfl fun l _ => e l, coe_sum']
    refine congrArg _ ?_
    rw [Finset.sum_ite_eq' Finset.univ (0 : Fin 128), if_pos (Finset.mem_univ _)]

/-- A value of the window, by its position. -/
def wv (s : ℕ) (l : Fin 128) : EReal := if h : s < 8192 then x5 (ix3 (0 : Fin 1) (⟨s, h⟩ : Fin 8192) l) else 0

theorem v_eq (m : ℕ) (hm : m < 32) (j : Fin 512) (l : Fin 128) :
    (vblk (vInit x5 x9) m (ix3 (0 : Fin 1) j l) : EReal) = if j.val / 256 = l.val / 64 then wv x5 (256 * m + j.val % 256) l else 0 := by
  have e : m % 32 = m := Nat.mod_eq_of_lt hm
  obtain ⟨j, h⟩ := j
  have hw : wv x5 (256 * m + j % 256) l = x5 (ix3 (0 : Fin 1) (⟨256 * m + j % 256, by omega⟩ : Fin 8192) l) := dif_pos _
  rcases Nat.lt_or_ge j 256 with hj | hj
  · refine Eq.trans (?_ : _ = (vInit x5 x9 (ValueIdx.ix3 (⟨m, hm⟩ : Fin 32) (⟨(⟨j, hj⟩ : Fin 256).val, by omega⟩ : Fin 512) l) : EReal)) ?_
    · unfold vblk; refine congrArg _ ?_; simp only [e]; rfl
    refine (vInit_0 (F := Ideal) x5 x9 ⟨m, hm⟩ ⟨j, hj⟩ l).trans ((v_even x5 ⟨m, hm⟩ ⟨j, hj⟩ l).trans ?_)
    rw [hw]
    simp only [show j / 256 = 0 from by omega, show m * 256 + j = 256 * m + j % 256 from by omega]
  · obtain ⟨k, rfl⟩ : ∃ k, j = 256 + k := ⟨j - 256, by omega⟩
    refine Eq.trans (?_ : _ = (vInit x5 x9 (ValueIdx.ix3 (⟨m, hm⟩ : Fin 32) (⟨256 + (⟨k, by omega⟩ : Fin 256).val, by omega⟩ : Fin 512) l) : EReal)) ?_
    · unfold vblk; refine congrArg _ ?_; simp only [e]; rfl
    refine (vInit_1 (F := Ideal) x5 x9 ⟨m, hm⟩ ⟨k, by omega⟩ l).trans ((v_odd x5 ⟨m, hm⟩ ⟨k, by omega⟩ l).trans ?_)
    rw [hw]
    simp only [show (256 + k) / 256 = 1 from by omega, show m * 256 + k = 256 * m + (256 + k) % 256 from by omega]

include hq hk hb in
/-- A tile's result at a row, from what the four windows hold. -/
theorem tile_val (i : ℕ) (hi : i < 8) (l : Fin 128) :
    (tileOut x3 (kInit x4 x6 x8) (vInit x5 x9) (k0_pay161 (F := Ideal)) (4 * i) (ix3 (0 : Fin 1) r l) : EReal) = om (1024 * i + r.val) (nu Q Kf b) (wv x5) 0 l :=
  tile_row x3 (kInit x4 x6 x8) (vInit x5 x9) (k0_pay161 (F := Ideal)) i hi r (nu Q Kf b) (wv x5) tri_read
    (fun m hm j h => score_eq x3 x4 x6 x8 r Q Kf b hq hk hb m hm j h) (fun m hm j l => v_eq x5 x9 m hm j l) l
end Rows

end Cert.Proof.KernelIdeal
end
-- ==== Proof.Ref.lean ====
module

public import proofs.«01_k».proof.Proof.Cumsum
public import proofs.«01_k».proof.Proof.Gen.ReferenceIdeal.Run
public import proofs.«01_k».proof.Proof.Ops
public import Idealize.ShloMosaic.Lib.Pointwise

@[expose] public section

set_option maxRecDepth 16384

noncomputable section

namespace Cert.Proof.ReferenceIdeal

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

/-! # The reference's result at an index -/

/-- The logits. -/
def Zf (q k : FVec Ideal S2x8192x512 .f32) (b : FVec Ideal S8 .f32) : FVec Ideal S2x8x8192x8192 .f32 := (addf (mulf (Host.dotGeneral dot_S2x8192x8x64_S2x8192x8x64_S2x8x8192x8192_3_3_1_1_02_02 none (shapeCast _ q shapeCasts_S2x8192x512_S2x8192x8x64) (shapeCast _ k shapeCasts_S2x8192x512_S2x8192x8x64)) (broadcastInDim S2x8x8192x8192 ![] bcast_S_S2x8x8192x8192 (constant S_ .f32 0x3E000000#32))) (broadcastInDim S2x8x8192x8192 ![0, 1, 2, 3] bcast_S1x8x1x1_S2x8x8192x8192_0_1_2_3 (broadcastInDim S1x8x1x1 ![1] bcast_S8_S1x8x1x1_1 b)))
/-- The softplus of an array. -/
def SP (X : FVec Ideal S2x8x8192x8192 .f32) : FVec Ideal S2x8x8192x8192 .f32 := (select (cmpf .une (subf X (broadcastInDim S2x8x8192x8192 ![] bcast_S_S2x8x8192x8192 (constant S_ .f32 0x00000000#32))) (subf X (broadcastInDim S2x8x8192x8192 ![] bcast_S_S2x8x8192x8192 (constant S_ .f32 0x00000000#32)))) (addf X (broadcastInDim S2x8x8192x8192 ![] bcast_S_S2x8x8192x8192 (constant S_ .f32 0x00000000#32))) (addf (maximumf X (broadcastInDim S2x8x8192x8192 ![] bcast_S_S2x8x8192x8192 (constant S_ .f32 0x00000000#32))) (Host.log1p (Host.exp (Host.negf (Host.absf (subf X (broadcastInDim S2x8x8192x8192 ![] bcast_S_S2x8x8192x8192 (constant S_ .f32 0x00000000#32)))))))))
/-- The strict causal mask. -/
def Msk : IVec S2x8x8192x8192 1 := (broadcastInDim S2x8x8192x8192 ![2, 3] bcast_S8192x8192_S2x8x8192x8192_2_3 (cmpi .slt (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))))
/-- The masked log-remainders. -/
def Rm (Z : FVec Ideal S2x8x8192x8192 .f32) : FVec Ideal S2x8x8192x8192 .f32 := (select Msk (Host.negf (SP (Host.negf (Host.negf Z)))) (broadcastInDim S2x8x8192x8192 ![] bcast_S_S2x8x8192x8192 (id (constant S_ .f32 0x00000000#32))))
/-- The weights. -/
def Wt (Z : FVec Ideal S2x8x8192x8192 .f32) : FVec Ideal S2x8x8192x8192 .f32 := (select Msk (Host.exp (addf (Host.negf (SP (Host.negf Z))) (subf (Host.reduceWindowAdd ![1, 1, 1, 8192] ![1, 1, 1, 1] ![0, 0, 0, 0] ![0, 0, 0, 8191] (Rm Z) (broadcastInDim S_ ![] bcast_S_S_ (constant S_ .f32 0x00000000#32)) reduceWindows_S2x8x8192x8192_S2x8x8192x8192_w1s1p0_0_w1s1p0_0_w1s1p0_0_w8192s1p0_8191 h_S_) (Rm Z)))) (broadcastInDim S2x8x8192x8192 ![] bcast_S_S2x8x8192x8192 (id (constant S_ .f32 0x00000000#32))))
/-- The result from its weights. -/
def Rs (v : FVec Ideal S2x8192x512 .f32) (W : FVec Ideal S2x8x8192x8192 .f32) : FVec Ideal S2x8192x512 .bf16 :=
  truncf .bf16 (shapeCast _ (transpose S2x8192x8x64 [0, 3, 1, 2] (Host.dotGeneral dot_S2x8192x8x64_S2x8x8192x8192_S2x8x64x8192_1_3_3_2_02_01 none (shapeCast _ v shapeCasts_S2x8192x512_S2x8192x8x64) W) transposes_S2x8x64x8192_S2x8192x8x64_0_3_1_2) shapeCasts_S2x8192x8x64_S2x8192x512) bitsLt_bf16_f32

theorem res_eq (m : (ℓ : Loc nD τ sig) → Buf (Elt Ideal) ℓ) (c : Dev nD) :
    Cert.ReferenceIdeal.Value.res_main_v27 m c = Rs (m ((c.tc : Thread nD τ).loc main_arg2)) (Wt (Zf (m ((c.tc : Thread nD τ).loc main_arg0)) (m ((c.tc : Thread nD τ).loc main_arg1)) (m ((c.tc : Thread nD τ).loc main_arg3)))) := rfl

theorem eighth : Ideal.ofBits .f32 0x3E000000#32 = (((1 : ℝ) / 8 : ℝ) : EReal) := by
  simp [Ideal.ofBits, Ideal.ieee, -EReal.coe_mul]; norm_num

/-- The softplus of a real. -/
def sp (x : ℝ) : ℝ := max x 0 + Real.log (1 + Real.exp (-max x (-x)))

theorem Zread (q k : FVec Ideal S2x8192x512 .f32) (b : FVec Ideal S8 .f32) (n : Fin 2) (h : Fin 8) (i j : Fin 8192) :
    (Zf q k b (ix4 n h i j) : EReal) = (∑ d : Fin 64, q (ix3 n i (⟨h.val * 64 + d.val, by omega⟩ : Fin 512)) * k (ix3 n j (⟨h.val * 64 + d.val, by omega⟩ : Fin 512))) * (((1 : ℝ) / 8 : ℝ) : EReal) + b (ix1 h) := by
  unfold Zf
  pointwise
  rw [eighth]

theorem SPread (X : FVec Ideal S2x8x8192x8192 .f32) (n : Fin 2) (h : Fin 8) (i j : Fin 8192) (x : ℝ) (hx : X (ix4 n h i j) = (x : EReal)) :
    (SP X (ix4 n h i j) : EReal) = (sp x : EReal) := by
  unfold SP
  pointwise
  have e1 : FloatOps.absf (F := Ideal) (φ := .f32) (x : EReal) = ((max x (-x) : ℝ) : EReal) := by
    show max (x : EReal) (-(x : EReal)) = _
    rw [← EReal.coe_neg, Cert.Proof.KernelIdeal.coe_max']
  have hp : (0 : ℝ) < Real.exp (-max x (-x)) := Real.exp_pos _
  rw [if_neg (not_not.mpr rfl), hx, e1, ← EReal.coe_neg, show Ideal.exp ((-max x (-x) : ℝ) : EReal) = ((Real.exp (-max x (-x)) : ℝ) : EReal) from Ideal.exp_coe _]
  have e2 : Ideal.log1p ((Real.exp (-max x (-x)) : ℝ) : EReal) = ((Real.log (1 + Real.exp (-max x (-x))) : ℝ) : EReal) := by
    show Ideal.log (1 + ((Real.exp (-max x (-x)) : ℝ) : EReal)) = _
    rw [show (1 : EReal) + ((Real.exp (-max x (-x)) : ℝ) : EReal) = ((1 + Real.exp (-max x (-x)) : ℝ) : EReal) from by rw [EReal.coe_add, EReal.coe_one],
      Ideal.log_coe, if_neg (by linarith)]
  rw [e2, show (0 : EReal) = ((0 : ℝ) : EReal) from rfl, Cert.Proof.KernelIdeal.coe_max', ← EReal.coe_add]
  rfl

theorem id0 : (id (constant (F := Ideal) S_ .f32 0x00000000#32) ix0 : EReal) = 0 := Ideal.ofBits_zero_f32

theorem Mread (n : Fin 2) (h : Fin 8) (i j : Fin 8192) : Msk (ix4 n h i j) = IntOp.cmpi CmpIPredicate.slt (BitVec.ofNat 32 j.val) (BitVec.ofNat 32 i.val) := by
  unfold Msk
  pointwise

theorem Rread (v : FVec Ideal S2x8192x512 .f32) (W : FVec Ideal S2x8x8192x8192 .f32) (n : Fin 2) (i : Fin 8192) (x : Fin 512) :
   (Rs v W (ix3 n i x) : EReal) = ∑ j : Fin 8192, v (ix3 n j x) * W (ix4 n (⟨x.val / 64, by omega⟩ : Fin 8) i j) := by
  unfold Rs
  pointwise

section Row
variable (Z : FVec Ideal S2x8x8192x8192 .f32) (n : Fin 2) (h : Fin 8) (i : Fin 8192) (z : ℕ → ℝ) (hZ : ∀ j : Fin 8192, Z (ix4 n h i j) = (z j.val : EReal))
include hZ

theorem Rmread (j : Fin 8192) : (Rm Z (ix4 n h i j) : EReal) = ((if j.val < i.val then -(sp (z j.val)) else 0 : ℝ) : EReal) := by
  unfold Rm
  have e : (SP (Host.negf (Host.negf Z)) (ix4 n h i j) : EReal) = (sp (z j.val) : EReal) :=
    SPread _ n h i j _ (by show -(-(Z (ix4 n h i j))) = _; rw [hZ, neg_neg])
  generalize SP (Host.negf (Host.negf Z)) = Y at e
  pointwise
  rw [Mread, e, id0]
  refine (Cert.Proof.KernelIdeal.sel_slt j.val i.val (by omega) (by omega) _ _).trans ?_
  by_cases hj : j.val < i.val
  · rw [if_pos hj, if_pos hj, EReal.coe_neg]
  · rw [if_neg hj, if_neg hj, EReal.coe_zero]

theorem Wread (j : Fin 8192) : (Wt Z (ix4 n h i j) : EReal)
    = ((if j.val < i.val then Real.exp (-(sp (-(z j.val))) + ((∑ s ∈ Finset.Ico j.val 8192, if s < i.val then -(sp (z s)) else 0) - if j.val < i.val then -(sp (z j.val)) else 0)) else 0 : ℝ) : EReal) := by
  unfold Wt
  have e : (SP (Host.negf Z) (ix4 n h i j) : EReal) = (sp (-(z j.val)) : EReal) :=
    SPread _ n h i j _ (by show -(Z (ix4 n h i j)) = _; rw [hZ, EReal.coe_neg])
  have eR := Rmread Z n h i z hZ
  have eC := rev_cumsum (u := S_) (Rm Z) (broadcastInDim (s := S_) S_ ![] bcast_S_S_ (constant (F := Ideal) S_ .f32 0x00000000#32)) h_S_ Ideal.ofBits_zero_f32 reduceWindows_S2x8x8192x8192_S2x8x8192x8192_w1s1p0_0_w1s1p0_0_w1s1p0_0_w8192s1p0_8191 n h i j (fun s => ((if s < i.val then -(sp (z s)) else 0 : ℝ) : EReal)) eR
  generalize SP (Host.negf Z) = Y at e
  generalize Host.reduceWindowAdd _ _ _ _ (Rm Z) _ _ _ = C at eC
  generalize Rm Z = R at eR
  pointwise
  rw [Mread, e, eC, eR, id0, Cert.Proof.KernelIdeal.coe_sum', ← EReal.coe_neg, ← EReal.coe_sub, ← EReal.coe_add]
  refine (Cert.Proof.KernelIdeal.sel_slt j.val i.val (by omega) (by omega) _ _).trans ?_
  by_cases hj : j.val < i.val
  · rw [if_pos hj, if_pos hj, if_pos hj]
    exact Ideal.exp_coe _
  · rw [if_neg hj, if_neg hj, EReal.coe_zero]
end Row

/-! # The kernel's base-two weights are the reference's -/

theorem rpow_two (x : ℝ) : Real.rpow 2 (x * (Real.log 2)⁻¹) = Real.exp x := by
  have h : Real.log 2 ≠ 0 := (Real.log_pos (by norm_num)).ne'
  show (2 : ℝ) ^ (x * (Real.log 2)⁻¹) = _
  rw [Real.rpow_def_of_pos (by norm_num)]
  congr 1
  field_simp

theorem lam_eq (z : ℝ) : Cert.Proof.KernelIdeal.lam (-z * (Real.log 2)⁻¹) = -(sp z) * (Real.log 2)⁻¹ := by
  have hp : (0 : ℝ) < (Real.log 2)⁻¹ := inv_pos.mpr (Real.log_pos (by norm_num))
  unfold Cert.Proof.KernelIdeal.lam sp
  have e1 : -max (-z * (Real.log 2)⁻¹) (-(-z * (Real.log 2)⁻¹)) = (-max z (-z)) * (Real.log 2)⁻¹ := by
    rw [← abs_eq_max_neg, ← abs_eq_max_neg, abs_mul, abs_neg, abs_of_pos hp, neg_mul]
  have e2 : min (-z * (Real.log 2)⁻¹) 0 = -(max z 0) * (Real.log 2)⁻¹ := by
    rcases le_total z 0 with h | h
    · rw [max_eq_right h, min_eq_right (mul_nonneg (by linarith) hp.le)]; ring
    · rw [max_eq_left h, min_eq_left (mul_nonpos_of_nonpos_of_nonneg (by linarith) hp.le)]
  rw [e1, e2, rpow_two]
  ring

theorem sp_neg (z : ℝ) : -(sp (-z)) = z - sp z := by
  unfold sp
  have e1 : max (-z) (-(-z)) = max z (-z) := by rw [neg_neg, max_comm]
  have e2 : max (-z) 0 = max z 0 - z := by
    rcases le_total z 0 with h | h
    · rw [max_eq_right h, max_eq_left (by linarith)]; ring
    · rw [max_eq_left h, max_eq_right (by linarith)]; ring
  rw [e1, e2]; ring

theorem am_eq (t : ℕ) (ν : ℕ → ℕ → ℝ) (e : ℕ) (z : ℕ → ℝ) (hν : ∀ s, ν e s = -(z s) * (Real.log 2)⁻¹) (s : ℕ) (hs : s < 8192) :
    Cert.Proof.KernelIdeal.am t ν e s = if s < t then Real.exp (-(sp (-(z s))) + ((∑ x ∈ Finset.Ico s 8192, if x < t then -(sp (z x)) else 0) - if s < t then -(sp (z s)) else 0)) else 0 := by
  have hl : ∀ x, Cert.Proof.KernelIdeal.lm t ν e x = (if x < t then -(sp (z x)) else 0) * (Real.log 2)⁻¹ := fun x => by
    unfold Cert.Proof.KernelIdeal.lm
    by_cases hx : x < t
    · rw [if_pos hx, if_pos hx, hν, lam_eq]
    · rw [if_neg hx, if_neg hx, zero_mul]
  unfold Cert.Proof.KernelIdeal.am
  by_cases h : s < t
  · rw [if_pos h, if_pos h, ← rpow_two]
    refine congrArg (Real.rpow 2) ?_
    rw [hl, hν]
    unfold Cert.Proof.KernelIdeal.sm
    rw [Finset.sum_congr rfl fun x _ => hl x, ← Finset.sum_mul, sp_neg, Finset.sum_eq_sum_Ico_succ_bot hs, if_pos h]
    ring
  · rw [if_neg h, if_neg h]
end Cert.Proof.ReferenceIdeal
end
-- ==== Proof.Value.lean ====
module

public import proofs.«01_k».proof.Proof.Ref
public import proofs.«01_k».proof.Proof.Launch
public import Idealize.ShloMosaic.Lib.Pipeline.ValueKit.Geometry
public import Idealize.ShloMosaic.Lib.Claim
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

/-! # The kernel's result array -/

section Host
variable (m : (ℓ : Loc nD τ sig) → Buf (Elt Ideal) ℓ) (c : Dev nD)

theorem V0 (y : S2x8192x512.Idx) : ((V m c main_v0 : Vec Ideal S2x8192x512 .bf16) y : EReal) = (m ((c : Thread nD τ).loc main_arg1) : Vec Ideal S2x8192x512 .f32) y := by
  entry_read
  rfl
theorem V1 (y : S2x8192x512.Idx) : ((V m c main_v1 : Vec Ideal S2x8192x512 .bf16) y : EReal) = (m ((c : Thread nD τ).loc main_arg2) : Vec Ideal S2x8192x512 .f32) y := by
  entry_read
  rfl
theorem V3 (p : Fin 4) (e : Fin 2) (l : Fin 128) : ((V m c main_v3 : Vec Ideal S4x2x128 .f32) (ix3 p e l) : EReal) = (m ((c : Thread nD τ).loc main_arg3) : Vec Ideal S8 .f32) (ix1 (⟨p.val * 2 + e.val, by omega⟩ : Fin 8)) := by
  entry_read
  generalize m ((c : Thread nD τ).loc main_arg3) = b
  pointwise
end Host

theorem half_sum (f : ℕ → ℝ) (e : ℕ) (he : e < 2) : (∑ l : Fin 128, if l.val / 64 = e then f l.val else 0) = ∑ d : Fin 64, f (64 * e + d.val) := by
  rw [Fin.sum_univ_eq_sum_range (fun l => if l / 64 = e then f l else 0) 128, show (128 : ℕ) = 64 + 64 from rfl, Finset.sum_range_add, Finset.sum_range, Finset.sum_range]
  have h : e = 0 ∨ e = 1 := by omega
  rcases h with rfl | rfl
  · rw [Finset.sum_eq_zero (s := Finset.univ) (f := fun i : Fin 64 => if (64 + i.val) / 64 = 0 then f (64 + i.val) else 0) (fun x _ => if_neg (by omega)), add_zero]
    exact Finset.sum_congr rfl fun x _ => by rw [if_pos (by omega), Nat.mul_zero, Nat.zero_add]
  · rw [Finset.sum_eq_zero (s := Finset.univ) (f := fun i : Fin 64 => if i.val / 64 = 1 then f i.val else 0) (fun x _ => if_neg (by omega)), zero_add]
    exact Finset.sum_congr rfl fun x _ => by rw [if_pos (by omega), Nat.mul_one]

section Out
variable (m : (ℓ : Loc nD τ sig) → Buf (Elt Ideal) ℓ) (c : Dev nD)
  (qr kr : S2x8192x512.Idx → ℝ) (br : S8.Idx → ℝ)
  (hq : ∀ y, (m ((c : Thread nD τ).loc main_arg0) : Vec Ideal S2x8192x512 .f32) y = (qr y : EReal))
  (hk : ∀ y, (m ((c : Thread nD τ).loc main_arg1) : Vec Ideal S2x8192x512 .f32) y = (kr y : EReal))
  (hb : ∀ y, (m ((c : Thread nD τ).loc main_arg3) : Vec Ideal S8 .f32) y = (br y : EReal))

/-- The result array: the reference's term of the arguments. -/
def Gres : Vec Ideal S2x8192x512 .bf16 := Cert.Proof.ReferenceIdeal.Rs (m ((c : Thread nD τ).loc main_arg2))
  (Cert.Proof.ReferenceIdeal.Wt (Cert.Proof.ReferenceIdeal.Zf (m ((c : Thread nD τ).loc main_arg0)) (m ((c : Thread nD τ).loc main_arg1)) (m ((c : Thread nD τ).loc main_arg3))))

include hq hk hb in
theorem out_row (t : Fin grid0.N) (r : Fin 1024) (l : Fin 128) :
    (outAt m c t (ix3 (0 : Fin 1) r l) : EReal) = Gres m c (ix3 (⟨t.val / 32, by have := lt64 t; omega⟩ : Fin 2) (⟨t.val % 8 * 1024 + r.val, by omega⟩ : Fin 8192) (⟨t.val / 8 % 4 * 128 + l.val, by omega⟩ : Fin 512)) := by
  have h64 := lt64 t
  set n : Fin 2 := ⟨t.val / 32, by omega⟩ with hn
  set s : Fin 8192 := ⟨t.val % 8 * 1024 + r.val, by omega⟩ with hs
  set p : Fin 4 := ⟨t.val / 8 % 4, by omega⟩ with hp
  set x : Fin 512 := ⟨t.val / 8 % 4 * 128 + l.val, by omega⟩ with hx
  let Q : Fin 128 → ℝ := fun l => qr (ix3 n s (⟨p.val * 128 + l.val, by omega⟩ : Fin 512))
  let Kf : ℕ → Fin 128 → ℝ := fun j l => if h : j < 8192 then kr (ix3 n (⟨j, h⟩ : Fin 8192) (⟨p.val * 128 + l.val, by omega⟩ : Fin 512)) else 0
  let b : ℕ → ℝ := fun e => if h : e < 2 then br (ix1 (⟨p.val * 2 + e, by omega⟩ : Fin 8)) else 0
  have e1 : (outAt m c t (ix3 (0 : Fin 1) r l) : EReal) = om (1024 * (t.val % 8) + r.val) (nu Q Kf b) (wv (iblk m c 2 t)) 0 l :=
    tile_val (iblk m c 0 t) (iblk m c 1 t) (iblk m c 2 t) (iblk m c 3 t) _ _ r Q Kf b
      (fun l => (iblk0_apply m c t r l).trans ((congrFun (V_main_arg0 m c) _).trans (hq _)))
      (fun j l => (iblk1_apply m c t j l).trans ((V0 m c _).trans ((hk _).trans (congrArg _ (by show kr _ = (if h : j.val < 8192 then kr (ix3 n (⟨j.val, h⟩ : Fin 8192) (⟨p.val * 128 + l.val, by omega⟩ : Fin 512)) else 0); rw [dif_pos j.isLt]; rfl)))))
      (fun e l => (iblk3_apply m c t e l).trans ((V3 m c p e l).trans ((hb _).trans (congrArg _ (by show br _ = (if h : e.val < 2 then br (ix1 (⟨p.val * 2 + e.val, by omega⟩ : Fin 8)) else 0); rw [dif_pos e.isLt])))))
      (t.val % 8) (by omega) l
  rw [e1]
  unfold Gres om
  rw [Cert.Proof.ReferenceIdeal.Rread]
  set h : Fin 8 := ⟨x.val / 64, by omega⟩ with hh
  let z : ℕ → ℝ := fun j => (∑ d : Fin 64, qr (ix3 n s (⟨h.val * 64 + d.val, by omega⟩ : Fin 512)) * (if hj : j < 8192 then kr (ix3 n (⟨j, hj⟩ : Fin 8192) (⟨h.val * 64 + d.val, by omega⟩ : Fin 512)) else 0)) * (1 / 8) + br (ix1 h)
  have hxl : x.val = p.val * 128 + l.val := rfl
  have hhv : h.val = x.val / 64 := rfl
  have hZ : ∀ j : Fin 8192, (Cert.Proof.ReferenceIdeal.Zf (m ((c : Thread nD τ).loc main_arg0)) (m ((c : Thread nD τ).loc main_arg1)) (m ((c : Thread nD τ).loc main_arg3)) (ix4 n h s j) : EReal) = (z j.val : EReal) := fun j => by
    refine (Cert.Proof.ReferenceIdeal.Zread _ _ _ n h s j).trans ?_
    refine Eq.trans ?_ (EReal.coe_add _ _).symm
    rw [EReal.coe_mul, ← coe_sum']
    refine congrArg₂ (· + ·) (congrArg (· * _) (Finset.sum_congr rfl fun d _ => ?_)) (hb _)
    rw [EReal.coe_mul, dif_pos j.isLt]
    exact congrArg₂ (· * ·) (hq _) (hk _)
  have hν : ∀ j, nu Q Kf b (l.val / 64) j = -(z j) * (Real.log 2)⁻¹ := fun j => by
    have he : l.val / 64 < 2 := by omega
    obtain ⟨g, hg⟩ : ∃ g : ℕ → ℝ, ∀ u (hu : u < 128), g u = Q ⟨u, hu⟩ * -((1 / 8) * (Real.log 2)⁻¹) * Kf j ⟨u, hu⟩ :=
      ⟨fun u : ℕ => if hu : u < 128 then Q ⟨u, hu⟩ * -((1 / 8) * (Real.log 2)⁻¹) * Kf j ⟨u, hu⟩ else 0, fun u hu => by dsimp only; rw [dif_pos hu]⟩
    have ef : ∀ l' : Fin 128, Q l' * -((1 / 8) * (Real.log 2)⁻¹) * (if l'.val / 64 = l.val / 64 then Kf j l' else 0)
        = if l'.val / 64 = l.val / 64 then g l'.val else 0 := fun l' => by
      by_cases hl : l'.val / 64 = l.val / 64
      · rw [if_pos hl, if_pos hl]; exact (hg l'.val l'.isLt).symm
      · rw [if_neg hl, if_neg hl, mul_zero]
    have eb : b (l.val / 64) = br (ix1 h) := by
      show (if h : l.val / 64 < 2 then br (ix1 (⟨p.val * 2 + l.val / 64, by omega⟩ : Fin 8)) else 0) = _
      rw [dif_pos he]
      exact congrArg (fun u : Fin 8 => br (ix1 u)) (Fin.ext (by show p.val * 2 + l.val / 64 = x.val / 64; omega))
    unfold nu
    rw [Finset.sum_congr rfl fun l' _ => ef l', half_sum g _ he, eb]
    have es : ∀ d : Fin 64, g (64 * (l.val / 64) + d.val)
        = (qr (ix3 n s (⟨h.val * 64 + d.val, by omega⟩ : Fin 512)) * (if hj : j < 8192 then kr (ix3 n (⟨j, hj⟩ : Fin 8192) (⟨h.val * 64 + d.val, by omega⟩ : Fin 512)) else 0)) * -((1 / 8) * (Real.log 2)⁻¹) := fun d => by
      have hd : 64 * (l.val / 64) + d.val < 128 := by omega
      have hi : (⟨p.val * 128 + (64 * (l.val / 64) + d.val), by omega⟩ : Fin 512) = ⟨h.val * 64 + d.val, by omega⟩ := Fin.ext (by show p.val * 128 + (64 * (l.val / 64) + d.val) = h.val * 64 + d.val; omega)
      rw [hg _ hd]
      show qr (ix3 n s (⟨p.val * 128 + (64 * (l.val / 64) + d.val), by omega⟩ : Fin 512)) * -((1 / 8) * (Real.log 2)⁻¹) * (if hj : j < 8192 then kr (ix3 n (⟨j, hj⟩ : Fin 8192) (⟨p.val * 128 + (64 * (l.val / 64) + d.val), by omega⟩ : Fin 512)) else 0) = _
      rw [hi]; ring
    rw [Finset.sum_congr rfl fun d _ => es d, ← Finset.sum_mul]
    show _ = -((∑ d : Fin 64, qr (ix3 n s (⟨h.val * 64 + d.val, by omega⟩ : Fin 512)) * (if hj : j < 8192 then kr (ix3 n (⟨j, hj⟩ : Fin 8192) (⟨h.val * 64 + d.val, by omega⟩ : Fin 512)) else 0)) * (1 / 8) + br (ix1 h)) * (Real.log 2)⁻¹
    ring
  have hst : s.val = 1024 * (t.val % 8) + r.val := by show t.val % 8 * 1024 + r.val = _; omega
  rw [← Finset.range_eq_Ico, Finset.sum_range]
  refine Finset.sum_congr rfl fun j _ => ?_
  rw [mul_comm]
  refine congrArg₂ (· * ·) ?_ ?_
  · exact (dif_pos j.isLt).trans ((iblk2_apply m c t j l).trans (V1 m c _))
  · refine Eq.trans ?_ (Cert.Proof.ReferenceIdeal.Wread _ n h s z hZ j).symm
    rw [Cert.Proof.ReferenceIdeal.am_eq _ _ _ z hν j.val j.isLt, hst]

include hq hk hb in
theorem final_o : (dats m 0 c).arrAt 4 cfg0.N = Gres m c := by
  refine (dats m 0 c).arrAt_eq_of_covers 4 _ (by decide +kernel) fun t hf y => ?_
  blk_simp
  rw [after0_4]
  obtain ⟨h0, h1, h2⟩ := idx4 t
  have hy : ∀ y : S1x1024x128.Idx, y = ix3 (0 : Fin 1) (y 1 : Fin 1024) (y 2 : Fin 128) := fun y => funext fun a => by
    match a with
    | ⟨0, _⟩ => exact Fin.ext (Nat.lt_one_iff.mp (show (y 0 : Fin 1).val < 1 from (y 0 : Fin 1).isLt))
    | ⟨1, _⟩ => rfl
    | ⟨2, _⟩ => rfl
  refine (congrArg (outAt m c t : Vec Ideal S1x1024x128 .bf16) (hy y)).trans ((out_row m c qr kr br hq hk hb t (y 1) (y 2)).trans ?_)
  refine congrArg (Gres m c) (funext fun a => Fin.ext ?_)
  match a with
  | ⟨0, _⟩ => show t.val / 32 = win0_4.index t 0 * 1 + 1 * (y 0 : Fin 1).val; rw [h0, show (y 0 : Fin 1).val = 0 from Nat.lt_one_iff.mp (show (y 0 : Fin 1).val < 1 from (y 0 : Fin 1).isLt)]; omega
  | ⟨1, _⟩ => show t.val % 8 * 1024 + (y 1 : Fin 1024).val = win0_4.index t 1 * 1024 + 1 * (y 1 : Fin 1024).val; rw [h1]; omega
  | ⟨2, _⟩ => show t.val / 8 % 4 * 128 + (y 2 : Fin 128).val = win0_4.index t 2 * 128 + 1 * (y 2 : Fin 128).val; rw [h2]; omega
end Out

/-- Every run on real queries, keys and offsets ends with the reference's term in the result and the arguments unchanged. -/
theorem value (m : (ℓ : Loc nD τ sig) → Buf (Elt Ideal) ℓ) (ρ : Dev nD → PrngReg)
    (qr kr : Dev nD → S2x8192x512.Idx → ℝ) (br : Dev nD → S8.Idx → ℝ)
    (hq : ∀ c y, (m (((c : Dev nD) : Thread nD τ).loc main_arg0) : Vec Ideal S2x8192x512 .f32) y = (qr c y : EReal))
    (hk : ∀ c y, (m (((c : Dev nD) : Thread nD τ).loc main_arg1) : Vec Ideal S2x8192x512 .f32) y = (kr c y : EReal))
    (hb : ∀ c y, (m (((c : Dev nD) : Thread nD τ).loc main_arg3) : Vec Ideal S8 .f32) y = (br c y : EReal)) :
    θ_run defs (onTc (τ := τ) (main (F := Ideal))) ⟨m, fun _ => 0, ρ⟩ (fun r => ∀ c : Dev nD,
      r.2.mem ((c.tc : Thread nD τ).loc main_v4) = Gres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 4).trans (final_o m c (qr c) (kr c) (br c) (hq c) (hk c) (hb c)),
      ((h.1 c).1 0).trans (((dats m 0 c).arrAt_in 0 rfl _).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩) (run_main m ρ)

end Cert.Proof.KernelIdeal
end
-- ==== Proof.Finite.lean ====
module

public import proofs.«01_k».proof.Pre_finite
public import Idealize.ShloMosaic.Lib.ReduceAll
public import Idealize.ShloMosaic.Lib.Decide
public import Idealize.ShloMosaic.PureOps.Ideal.Laws
public import Idealize.ShloMosaic.Lib.Pointwise

@[expose] public section

set_option maxRecDepth 16384

noncomputable section

namespace Cert.Proof.Finite

open Cert.Pre_finite
open Idealize.ShloMosaic

/-! # The precondition: queries, keys and offsets are real numbers -/

/-- The side conditions of the precondition's operations. -/
theorem facts : Cert.Pre_finite.Facts where
  bcast_S_S2x8192x512 := by decide
  reducesTo_S2x8192x512_S_d0_1_2 := by decide
  h_S_ := by decide
  bcast_S_S8 := by decide
  reducesTo_S8_S_d0 := by decide

instance : Subsingleton S_.Idx := ⟨fun a b => funext fun i => i.elim0⟩

/-- An extended real whose absolute value is below infinity is a real. -/
theorem real_of_abs (x : EReal) (h : max x (-x) < ⊤) : x = (x.toReal : EReal) := by
  refine (EReal.coe_toReal ?_ ?_).symm
  · rintro rfl
    exact absurd h (by simp)
  · rintro rfl
    exact absurd h (by simp)

theorem inf_eq : (Scalar.ofBits .f32 0x7F800000#32 : Ideal .f32) = (⊤ : EReal) := by
  show Ideal.ofBits .f32 0x7F800000#32 = ⊤
  simp [Ideal.ofBits, Ideal.ieee]

theorem and_split (a b : BitVec 1) (h : a &&& b = 1#1) : a = 1#1 ∧ b = 1#1 := by
  revert a b; decide

/-- A comparison of an absolute value with infinity that answers yes has a real operand. -/
theorem cmp_real {s : Shape} (x : FVec Ideal s .f32) (hb : S_.BroadcastsInDim s (![] : Fin 0 → Fin s.rank)) (i : s.Idx)
    (h : cmpf .olt (Host.absf x) (broadcastInDim s ![] hb (constant S_ .f32 0x7F800000#32)) i = 1#1) :
    (x i : EReal) = ((x i : EReal).toReal : EReal) := by
  refine real_of_abs _ ?_
  have h' : BitVec.ofBool (decide (max (x i : EReal) (-(x i : EReal)) < (Scalar.ofBits .f32 0x7F800000#32 : Ideal .f32))) = 1#1 := h
  rw [inf_eq] at h'
  by_contra hc
  rw [decide_eq_false hc] at h'
  exact absurd h' (by decide)

/-- What the precondition says of the four arguments. -/
theorem reals [hPre : Cert.Pre_finite.Facts] (q k v : FVec Ideal S2x8192x512 .f32) (b : FVec Ideal S8 .f32) (h : fn (F := Ideal) q k v b = fun _ => 1#1) :
    (∀ y, (q y : EReal) = ((q y : EReal).toReal : EReal)) ∧ (∀ y, (k y : EReal) = ((k y : EReal).toReal : EReal)) ∧ (∀ y, (b y : EReal) = ((b y : EReal).toReal : EReal)) := by
  have h0 := congrFun h (fun i : Fin 0 => i.elim0)
  obtain ⟨h01, h2⟩ := and_split _ _ h0
  obtain ⟨h00, h1⟩ := and_split _ _ h01
  exact ⟨fun y => cmp_real q _ y (Host.reduce_andi_all _ _ _ _ _ h00 y), fun y => cmp_real k _ y (Host.reduce_andi_all _ _ _ _ _ h1 y),
    fun y => cmp_real b _ y (Host.reduce_andi_all _ _ _ _ _ h2 y)⟩

end Cert.Proof.Finite
end
-- ==== Proof.Row.lean ====
module

public import Idealize.ShloMosaic.Lib.Pointwise

@[expose] public section

noncomputable section

namespace Cert.Proof.Row

open Idealize.ShloMosaic Idealize.ShloMosaic.Tactic

/-! # One token of the merge, as mathematics -/

/-- The root-mean-square norm of a row. -/
def nrm (y g : Fin 1024 → EReal) (d : Fin 1024) : EReal :=
  y d * Ideal.rsqrt (Ideal.div (∑ e, y e * y e) (Ideal.ofBits .f32 0x44800000#32) + Ideal.ofBits .f32 0x358637BD#32) * g d
/-- A hidden unit of the feed-forward layer. -/
def hid (n : Fin 1024 → EReal) (w1 : Fin 1024 → Fin 4096 → EReal) (f : Fin 4096) : EReal := max (∑ e, n e * w1 e f) 0
/-- The residual plus the feed-forward layer. -/
def ffn (x1 gf : Fin 1024 → EReal) (w1 : Fin 1024 → Fin 4096 → EReal) (w2 : Fin 4096 → Fin 1024 → EReal) (d : Fin 1024) : EReal :=
  x1 d + ∑ f, hid (nrm x1 gf) w1 f * hid (nrm x1 gf) w1 f * w2 f d
/-- The spatial gating of a row: its mixing weights' row `w` up to place `t`, the values of its chunk, its bias and its gate. -/
def sg (w : Fin 8 → Fin 128 → EReal) (t : ℕ) (sv : Fin 128 → Fin 512 → EReal) (b u : Fin 512 → EReal) (e : Fin 512) : EReal :=
  u e * ((∑ s : Fin 128, (if s.val ≤ t then w (⟨e.val / 64, by omega⟩ : Fin 8) s else 0) * sv s e) + b e)
/-- The residual plus the projected gated branches. -/
def x1 (att s : Fin 512 → EReal) (gate : Fin 2048 → EReal) (x : Fin 1024 → EReal) (woa wos : Fin 512 → Fin 1024 → EReal)
    (wo : Fin 1024 → Fin 1024 → EReal) (d : Fin 1024) : EReal :=
  x d + ∑ e : Fin 1024, (gate (⟨e.val, by omega⟩ : Fin 2048) * (∑ k, att k * woa k e) + gate (⟨1024 + e.val, by omega⟩ : Fin 2048) * (∑ k, s k * wos k e)) * wo e d

/-- A sum over the hidden units by their four quarters. -/
theorem sum_quarters (F : Fin 4096 → EReal) :
    ∑ f, F f = (∑ j : Fin 1024, F (⟨j.val, by omega⟩ : Fin 4096)) + (∑ j : Fin 1024, F (⟨1024 + j.val, by omega⟩ : Fin 4096))
      + (∑ j : Fin 1024, F (⟨2048 + j.val, by omega⟩ : Fin 4096)) + (∑ j : Fin 1024, F (⟨3072 + j.val, by omega⟩ : Fin 4096)) := by
  obtain ⟨G, hG⟩ : ∃ G : ℕ → EReal, ∀ n (h : n < 4096), F ⟨n, h⟩ = G n :=
    ⟨fun n => if h : n < 4096 then F ⟨n, h⟩ else 0, fun n h => by dsimp only; rw [dif_pos h]⟩
  have e : ∀ f : Fin 4096, F f = G f.val := fun f => hG f.val f.isLt
  simp only [e]
  rw [Fin.sum_univ_eq_sum_range G 4096, show (4096 : ℕ) = 1024 + 1024 + 1024 + 1024 from rfl, Finset.sum_range_add, Finset.sum_range_add, Finset.sum_range_add,
    Finset.sum_range, Finset.sum_range, Finset.sum_range, Finset.sum_range]

theorem sg_congr {w w' : Fin 8 → Fin 128 → EReal} {t t' : ℕ} {sv sv' : Fin 128 → Fin 512 → EReal} {b b' u u' : Fin 512 → EReal} (hw : ∀ h s, w h s = w' h s) (ht : t = t')
    (hs : ∀ s e, sv s e = sv' s e) (hb : ∀ e, b e = b' e) (hu : ∀ e, u e = u' e) : sg w t sv b u = sg w' t' sv' b' u' := by
  obtain rfl : w = w' := funext fun h => funext (hw h)
  obtain rfl : sv = sv' := funext fun h => funext (hs h)
  obtain rfl : b = b' := funext hb
  obtain rfl : u = u' := funext hu
  rw [ht]

theorem x1_congr {att att' s s' : Fin 512 → EReal} {g g' : Fin 2048 → EReal} {x x' : Fin 1024 → EReal} {woa woa' wos wos' : Fin 512 → Fin 1024 → EReal} {wo wo' : Fin 1024 → Fin 1024 → EReal}
    (ha : ∀ k, att k = att' k) (hs : s = s') (hg : ∀ j, g j = g' j) (hx : ∀ d, x d = x' d) (hwa : ∀ k d, woa k d = woa' k d) (hws : ∀ k d, wos k d = wos' k d) (hwo : ∀ k d, wo k d = wo' k d) :
    x1 att s g x woa wos wo = x1 att' s' g' x' woa' wos' wo' := by
  obtain rfl : att = att' := funext ha
  obtain rfl : g = g' := funext hg
  obtain rfl : x = x' := funext hx
  obtain rfl : woa = woa' := funext fun k => funext (hwa k)
  obtain rfl : wos = wos' := funext fun k => funext (hws k)
  obtain rfl : wo = wo' := funext fun k => funext (hwo k)
  rw [hs]

theorem ffn_congr {y y' gf gf' : Fin 1024 → EReal} {w1 w1' : Fin 1024 → Fin 4096 → EReal} {w2 w2' : Fin 4096 → Fin 1024 → EReal} (hy : y = y') (hf : ∀ e, gf e = gf' e)
    (h1 : ∀ e f, w1 e f = w1' e f) (h2 : ∀ f d, w2 f d = w2' f d) : ffn y gf w1 w2 = ffn y' gf' w1' w2' := by
  obtain rfl : gf = gf' := funext hf
  obtain rfl : w1 = w1' := funext fun k => funext (h1 k)
  obtain rfl : w2 = w2' := funext fun k => funext (h2 k)
  rw [hy]

theorem out_congr {y y' gf gf' g g' : Fin 1024 → EReal} {w1 w1' : Fin 1024 → Fin 4096 → EReal} {w2 w2' : Fin 4096 → Fin 1024 → EReal} (hy : y = y') (hf : ∀ e, gf e = gf' e)
    (h1 : ∀ e f, w1 e f = w1' e f) (h2 : ∀ f d, w2 f d = w2' f d) (hg : ∀ e, g e = g' e) (d : Fin 1024) : nrm (ffn y gf w1 w2) g d = nrm (ffn y' gf' w1' w2') g' d := by
  obtain rfl : g = g' := funext hg
  rw [ffn_congr hy hf h1 h2]

end Cert.Proof.Row
end
-- ==== Proof.MergeTile.lean ====
module

public import proofs.«01_k».proof.Proof.Gen.MergeIdeal.Skeleton
public import proofs.«01_k».proof.Proof.Row
public import Idealize.ShloMosaic.Lib.Pointwise

@[expose] public section

set_option maxRecDepth 16384

noncomputable section

namespace Cert.Proof.MergeIdeal

open Cert.MergeIdeal Cert.MergeIdeal.Gen
open Idealize.ShloMosaic Idealize.ShloMosaic.TcCoe Idealize.ShloMosaic.Tactic
open Idealize.SL Idealize.SL.Sem

/-! # The merge kernel's tile at an index -/

theorem mask (t s : Fin 128) : IntOp.andi (IntOp.cmpi CmpIPredicate.eq (IntOp.shrsi ArithUnit.vector (BitVec.ofNat 32 t.val) 7#32) (IntOp.shrsi ArithUnit.vector (BitVec.ofNat 32 s.val) 7#32))
    (IntOp.cmpi CmpIPredicate.sle (BitVec.ofNat 32 s.val) (BitVec.ofNat 32 t.val)) = if s.val ≤ t.val then 1#1 else 0#1 :=
  (by decide +kernel : ∀ t s : Fin 128, IntOp.andi (IntOp.cmpi CmpIPredicate.eq (IntOp.shrsi ArithUnit.vector (BitVec.ofNat 32 t.val) 7#32) (IntOp.shrsi ArithUnit.vector (BitVec.ofNat 32 s.val) 7#32))
    (IntOp.cmpi CmpIPredicate.sle (BitVec.ofNat 32 s.val) (BitVec.ofNat 32 t.val)) = if s.val ≤ t.val then 1#1 else 0#1) t s

theorem lane (l : ℕ) (h : l < 128) (x y : EReal) : Scalar.select (IntOp.cmpi CmpIPredicate.slt (BitVec.ofNat 32 l) 64#32) x y = if l < 64 then x else y := by
  have e : IntOp.cmpi CmpIPredicate.slt (BitVec.ofNat 32 l) 64#32 = if l < 64 then 1#1 else 0#1 :=
    (by decide +kernel : ∀ l : Fin 128, IntOp.cmpi CmpIPredicate.slt (BitVec.ofNat 32 l.val) 64#32 = if l.val < 64 then 1#1 else 0#1) ⟨l, h⟩
  rw [e]
  split_ifs <;> rfl

/-- The masked mixing weights. -/
theorem pay2_read (x : Vec Ideal S8x128x128 .f32) (g : Fin 8) (t s : Fin 128) : (k0_pay2 x (ix3 g t s) : EReal) = if s.val ≤ t.val then x (ix3 g t s) else 0 := by
  unfold k0_pay2
  pointwise
  rw [mask]
  split_ifs <;> rfl

/-- The mixed values of a chunk. -/
theorem mix_read (X : Vec Ideal S128x512 .f32) (w0 w1 w2 w3 w4 w5 w6 w7 : Vec Ideal S1x128x128 .bf16) (r : Fin 128) (e : Fin 512) (W : Fin 8 → Fin 128 → EReal)
    (h0 : ∀ s, w0 (ix3 (0 : Fin 1) r s) = W 0 s) (h1 : ∀ s, w1 (ix3 (0 : Fin 1) r s) = W 1 s) (h2 : ∀ s, w2 (ix3 (0 : Fin 1) r s) = W 2 s) (h3 : ∀ s, w3 (ix3 (0 : Fin 1) r s) = W 3 s)
    (h4 : ∀ s, w4 (ix3 (0 : Fin 1) r s) = W 4 s) (h5 : ∀ s, w5 (ix3 (0 : Fin 1) r s) = W 5 s) (h6 : ∀ s, w6 (ix3 (0 : Fin 1) r s) = W 6 s) (h7 : ∀ s, w7 (ix3 (0 : Fin 1) r s) = W 7 s) :
    (k0_pay14 k0_pay3 (k0_pay10 X) (k0_pay12 X w0) (k0_pay13 X w1) w2 w3 w4 w5 w6 w7 (ix2 r e) : EReal) = ∑ s : Fin 128, W (⟨e.val / 64, by omega⟩ : Fin 8) s * X (ix2 s e) := by
  have hw : ∀ i : Fin 8, e.val / 64 = i.val → W (⟨e.val / 64, by omega⟩ : Fin 8) = W i := fun i h => congrArg W (Fin.ext h)
  have hx : ∀ (k : ℕ) (hk : k < 512), k = e.val → ∀ s : Fin 128, X (ix2 s (⟨k, hk⟩ : Fin 512)) = X (ix2 s e) := fun k hk h s => congrArg (fun q => X (ix2 s q)) (Fin.ext h)
  unfold k0_pay14 k0_pay3 k0_pay12 k0_pay13 k0_pay11 k0_pay10
  pointwise
  by_cases a0 : e.val < 128
  · rw [dif_pos a0, lane _ (by omega)]
    by_cases q : e.val < 64
    · rw [if_pos q, hw 0 (by show e.val / 64 = 0; omega)]; exact Finset.sum_congr rfl fun s _ => by rw [h0]
    · rw [if_neg q, hw 1 (by show e.val / 64 = 1; omega)]; exact Finset.sum_congr rfl fun s _ => by rw [h1]
  by_cases a1 : e.val - 128 < 128
  · rw [dif_neg a0, dif_pos a1, lane _ (by omega)]
    by_cases q : e.val - 128 < 64
    · rw [if_pos q, hw 2 (by show e.val / 64 = 2; omega)]; exact Finset.sum_congr rfl fun s _ => by rw [h2, hx _ _ (by omega)]
    · rw [if_neg q, hw 3 (by show e.val / 64 = 3; omega)]; exact Finset.sum_congr rfl fun s _ => by rw [h3, hx _ _ (by omega)]
  by_cases a2 : e.val - 128 - 128 < 128
  · rw [dif_neg a0, dif_neg a1, dif_pos a2, lane _ (by omega)]
    by_cases q : e.val - 128 - 128 < 64
    · rw [if_pos q, hw 4 (by show e.val / 64 = 4; omega)]; exact Finset.sum_congr rfl fun s _ => by rw [h4, hx _ _ (by omega)]
    · rw [if_neg q, hw 5 (by show e.val / 64 = 5; omega)]; exact Finset.sum_congr rfl fun s _ => by rw [h5, hx _ _ (by omega)]
  rw [dif_neg a0, dif_neg a1, dif_neg a2, lane _ (by omega)]
  by_cases q : e.val - 128 - 128 - 128 < 64
  · rw [if_pos q, hw 6 (by show e.val / 64 = 6; omega)]; exact Finset.sum_congr rfl fun s _ => by rw [h6, hx _ _ (by omega)]
  · rw [if_neg q, hw 7 (by show e.val / 64 = 7; omega)]; exact Finset.sum_congr rfl fun s _ => by rw [h7, hx _ _ (by omega)]

/-- The weights' slab of a group. -/
def slab (S : Vec Ideal S8x128x128 .bf16) (g : Fin 8) : Vec Ideal S1x128x128 .bf16 := fun y => S (ix3 g (y 1 : Fin 128) (y 2 : Fin 128))
/-- The mixed values of a chunk from the weights. -/
def mixK (S : Vec Ideal S8x128x128 .bf16) (X : Vec Ideal S128x512 .f32) : FVec Ideal S128x512 .f32 :=
  k0_pay14 k0_pay3 (k0_pay10 X) (k0_pay12 X (slab S 0)) (k0_pay13 X (slab S 1)) (slab S 2) (slab S 3) (slab S 4) (slab S 5) (slab S 6) (slab S 7)

theorem chunk0 (X : Vec Ideal S128x512 .f32) (w0 w1 w2 w3 w4 w5 w6 w7 : Vec Ideal S1x128x128 .bf16) (B : Vec Ideal S128x512 .f32) (U : Vec Ideal S128x512 .bf16) :
    k0_pay9 k0_pay3 (k0_pay4 X) (k0_pay5 X w0 w1) (k0_pay6 X w2 w3) (k0_pay7 X) (k0_pay8 X w4) w5 w6 w7 B U
      = k0_pay15 (k0_pay14 k0_pay3 (k0_pay10 X) (k0_pay12 X w0) (k0_pay13 X w1) w2 w3 w4 w5 w6 w7) B U := rfl
theorem chunk2 (X : Vec Ideal S128x512 .f32) (w0 w1 w2 w3 w4 w5 w6 w7 : Vec Ideal S1x128x128 .bf16) (B : Vec Ideal S128x512 .f32) (U : Vec Ideal S128x512 .bf16) :
    k0_pay21 k0_pay3 (k0_pay16 X) (k0_pay17 k0_pay3 X w0 w1) (k0_pay18 k0_pay3 X w2 w3) (k0_pay19 X) (k0_pay20 X w4) w5 w6 w7 B U
      = k0_pay15 (k0_pay14 k0_pay3 (k0_pay10 X) (k0_pay12 X w0) (k0_pay13 X w1) w2 w3 w4 w5 w6 w7) B U := rfl
theorem chunk3 (X : Vec Ideal S128x512 .f32) (w0 w1 w2 w3 w4 w5 w6 w7 : Vec Ideal S1x128x128 .bf16) :
    k0_pay27 k0_pay3 (k0_pay22 X) (k0_pay24 X w0) (k0_pay25 X w1) (k0_pay26 k0_pay3) w2 w3 w4 w5 w6 w7
      = k0_pay14 k0_pay3 (k0_pay10 X) (k0_pay12 X w0) (k0_pay13 X w1) w2 w3 w4 w5 w6 w7 := rfl

/-- A gated chunk at an index. -/
theorem chunk_read (w : Vec Ideal S8x128x128 .f32) (X : Vec Ideal S128x512 .f32) (B : Vec Ideal S128x512 .f32) (U : Vec Ideal S128x512 .bf16) (r : Fin 128) (e : Fin 512) :
    (k0_pay15 (mixK (k0_pay2 w) X) B U (ix2 r e) : EReal)
      = Row.sg (fun h s => w (ix3 h r s)) r.val (fun s e => X (ix2 s e)) (fun e => B (ix2 r e)) (fun e => U (ix2 r e)) e := by
  have hm : (mixK (k0_pay2 w) X (ix2 r e) : EReal) = _ := mix_read X _ _ _ _ _ _ _ _ r e (fun h s => if s.val ≤ r.val then w (ix3 h r s) else 0)
    (fun s => pay2_read w 0 r s) (fun s => pay2_read w 1 r s) (fun s => pay2_read w 2 r s) (fun s => pay2_read w 3 r s)
    (fun s => pay2_read w 4 r s) (fun s => pay2_read w 5 r s) (fun s => pay2_read w 6 r s) (fun s => pay2_read w 7 r s)
  generalize mixK (k0_pay2 w) X = M at hm
  unfold k0_pay15
  pointwise
  rw [hm]
  rfl

section Rows
variable (c0 c1 c2 m3 B : FVec Ideal S128x512 .f32) (U3 : Vec Ideal S128x512 .bf16) (ga : Vec Ideal S512x1024 .bf16) (att : Vec Ideal S512x512 .bf16) (woa : Vec Ideal S512x1024 .bf16)
  (gs : Vec Ideal S512x1024 .bf16) (wos : Vec Ideal S512x1024 .bf16) (x : Vec Ideal S512x1024 .f32) (wo : Vec Ideal S1024x1024 .bf16)

/-- The residual after the branches at an index. -/
theorem pay29_read (r : Fin 512) (d : Fin 1024) (sg : Fin 512 → EReal) (gate : Fin 2048 → EReal)
    (h0 : ∀ (h : r.val < 128) k, c0 (ix2 (⟨r.val, h⟩ : Fin 128) k) = sg k)
    (h1 : ∀ (h : r.val - 128 < 128) k, ¬ r.val < 128 → c1 (ix2 (⟨r.val - 128, h⟩ : Fin 128) k) = sg k)
    (h2 : ∀ (h : r.val - 128 - 128 < 128) k, ¬ r.val - 128 < 128 → c2 (ix2 (⟨r.val - 128 - 128, h⟩ : Fin 128) k) = sg k)
    (h3 : ∀ (h : r.val - 128 - 128 - 128 < 128) k, ¬ r.val - 128 - 128 < 128 → k0_pay15 m3 B U3 (ix2 (⟨r.val - 128 - 128 - 128, h⟩ : Fin 128) k) = sg k)
    (hga : ∀ e : Fin 1024, ga (ix2 r e) = gate (⟨e.val, by omega⟩ : Fin 2048)) (hgs : ∀ e : Fin 1024, gs (ix2 r e) = gate (⟨1024 + e.val, by omega⟩ : Fin 2048)) :
    (k0_pay29 c0 c1 c2 m3 (k0_pay28 B) U3 ga att woa gs wos x wo (ix2 r d) : EReal)
      = Row.x1 (fun k => att (ix2 r k)) sg gate (fun d => x (ix2 r d)) (fun k d => woa (ix2 k d)) (fun k d => wos (ix2 k d)) (fun k d => wo (ix2 k d)) d := by
  have h3' : ∀ (h : r.val - 128 - 128 - 128 < 128) k, ¬ r.val - 128 - 128 < 128 → (U3 (ix2 (⟨r.val - 128 - 128 - 128, h⟩ : Fin 128) k) : EReal) * (m3 (ix2 (⟨r.val - 128 - 128 - 128, h⟩ : Fin 128) k) + B (ix2 (⟨r.val - 128 - 128 - 128, h⟩ : Fin 128) k)) = sg k :=
    fun h k hn => by
      have := h3 h k hn
      unfold k0_pay15 at this
      refine Eq.trans ?_ this
      pointwise
  unfold k0_pay29 k0_pay28
  pointwise
  unfold Row.x1
  refine congrArg (_ + ·) (Finset.sum_congr rfl fun e _ => congrArg (· * _) (congrArg₂ (· + ·) (congrArg (· * _) (hga e)) (congrArg₂ (· * ·) (hgs e) (Finset.sum_congr rfl fun k _ => congrArg (· * _) ?_))))
  by_cases a : r.val < 128
  · rw [dif_pos a]; exact h0 a k
  by_cases b : r.val - 128 < 128
  · rw [dif_neg a, dif_pos b]; exact h1 b k a
  by_cases c : r.val - 128 - 128 < 128
  · rw [dif_neg a, dif_neg b, dif_pos c]; exact h2 c k b
  · rw [dif_neg a, dif_neg b, dif_neg c]; exact h3' _ k c

/-- Its sum of squares. -/
theorem pay31_read (v : FVec Ideal S128x512 .f32) (r : Fin 512) :
    (k0_pay31 c0 c1 c2 m3 v U3 ga att woa gs wos x wo (ix2 r (0 : Fin 1)) : EReal)
      = ∑ e : Fin 1024, k0_pay29 c0 c1 c2 m3 v U3 ga att woa gs wos x wo (ix2 r e) * k0_pay29 c0 c1 c2 m3 v U3 ga att woa gs wos x wo (ix2 r e) := by
  unfold k0_pay31
  generalize k0_pay29 c0 c1 c2 m3 v U3 ga att woa gs wos x wo = y
  pointwise
end Rows

section Tail
variable (y : FVec Ideal S512x1024 .f32) (gf : Vec Ideal S1x1024 .f32) (q : FVec Ideal S512x1 .f32) (a0 b0 a1 b1 a2 b2 a3 b3 : Vec Ideal S1024x1024 .bf16) (g : Vec Ideal S1x1024 .f32)

/-- The tile's result from the residual after the branches. -/
def tailK : FVec Ideal S512x1024 .f32 :=
  k0_pay1 (k0_pay33 y (k0_pay30 gf) q k0_pay32) (k0_pay34 y (k0_pay30 gf) q k0_pay32 a0 b0 a1 b1) (k0_pay35 y (k0_pay30 gf) q k0_pay32 a2) b2 a3 b3 g

/-- The feed-forward part and its residual at an index, from its four pieces. -/
theorem ffn_read (r : Fin 512) (d : Fin 1024) (Y : Fin 1024 → EReal) (hY : ∀ e, y (ix2 r e) = Y e) (hq : q (ix2 r (0 : Fin 1)) = ∑ e, Y e * Y e)
    (w1 : Fin 1024 → Fin 4096 → EReal) (w2 : Fin 4096 → Fin 1024 → EReal)
    (ha0 : ∀ e f : Fin 1024, a0 (ix2 e f) = w1 e (⟨f.val, by omega⟩ : Fin 4096)) (ha1 : ∀ e f : Fin 1024, a1 (ix2 e f) = w1 e (⟨1024 + f.val, by omega⟩ : Fin 4096))
    (ha2 : ∀ e f : Fin 1024, a2 (ix2 e f) = w1 e (⟨2048 + f.val, by omega⟩ : Fin 4096)) (ha3 : ∀ e f : Fin 1024, a3 (ix2 e f) = w1 e (⟨3072 + f.val, by omega⟩ : Fin 4096))
    (hb0 : ∀ f d : Fin 1024, b0 (ix2 f d) = w2 (⟨f.val, by omega⟩ : Fin 4096) d) (hb1 : ∀ f d : Fin 1024, b1 (ix2 f d) = w2 (⟨1024 + f.val, by omega⟩ : Fin 4096) d)
    (hb2 : ∀ f d : Fin 1024, b2 (ix2 f d) = w2 (⟨2048 + f.val, by omega⟩ : Fin 4096) d) (hb3 : ∀ f d : Fin 1024, b3 (ix2 f d) = w2 (⟨3072 + f.val, by omega⟩ : Fin 4096) d) :
    (k0_pay34 y (k0_pay30 gf) q k0_pay32 a0 b0 a1 b1 (ix2 r d) : EReal) + ∑ f : Fin 1024, k0_pay35 y (k0_pay30 gf) q k0_pay32 a2 (ix2 r f) * b2 (ix2 f d)
      + ∑ f : Fin 1024, max (∑ e : Fin 1024, k0_pay33 y (k0_pay30 gf) q k0_pay32 (ix2 r e) * a3 (ix2 e f)) 0 * max (∑ e : Fin 1024, k0_pay33 y (k0_pay30 gf) q k0_pay32 (ix2 r e) * a3 (ix2 e f)) 0 * b3 (ix2 f d)
      = Row.ffn Y (fun e => gf (ix2 (0 : Fin 1) e)) w1 w2 d := by
  have hn : ∀ e, (k0_pay33 y (k0_pay30 gf) q k0_pay32 (ix2 r e) : EReal) = Row.nrm Y (fun e => gf (ix2 (0 : Fin 1) e)) e := fun e => by
    unfold k0_pay33 k0_pay30 k0_pay32
    pointwise
    rw [hq, hY]
    rfl
  have h34 : ∀ d, (k0_pay34 y (k0_pay30 gf) q k0_pay32 a0 b0 a1 b1 (ix2 r d) : EReal) = Y d
      + (∑ f : Fin 1024, Row.hid (Row.nrm Y (fun e => gf (ix2 (0 : Fin 1) e))) w1 (⟨f.val, by omega⟩ : Fin 4096) * Row.hid (Row.nrm Y (fun e => gf (ix2 (0 : Fin 1) e))) w1 (⟨f.val, by omega⟩ : Fin 4096) * w2 (⟨f.val, by omega⟩ : Fin 4096) d)
      + (∑ f : Fin 1024, Row.hid (Row.nrm Y (fun e => gf (ix2 (0 : Fin 1) e))) w1 (⟨1024 + f.val, by omega⟩ : Fin 4096) * Row.hid (Row.nrm Y (fun e => gf (ix2 (0 : Fin 1) e))) w1 (⟨1024 + f.val, by omega⟩ : Fin 4096) * w2 (⟨1024 + f.val, by omega⟩ : Fin 4096) d) := fun d => by
    unfold k0_pay34
    generalize k0_pay33 y (k0_pay30 gf) q k0_pay32 = n at hn
    pointwise
    simp only [hn, hY, ha0, ha1, hb0, hb1]
    rfl
  have h35 : ∀ f, (k0_pay35 y (k0_pay30 gf) q k0_pay32 a2 (ix2 r f) : EReal)
      = Row.hid (Row.nrm Y (fun e => gf (ix2 (0 : Fin 1) e))) w1 (⟨2048 + f.val, by omega⟩ : Fin 4096) * Row.hid (Row.nrm Y (fun e => gf (ix2 (0 : Fin 1) e))) w1 (⟨2048 + f.val, by omega⟩ : Fin 4096) := fun f => by
    unfold k0_pay35
    generalize k0_pay33 y (k0_pay30 gf) q k0_pay32 = n at hn
    pointwise
    simp only [hn, ha2]
    rfl
  generalize k0_pay33 y (k0_pay30 gf) q k0_pay32 = n at hn
  generalize k0_pay34 y (k0_pay30 gf) q k0_pay32 a0 b0 a1 b1 = z at h34
  generalize k0_pay35 y (k0_pay30 gf) q k0_pay32 a2 = p at h35
  unfold Row.ffn
  rw [Row.sum_quarters]
  simp only [h34, h35, hn, ha3, hb2, hb3, add_assoc]
  rfl

theorem tail_read (r : Fin 512) (d : Fin 1024) (Y : Fin 1024 → EReal) (hY : ∀ e, y (ix2 r e) = Y e) (hq : q (ix2 r (0 : Fin 1)) = ∑ e, Y e * Y e)
    (w1 : Fin 1024 → Fin 4096 → EReal) (w2 : Fin 4096 → Fin 1024 → EReal)
    (ha0 : ∀ e f : Fin 1024, a0 (ix2 e f) = w1 e (⟨f.val, by omega⟩ : Fin 4096)) (ha1 : ∀ e f : Fin 1024, a1 (ix2 e f) = w1 e (⟨1024 + f.val, by omega⟩ : Fin 4096))
    (ha2 : ∀ e f : Fin 1024, a2 (ix2 e f) = w1 e (⟨2048 + f.val, by omega⟩ : Fin 4096)) (ha3 : ∀ e f : Fin 1024, a3 (ix2 e f) = w1 e (⟨3072 + f.val, by omega⟩ : Fin 4096))
    (hb0 : ∀ f d : Fin 1024, b0 (ix2 f d) = w2 (⟨f.val, by omega⟩ : Fin 4096) d) (hb1 : ∀ f d : Fin 1024, b1 (ix2 f d) = w2 (⟨1024 + f.val, by omega⟩ : Fin 4096) d)
    (hb2 : ∀ f d : Fin 1024, b2 (ix2 f d) = w2 (⟨2048 + f.val, by omega⟩ : Fin 4096) d) (hb3 : ∀ f d : Fin 1024, b3 (ix2 f d) = w2 (⟨3072 + f.val, by omega⟩ : Fin 4096) d) :
    (tailK y gf q a0 b0 a1 b1 a2 b2 a3 b3 g (ix2 r d) : EReal)
      = Row.nrm (Row.ffn Y (fun e => gf (ix2 (0 : Fin 1) e)) w1 w2) (fun e => g (ix2 (0 : Fin 1) e)) d := by
  have key := fun d => ffn_read y gf q a0 b0 a1 b1 a2 b2 a3 b3 r d Y hY hq w1 w2 ha0 ha1 ha2 ha3 hb0 hb1 hb2 hb3
  unfold tailK
  generalize k0_pay33 y (k0_pay30 gf) q k0_pay32 = n at key
  generalize k0_pay34 y (k0_pay30 gf) q k0_pay32 a0 b0 a1 b1 = z at key
  generalize k0_pay35 y (k0_pay30 gf) q k0_pay32 a2 = p at key
  unfold k0_pay1
  pointwise
  simp only [key]
  rfl
end Tail

end Cert.Proof.MergeIdeal
-- ==== Proof.MergeOut.lean ====
module

public import proofs.«01_k».proof.Proof.Gen.MergeIdeal.Value
public import proofs.«01_k».proof.Proof.MergeTile
public import Idealize.ShloMosaic.Lib.Pointwise
public import Idealize.ShloMosaic.Lib.Pipeline.ValueKit.Geometry
public import Idealize.ShloMosaic.Lib.Pipeline.ValueKit.Acc
public import Idealize.ShloMosaic.Lib.Pipeline.ReadBack

@[expose] public section

set_option maxRecDepth 16384

noncomputable section

namespace Cert.Proof.MergeIdeal

open Cert.MergeIdeal Cert.MergeIdeal.Gen
open Idealize.ShloMosaic Idealize.ShloMosaic.TcCoe Idealize.ShloMosaic.Tactic
open Idealize.SL Idealize.SL.Sem

variable (m : (ℓ : Loc nD τ sig) → Buf (Elt Ideal) ℓ)

theorem scA (c : Dev nD) (t : Fin cfg0.N) (ht : t.val % 32 = 0) : (outsAt0 (F := Ideal) m c t.val t.isLt).2 = k0_pay2 (iblk m c 8 t) := by
  rw [outsAt0_A m c t ht]
  frame_out

theorem scB (c : Dev nD) (t : Fin cfg0.N) (ht : ¬ t.val % 32 = 0) : (outsAt0 (F := Ideal) m c t.val t.isLt).2 = (outsAt0 (F := Ideal) m c (t.val - 1) (lt_of_le_of_lt (Nat.sub_le _ _) t.isLt)).2 := by
  rw [outsAt0_B m c t ht]
  rfl

/-- The mixed values of a chunk from the weights held. -/
def mixL (S : Vec Ideal S8x128x128 .bf16) (X : Vec Ideal S128x512 .f32) : FVec Ideal S128x512 .f32 :=
  k0_pay14 k0_pay3 (k0_pay10 X) (k0_pay12 X (View.ld S (Rect.unit ![0,0,0] ![1,128,128] inb_S8x128x128_S1x128x128_0_0_0))) (k0_pay13 X (View.ld S (Rect.unit ![1,0,0] ![1,128,128] inb_S8x128x128_S1x128x128_1_0_0))) (View.ld S (Rect.unit ![2,0,0] ![1,128,128] inb_S8x128x128_S1x128x128_2_0_0)) (View.ld S (Rect.unit ![3,0,0] ![1,128,128] inb_S8x128x128_S1x128x128_3_0_0)) (View.ld S (Rect.unit ![4,0,0] ![1,128,128] inb_S8x128x128_S1x128x128_4_0_0)) (View.ld S (Rect.unit ![5,0,0] ![1,128,128] inb_S8x128x128_S1x128x128_5_0_0)) (View.ld S (Rect.unit ![6,0,0] ![1,128,128] inb_S8x128x128_S1x128x128_6_0_0)) (View.ld S (Rect.unit ![7,0,0] ![1,128,128] inb_S8x128x128_S1x128x128_7_0_0))

section Tile
variable (S : Vec Ideal S8x128x128 .bf16) (x0 x1 : Vec Ideal S512x512 .bf16) (x2 : Vec Ideal S512x512 .f32) (x3 : Vec Ideal S512x2048 .bf16) (x4 : Vec Ideal S512x1024 .f32) (x5 x6 : Vec Ideal S512x1024 .bf16)
  (x7 : Vec Ideal S1024x1024 .bf16) (x9 : Vec Ideal S128x512 .f32) (x10 : Vec Ideal S1x1024 .f32) (x11 : Vec Ideal S1024x4096 .bf16) (x12 : Vec Ideal S4096x1024 .bf16) (x13 : Vec Ideal S1x1024 .f32)

/-- The residual of the tile's rows after the branches. -/
def resK : FVec Ideal S512x1024 .f32 :=
  k0_pay29 (k0_pay15 (mixL S (View.ld x2 (Rect.unit ![0,0] ![128,512] inb_S512x512_S128x512_0_0))) x9 (View.ld x1 (Rect.unit ![0,0] ![128,512] inb_S512x512_S128x512_0_0))) (k0_pay15 (mixL S (View.ld x2 (Rect.unit ![128,0] ![128,512] inb_S512x512_S128x512_128_0))) x9 (View.ld x1 (Rect.unit ![128,0] ![128,512] inb_S512x512_S128x512_128_0))) (k0_pay15 (mixL S (View.ld x2 (Rect.unit ![256,0] ![128,512] inb_S512x512_S128x512_256_0))) x9 (View.ld x1 (Rect.unit ![256,0] ![128,512] inb_S512x512_S128x512_256_0))) (mixL S (View.ld x2 (Rect.unit ![384,0] ![128,512] inb_S512x512_S128x512_384_0))) (k0_pay28 x9) (View.ld x1 (Rect.unit ![384,0] ![128,512] inb_S512x512_S128x512_384_0)) (View.ld x3 (Rect.unit ![0,0] ![512,1024] inb_S512x2048_S512x1024_0_0)) x0 x5 (View.ld x3 (Rect.unit ![0,1024] ![512,1024] inb_S512x2048_S512x1024_0_1024)) x6 x4 x7
/-- Its rows' sums of squares. -/
def sqK : FVec Ideal S512x1 .f32 :=
  k0_pay31 (k0_pay15 (mixL S (View.ld x2 (Rect.unit ![0,0] ![128,512] inb_S512x512_S128x512_0_0))) x9 (View.ld x1 (Rect.unit ![0,0] ![128,512] inb_S512x512_S128x512_0_0))) (k0_pay15 (mixL S (View.ld x2 (Rect.unit ![128,0] ![128,512] inb_S512x512_S128x512_128_0))) x9 (View.ld x1 (Rect.unit ![128,0] ![128,512] inb_S512x512_S128x512_128_0))) (k0_pay15 (mixL S (View.ld x2 (Rect.unit ![256,0] ![128,512] inb_S512x512_S128x512_256_0))) x9 (View.ld x1 (Rect.unit ![256,0] ![128,512] inb_S512x512_S128x512_256_0))) (mixL S (View.ld x2 (Rect.unit ![384,0] ![128,512] inb_S512x512_S128x512_384_0))) (k0_pay28 x9) (View.ld x1 (Rect.unit ![384,0] ![128,512] inb_S512x512_S128x512_384_0)) (View.ld x3 (Rect.unit ![0,0] ![512,1024] inb_S512x2048_S512x1024_0_0)) x0 x5 (View.ld x3 (Rect.unit ![0,1024] ![512,1024] inb_S512x2048_S512x1024_0_1024)) x6 x4 x7
/-- The tile written, of the weights held and the point's blocks. -/
def outK : FVec Ideal S512x1024 .f32 :=
  tailK (resK S x0 x1 x2 x3 x4 x5 x6 x7 x9) x10 (sqK S x0 x1 x2 x3 x4 x5 x6 x7 x9) (View.ld x11 (Rect.unit ![0,0] ![1024,1024] inb_S1024x4096_S1024x1024_0_0)) (View.ld x12 (Rect.unit ![0,0] ![1024,1024] inb_S4096x1024_S1024x1024_0_0)) (View.ld x11 (Rect.unit ![0,1024] ![1024,1024] inb_S1024x4096_S1024x1024_0_1024)) (View.ld x12 (Rect.unit ![1024,0] ![1024,1024] inb_S4096x1024_S1024x1024_1024_0)) (View.ld x11 (Rect.unit ![0,2048] ![1024,1024] inb_S1024x4096_S1024x1024_0_2048)) (View.ld x12 (Rect.unit ![2048,0] ![1024,1024] inb_S4096x1024_S1024x1024_2048_0)) (View.ld x11 (Rect.unit ![0,3072] ![1024,1024] inb_S1024x4096_S1024x1024_0_3072)) (View.ld x12 (Rect.unit ![3072,0] ![1024,1024] inb_S4096x1024_S1024x1024_3072_0)) x13
end Tile

theorem out_B (c : Dev nD) (t : Fin cfg0.N) (ht : ¬ t.val % 32 = 0) : (outsAt0 (F := Ideal) m c t.val t.isLt).1
    = outK (outsAt0 (F := Ideal) m c (t.val - 1) (lt_of_le_of_lt (Nat.sub_le _ _) t.isLt)).2 (iblk m c 0 t) (iblk m c 1 t) (iblk m c 2 t) (iblk m c 3 t) (iblk m c 4 t) (iblk m c 5 t) (iblk m c 6 t) (iblk m c 7 t) (iblk m c 9 t) (iblk m c 10 t) (iblk m c 11 t) (iblk m c 12 t) (iblk m c 13 t) := by
  rw [outsAt0_B m c t ht]
  frame_out
  simp only [(Memref.isWhole_whole cc0_scratch0).read_unread]
  rw [chunk0, chunk2, chunk3]
  rfl

theorem out_A (c : Dev nD) (t : Fin cfg0.N) (ht : t.val % 32 = 0) : (outsAt0 (F := Ideal) m c t.val t.isLt).1
    = outK (k0_pay2 (iblk m c 8 t)) (iblk m c 0 t) (iblk m c 1 t) (iblk m c 2 t) (iblk m c 3 t) (iblk m c 4 t) (iblk m c 5 t) (iblk m c 6 t) (iblk m c 7 t) (iblk m c 9 t) (iblk m c 10 t) (iblk m c 11 t) (iblk m c 12 t) (iblk m c 13 t) := by
  rw [outsAt0_A m c t ht]
  frame_out
  simp (disch := decide) only [↓ View.readCov_fill]
  rw [chunk0, chunk2, chunk3]
  rfl

/-! # The tile's rows -/

theorem slab_ld (S : Vec Ideal S8x128x128 .bf16) (g : ℕ) (hg : g < 8) (inb : ∀ a, (![g, 0, 0] : Fin 3 → ℕ) a + S1x128x128.size a ≤ S8x128x128.size a) :
    View.ld S (Rect.unit (s := S8x128x128) ![g, 0, 0] S1x128x128.size inb) = slab S ⟨g, hg⟩ := funext fun y => by
  refine congrArg S (funext fun a => Fin.ext ?_)
  match a with
  | ⟨0, _⟩ => show g + 1 * (y 0 : Fin 1).val = g; rw [show (y 0 : Fin 1).val = 0 from Nat.lt_one_iff.mp (show (y 0 : Fin 1).val < 1 from (y 0 : Fin 1).isLt)]; omega
  | ⟨1, _⟩ => show 0 + 1 * (y 1 : Fin 128).val = (y 1 : Fin 128).val; omega
  | ⟨2, _⟩ => show 0 + 1 * (y 2 : Fin 128).val = (y 2 : Fin 128).val; omega

theorem mixL_eq (S : Vec Ideal S8x128x128 .bf16) (X : Vec Ideal S128x512 .f32) : mixL S X = mixK S X := by
  unfold mixL mixK
  rw [slab_ld S 0 (by omega), slab_ld S 1 (by omega), slab_ld S 2 (by omega), slab_ld S 3 (by omega), slab_ld S 4 (by omega), slab_ld S 5 (by omega), slab_ld S 6 (by omega), slab_ld S 7 (by omega)]
  rfl

section Rows
variable (w : Vec Ideal S8x128x128 .f32) (x0 x1 : Vec Ideal S512x512 .bf16) (x2 : Vec Ideal S512x512 .f32) (x3 : Vec Ideal S512x2048 .bf16) (x4 : Vec Ideal S512x1024 .f32) (x5 x6 : Vec Ideal S512x1024 .bf16)
  (x7 : Vec Ideal S1024x1024 .bf16) (x9 : Vec Ideal S128x512 .f32) (x10 : Vec Ideal S1x1024 .f32) (x11 : Vec Ideal S1024x4096 .bf16) (x12 : Vec Ideal S4096x1024 .bf16) (x13 : Vec Ideal S1x1024 .f32)

/-- The spatial gating of a row of the tile. -/
def sgR (r : Fin 512) : Fin 512 → EReal :=
  Row.sg (fun h s => w (ix3 h (⟨r.val % 128, by omega⟩ : Fin 128) s)) (r.val % 128) (fun s e => x2 (ix2 (⟨r.val / 128 * 128 + s.val, by omega⟩ : Fin 512) e))
    (fun e => x9 (ix2 (⟨r.val % 128, by omega⟩ : Fin 128) e)) (fun e => x1 (ix2 r e))

theorem chunk_at (r : Fin 512) (o j : ℕ) (ho : o = r.val / 128 * 128) (hj : j = r.val % 128) (hjl : j < 128)
    (inb inb' : ∀ a, (![o, 0] : Fin 2 → ℕ) a + S128x512.size a ≤ S512x512.size a) (k : Fin 512) :
    (k0_pay15 (mixL (k0_pay2 w) (View.ld x2 (Rect.unit (s := S512x512) ![o, 0] S128x512.size inb))) x9 (View.ld x1 (Rect.unit (s := S512x512) ![o, 0] S128x512.size inb')) (ix2 (⟨j, hjl⟩ : Fin 128) k) : EReal)
      = sgR w x1 x2 x9 r k := by
  subst ho hj
  rw [mixL_eq]
  refine (chunk_read w _ x9 _ _ k).trans ?_
  unfold sgR
  refine congrArg₂ (fun a b => Row.sg (fun h s => w (ix3 h (⟨r.val % 128, by omega⟩ : Fin 128) s)) (r.val % 128) a (fun e => x9 (ix2 (⟨r.val % 128, by omega⟩ : Fin 128) e)) b k)
    (funext fun s => funext fun e => congrArg x2 (funext fun a => Fin.ext ?_)) (funext fun e => congrArg x1 (funext fun a => Fin.ext ?_))
  · match a with
    | ⟨0, _⟩ => show r.val / 128 * 128 + 1 * s.val = r.val / 128 * 128 + s.val; omega
    | ⟨1, _⟩ => show 0 + 1 * e.val = e.val; omega
  · match a with
    | ⟨0, _⟩ => show r.val / 128 * 128 + 1 * (r.val % 128) = r.val; omega
    | ⟨1, _⟩ => show 0 + 1 * e.val = e.val; omega

/-- The residual of a row after the branches. -/
def rowR (r : Fin 512) : Fin 1024 → EReal :=
  Row.x1 (fun k => x0 (ix2 r k)) (sgR w x1 x2 x9 r) (fun j => x3 (ix2 r j)) (fun d => x4 (ix2 r d)) (fun k d => x5 (ix2 k d)) (fun k d => x6 (ix2 k d)) (fun k d => x7 (ix2 k d))

theorem res_read (r : Fin 512) (d : Fin 1024) : (resK (k0_pay2 w) x0 x1 x2 x3 x4 x5 x6 x7 x9 (ix2 r d) : EReal) = rowR w x0 x1 x2 x3 x4 x5 x6 x7 x9 r d := by
  unfold resK rowR
  refine pay29_read _ _ _ _ x9 _ _ x0 x5 _ x6 x4 x7 r d (sgR w x1 x2 x9 r) (fun j => x3 (ix2 r j))
    (fun h k => chunk_at w x1 x2 x9 r 0 _ (by omega) (by omega) h _ _ k) (fun h k hn => chunk_at w x1 x2 x9 r 128 _ (by omega) (by omega) h _ _ k)
    (fun h k hn => chunk_at w x1 x2 x9 r 256 _ (by omega) (by omega) h _ _ k) (fun h k hn => chunk_at w x1 x2 x9 r 384 _ (by omega) (by omega) h _ _ k)
    (fun e => congrArg x3 (funext fun a => Fin.ext ?_)) (fun e => congrArg x3 (funext fun a => Fin.ext ?_))
  · match a with
    | ⟨0, _⟩ => show 0 + 1 * r.val = r.val; omega
    | ⟨1, _⟩ => show 0 + 1 * e.val = e.val; omega
  · match a with
    | ⟨0, _⟩ => show 0 + 1 * r.val = r.val; omega
    | ⟨1, _⟩ => show 1024 + 1 * e.val = 1024 + e.val; omega

theorem sq_read (r : Fin 512) : (sqK (k0_pay2 w) x0 x1 x2 x3 x4 x5 x6 x7 x9 (ix2 r (0 : Fin 1)) : EReal)
    = ∑ e, rowR w x0 x1 x2 x3 x4 x5 x6 x7 x9 r e * rowR w x0 x1 x2 x3 x4 x5 x6 x7 x9 r e := by
  unfold sqK
  refine (pay31_read _ _ _ _ _ _ _ _ _ _ _ _ _ r).trans (Finset.sum_congr rfl fun e _ => ?_)
  have h := res_read w x0 x1 x2 x3 x4 x5 x6 x7 x9 r e
  unfold resK at h
  rw [h]

theorem col_ld (o : ℕ) (inb : ∀ a, (![0, o] : Fin 2 → ℕ) a + S1024x1024.size a ≤ S1024x4096.size a) (e f : Fin 1024) (h : o + f.val < 4096) :
    View.ld x11 (Rect.unit (s := S1024x4096) ![0, o] S1024x1024.size inb) (ix2 e f) = x11 (ix2 e (⟨o + f.val, h⟩ : Fin 4096)) := by
  refine congrArg x11 (funext fun a => Fin.ext ?_)
  match a with
  | ⟨0, _⟩ => show 0 + 1 * e.val = e.val; omega
  | ⟨1, _⟩ => show o + 1 * f.val = o + f.val; omega

theorem row_ld (o : ℕ) (inb : ∀ a, (![o, 0] : Fin 2 → ℕ) a + S1024x1024.size a ≤ S4096x1024.size a) (f d : Fin 1024) (h : o + f.val < 4096) :
    View.ld x12 (Rect.unit (s := S4096x1024) ![o, 0] S1024x1024.size inb) (ix2 f d) = x12 (ix2 (⟨o + f.val, h⟩ : Fin 4096) d) := by
  refine congrArg x12 (funext fun a => Fin.ext ?_)
  match a with
  | ⟨0, _⟩ => show o + 1 * f.val = o + f.val; omega
  | ⟨1, _⟩ => show 0 + 1 * d.val = d.val; omega

/-- The tile written, at an index. -/
theorem out_read (r : Fin 512) (d : Fin 1024) : (outK (k0_pay2 w) x0 x1 x2 x3 x4 x5 x6 x7 x9 x10 x11 x12 x13 (ix2 r d) : EReal)
    = Row.nrm (Row.ffn (rowR w x0 x1 x2 x3 x4 x5 x6 x7 x9 r) (fun e => x10 (ix2 (0 : Fin 1) e)) (fun e f => x11 (ix2 e f)) (fun f d => x12 (ix2 f d))) (fun e => x13 (ix2 (0 : Fin 1) e)) d := by
  have h0 : ∀ f : Fin 1024, (⟨0 + f.val, by omega⟩ : Fin 4096) = ⟨f.val, by omega⟩ := fun f => Fin.ext (Nat.zero_add _)
  unfold outK
  exact tail_read _ x10 _ _ _ _ _ _ _ _ _ x13 r d _ (res_read w x0 x1 x2 x3 x4 x5 x6 x7 x9 r) (sq_read w x0 x1 x2 x3 x4 x5 x6 x7 x9 r) (fun e f => x11 (ix2 e f)) (fun f d => x12 (ix2 f d))
    (fun e f => (col_ld x11 0 _ e f (by omega)).trans (congrArg (fun q => x11 (ix2 e q)) (h0 f))) (fun e f => col_ld x11 1024 _ e f (by omega)) (fun e f => col_ld x11 2048 _ e f (by omega)) (fun e f => col_ld x11 3072 _ e f (by omega))
    (fun f d => (row_ld x12 0 _ f d (by omega)).trans (congrArg (fun q => x12 (ix2 q d)) (h0 f))) (fun f d => row_ld x12 1024 _ f d (by omega)) (fun f d => row_ld x12 2048 _ f d (by omega)) (fun f d => row_ld x12 3072 _ f d (by omega))
end Rows

end Cert.Proof.MergeIdeal
-- ==== Proof.MergeRef.lean ====
module

public import proofs.«01_k».proof.Proof.Gen.MergeReferenceIdeal.Run
public import proofs.«01_k».proof.Proof.Row
public import Idealize.ShloMosaic.Lib.Pointwise

@[expose] public section

set_option maxRecDepth 16384

noncomputable section

namespace Cert.Proof.MergeReferenceIdeal

open Cert.MergeReferenceIdeal Cert.MergeReferenceIdeal.Gen
open Idealize.ShloMosaic Idealize.ShloMosaic.TcCoe Idealize.ShloMosaic.Tactic
open Idealize.SL Idealize.SL.Sem

/-! # The merge reference's result at an index -/

/-- The causally masked mixing weights. -/
def Mix (w : FVec Ideal S8x128x128 .f32) : FVec Ideal S8x128x128 .f32 := (select (broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) w (broadcastInDim S8x128x128 ![] bcast_S_S8x128x128 (id (constant S_ .f32 0x00000000#32))))
/-- The mixed values with their bias. -/
def Mb (sv : FVec Ideal S2x8192x8x64 .f32) (M : FVec Ideal S8x128x128 .f32) (b : FVec Ideal S8x128 .f32) : FVec Ideal S2x8192x512 .f32 := (shapeCast _ (addf (transpose S2x64x128x8x64 [1, 2, 4, 0, 3] (Host.dotGeneral dot_S2x64x128x8x64_S8x128x128_S8x2x64x64x128_2_2_014_1_3_0 none (shapeCast _ sv shapeCasts_S2x8192x8x64_S2x64x128x8x64) M) transposes_S8x2x64x64x128_S2x64x128x8x64_1_2_4_0_3) (broadcastInDim S2x64x128x8x64 ![0, 1, 2, 3, 4] bcast_S1x1x128x8x1_S2x64x128x8x64_0_1_2_3_4 (broadcastInDim S1x1x128x8x1 ![2, 3, 4] bcast_S128x8x1_S1x1x128x8x1_2_3_4 (broadcastInDim S128x8x1 ![0, 1] bcast_S128x8_S128x8x1_0_1 (transpose S128x8 [1, 0] b transposes_S8x128_S128x8_1_0))))) shapeCasts_S2x64x128x8x64_S2x8192x512)
/-- The residual plus the projected gated branches. -/
def X1 (x : FVec Ideal S2x8192x1024 .f32) (gates : FVec Ideal S2x8192x2048 .f32) (att u mb : FVec Ideal S2x8192x512 .f32) (woa wos : FVec Ideal S512x1024 .f32) (wo : FVec Ideal S1024x1024 .f32) : FVec Ideal S2x8192x1024 .f32 := (addf x (Host.dotGeneral dot_S2x8192x1024_S1024x1024_S2x8192x1024_2_0_01_1_n_n none (addf (mulf (extractStridedSlice S2x8192x1024 ![0, 0, 0] gates slices_S2x8192x2048_S2x8192x1024_0_0_0) (Host.dotGeneral dot_S2x8192x512_S512x1024_S2x8192x1024_2_0_01_1_n_n none att woa)) (mulf (extractStridedSlice S2x8192x1024 ![0, 0, 1024] gates slices_S2x8192x2048_S2x8192x1024_0_0_1024) (Host.dotGeneral dot_S2x8192x512_S512x1024_S2x8192x1024_2_0_01_1_n_n none (mulf u mb) wos))) wo))
/-- The root-mean-square norm. -/
def Nrm (y : FVec Ideal S2x8192x1024 .f32) (g : FVec Ideal S1024 .f32) : FVec Ideal S2x8192x1024 .f32 := (mulf (mulf y (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf y y) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g)))
/-- The squared-relu hidden layer. -/
def Hid (n : FVec Ideal S2x8192x1024 .f32) (w : FVec Ideal S1024x4096 .f32) : FVec Ideal S2x8192x4096 .f32 := (maximumf (Host.dotGeneral dot_S2x8192x1024_S1024x4096_S2x8192x4096_2_0_01_1_n_n none n w) (broadcastInDim S2x8192x4096 ![] bcast_S_S2x8192x4096 (constant S_ .f32 0x00000000#32)))
/-- The residual plus the feed-forward layer. -/
def Y (x1 : FVec Ideal S2x8192x1024 .f32) (h : FVec Ideal S2x8192x4096 .f32) (w : FVec Ideal S4096x1024 .f32) : FVec Ideal S2x8192x1024 .f32 := (addf x1 (Host.dotGeneral dot_S2x8192x4096_S4096x1024_S2x8192x1024_2_0_01_1_n_n none (mulf h h) w))

/-- The result from the residual after the branches. -/
def Tail (x1 : FVec Ideal S2x8192x1024 .f32) (gf : FVec Ideal S1024 .f32) (w1 : FVec Ideal S1024x4096 .f32) (w2 : FVec Ideal S4096x1024 .f32) (g : FVec Ideal S1024 .f32) : FVec Ideal S16384x1024 .f32 :=
  shapeCast _ (Nrm (Y x1 (Hid (Nrm x1 gf) w1) w2) g) shapeCasts_S2x8192x1024_S16384x1024

theorem res_eq (m : (ℓ : Loc nD τ sig) → Buf (Elt Ideal) ℓ) (c : Dev nD) :
    Cert.MergeReferenceIdeal.Value.res_main_v54 m c
      = Tail (X1 (m ((c.tc : Thread nD τ).loc main_arg4)) (m ((c.tc : Thread nD τ).loc main_arg3)) (m ((c.tc : Thread nD τ).loc main_arg0)) (m ((c.tc : Thread nD τ).loc main_arg1))
          (Mb (m ((c.tc : Thread nD τ).loc main_arg2)) (Mix (m ((c.tc : Thread nD τ).loc main_arg8))) (m ((c.tc : Thread nD τ).loc main_arg9)))
          (m ((c.tc : Thread nD τ).loc main_arg5)) (m ((c.tc : Thread nD τ).loc main_arg6)) (m ((c.tc : Thread nD τ).loc main_arg7)))
        (m ((c.tc : Thread nD τ).loc main_arg10)) (m ((c.tc : Thread nD τ).loc main_arg11)) (m ((c.tc : Thread nD τ).loc main_arg12)) (m ((c.tc : Thread nD τ).loc main_arg13)) := rfl

theorem mask (t s : Fin 128) : Scalar.select (IntOp.cmpi CmpIPredicate.sge (IntOp.addi (BitVec.ofNat 32 t.val) 0#32) (BitVec.ofNat 32 s.val)) 1#1 0#1 = if s.val ≤ t.val then 1#1 else 0#1 :=
  (by decide +kernel : ∀ t s : Fin 128, Scalar.select (IntOp.cmpi CmpIPredicate.sge (IntOp.addi (BitVec.ofNat 32 t.val) 0#32) (BitVec.ofNat 32 s.val)) 1#1 0#1 = if s.val ≤ t.val then 1#1 else 0#1) t s

theorem mix_read (w : FVec Ideal S8x128x128 .f32) (g : Fin 8) (t s : Fin 128) : (Mix w (ix3 g t s) : EReal) = if s.val ≤ t.val then w (ix3 g t s) else 0 := by
  unfold Mix
  pointwise
  rw [mask]
  by_cases h : s.val ≤ t.val
  · rw [if_pos h, if_pos h]; rfl
  · rw [if_neg h, if_neg h]; exact Ideal.ofBits_zero_f32

theorem mb_read (sv : FVec Ideal S2x8192x8x64 .f32) (M : FVec Ideal S8x128x128 .f32) (b : FVec Ideal S8x128 .f32) (n : Fin 2) (i : Fin 8192) (e : Fin 512) :
    (Mb sv M b (ix3 n i e) : EReal) = (∑ s : Fin 128, M (ix3 (⟨e.val / 64, by omega⟩ : Fin 8) (⟨i.val % 128, by omega⟩ : Fin 128) s) * sv (ix4 n (⟨i.val / 128 * 128 + s.val, by omega⟩ : Fin 8192) (⟨e.val / 64, by omega⟩ : Fin 8) (⟨e.val % 64, by omega⟩ : Fin 64)))
      + b (ix2 (⟨e.val / 64, by omega⟩ : Fin 8) (⟨i.val % 128, by omega⟩ : Fin 128)) := by
  unfold Mb
  pointwise
  exact congrArg (· + _) (Finset.sum_congr rfl fun s _ => mul_comm _ _)

section Args
variable (att u : FVec Ideal S2x8192x512 .f32) (sv : FVec Ideal S2x8192x8x64 .f32) (gates : FVec Ideal S2x8192x2048 .f32) (x : FVec Ideal S2x8192x1024 .f32)
  (woa wos : FVec Ideal S512x1024 .f32) (wo : FVec Ideal S1024x1024 .f32) (w : FVec Ideal S8x128x128 .f32) (b : FVec Ideal S8x128 .f32)
  (gf : FVec Ideal S1024 .f32) (w1 : FVec Ideal S1024x4096 .f32) (w2 : FVec Ideal S4096x1024 .f32) (g : FVec Ideal S1024 .f32)

/-- The residual of a token after the branches. -/
def row1 (n : Fin 2) (i : Fin 8192) : Fin 1024 → EReal :=
  Row.x1 (fun k => att (ix3 n i k))
    (Row.sg (fun h s => w (ix3 h (⟨i.val % 128, by omega⟩ : Fin 128) s)) (i.val % 128)
      (fun s e => sv (ix4 n (⟨i.val / 128 * 128 + s.val, by omega⟩ : Fin 8192) (⟨e.val / 64, by omega⟩ : Fin 8) (⟨e.val % 64, by omega⟩ : Fin 64)))
      (fun e => b (ix2 (⟨e.val / 64, by omega⟩ : Fin 8) (⟨i.val % 128, by omega⟩ : Fin 128))) (fun e => u (ix3 n i e)))
    (fun j => gates (ix3 n i j)) (fun d => x (ix3 n i d)) (fun k d => woa (ix2 k d)) (fun k d => wos (ix2 k d)) (fun k d => wo (ix2 k d))

theorem x1_read (n : Fin 2) (i : Fin 8192) (d : Fin 1024) :
    (X1 x gates att u (Mb sv (Mix w) b) woa wos wo (ix3 n i d) : EReal) = row1 att u sv gates x woa wos wo w b n i d := by
  have hm := mb_read sv (Mix w) b n i
  simp only [mix_read] at hm
  generalize Mb sv (Mix w) b = mb at hm
  unfold X1
  pointwise
  simp only [hm]
  rfl

theorem nrm_read (y : FVec Ideal S2x8192x1024 .f32) (g : FVec Ideal S1024 .f32) (n : Fin 2) (i : Fin 8192) (d : Fin 1024) :
    (Nrm y g (ix3 n i d) : EReal) = Row.nrm (fun e => y (ix3 n i e)) (fun e => g (ix1 e)) d := by
  unfold Nrm
  pointwise
  rfl

theorem hid_read (y : FVec Ideal S2x8192x1024 .f32) (w : FVec Ideal S1024x4096 .f32) (n : Fin 2) (i : Fin 8192) (f : Fin 4096) :
    (Hid y w (ix3 n i f) : EReal) = Row.hid (fun e => y (ix3 n i e)) (fun e f => w (ix2 e f)) f := by
  unfold Hid
  pointwise
  rfl

theorem y_read (x1 : FVec Ideal S2x8192x1024 .f32) (n : Fin 2) (i : Fin 8192) (d : Fin 1024) :
    (Y x1 (Hid (Nrm x1 gf) w1) w2 (ix3 n i d) : EReal) = Row.ffn (fun e => x1 (ix3 n i e)) (fun e => gf (ix1 e)) (fun e f => w1 (ix2 e f)) (fun f d => w2 (ix2 f d)) d := by
  have hh := hid_read (Nrm x1 gf) w1 n i
  simp only [nrm_read] at hh
  generalize Hid (Nrm x1 gf) w1 = h at hh
  unfold Y
  pointwise
  simp only [hh]
  rfl

/-- The reference's result at an index: the token's row. -/
theorem tail_read (r : Fin 16384) (d : Fin 1024) :
    (Tail (X1 x gates att u (Mb sv (Mix w) b) woa wos wo) gf w1 w2 g (ix2 r d) : EReal)
      = Row.nrm (Row.ffn (row1 att u sv gates x woa wos wo w b (⟨r.val / 8192, by omega⟩ : Fin 2) (⟨r.val % 8192, by omega⟩ : Fin 8192)) (fun e => gf (ix1 e)) (fun e f => w1 (ix2 e f)) (fun f d => w2 (ix2 f d))) (fun e => g (ix1 e)) d := by
  have hx := x1_read att u sv gates x woa wos wo w b (⟨r.val / 8192, by omega⟩ : Fin 2) (⟨r.val % 8192, by omega⟩ : Fin 8192)
  generalize X1 x gates att u (Mb sv (Mix w) b) woa wos wo = z at hx
  have hy := y_read gf w1 w2 z (⟨r.val / 8192, by omega⟩ : Fin 2) (⟨r.val % 8192, by omega⟩ : Fin 8192)
  simp only [hx] at hy
  have hn := nrm_read (Y z (Hid (Nrm z gf) w1) w2) g (⟨r.val / 8192, by omega⟩ : Fin 2) (⟨r.val % 8192, by omega⟩ : Fin 8192) d
  simp only [hy] at hn
  unfold Tail
  generalize Nrm (Y z (Hid (Nrm z gf) w1) w2) g = q at hn
  pointwise
  exact hn
end Args

end Cert.Proof.MergeReferenceIdeal
-- ==== Proof.MergeValue.lean ====
module

public import proofs.«01_k».proof.Proof.MergeOut
public import proofs.«01_k».proof.Proof.MergeRef
public import Idealize.ShloMosaic.Lib.Claim

@[expose] public section

set_option maxRecDepth 16384

noncomputable section

namespace Cert.Proof.MergeIdeal

open Cert.MergeIdeal Cert.MergeIdeal.Gen
open Idealize.ShloMosaic Idealize.ShloMosaic.TcCoe Idealize.ShloMosaic.Tactic
open Idealize.SL Idealize.SL.Sem

/-! # The merge kernel's result array -/

theorem idx0 : ∀ t : Fin grid0.N, win0_0.index t 0 = t.val ∧ win0_0.index t 1 = 0 := by decide +kernel
theorem idx1 : ∀ t : Fin grid0.N, win0_1.index t 0 = t.val ∧ win0_1.index t 1 = 0 := by decide +kernel
theorem idx2 : ∀ t : Fin grid0.N, win0_2.index t 0 = t.val ∧ win0_2.index t 1 = 0 := by decide +kernel
theorem idx3 : ∀ t : Fin grid0.N, win0_3.index t 0 = t.val ∧ win0_3.index t 1 = 0 := by decide +kernel
theorem idx4 : ∀ t : Fin grid0.N, win0_4.index t 0 = t.val ∧ win0_4.index t 1 = 0 := by decide +kernel
theorem idx14 : ∀ t : Fin grid0.N, win0_14.index t 0 = t.val ∧ win0_14.index t 1 = 0 := by decide +kernel
theorem idx5 : ∀ t : Fin grid0.N, win0_5.index t 0 = 0 ∧ win0_5.index t 1 = 0 := by decide +kernel
theorem idx6 : ∀ t : Fin grid0.N, win0_6.index t 0 = 0 ∧ win0_6.index t 1 = 0 := by decide +kernel
theorem idx7 : ∀ t : Fin grid0.N, win0_7.index t 0 = 0 ∧ win0_7.index t 1 = 0 := by decide +kernel
theorem idx9 : ∀ t : Fin grid0.N, win0_9.index t 0 = 0 ∧ win0_9.index t 1 = 0 := by decide +kernel
theorem idx10 : ∀ t : Fin grid0.N, win0_10.index t 0 = 0 ∧ win0_10.index t 1 = 0 := by decide +kernel
theorem idx11 : ∀ t : Fin grid0.N, win0_11.index t 0 = 0 ∧ win0_11.index t 1 = 0 := by decide +kernel
theorem idx12 : ∀ t : Fin grid0.N, win0_12.index t 0 = 0 ∧ win0_12.index t 1 = 0 := by decide +kernel
theorem idx13 : ∀ t : Fin grid0.N, win0_13.index t 0 = 0 ∧ win0_13.index t 1 = 0 := by decide +kernel
theorem idx8 : ∀ t : Fin grid0.N, win0_8.index t 0 = 0 ∧ win0_8.index t 1 = 0 ∧ win0_8.index t 2 = 0 := by decide +kernel
theorem lt32 (t : Fin grid0.N) : t.val < 32 := lt_of_lt_of_eq t.isLt N_0

variable (m : (ℓ : Loc nD τ sig) → Buf (Elt Ideal) ℓ) (c : Dev nD)

section Host
theorem V1 (i : Fin 16384) (k : Fin 512) : ((V m c main_v1 : Vec Ideal S16384x512 .bf16) (ix2 i k) : EReal) = (m ((c : Thread nD τ).loc main_arg0) : Vec Ideal S2x8192x512 .f32) (ix3 (⟨i.val / 8192, by omega⟩ : Fin 2) (⟨i.val % 8192, by omega⟩ : Fin 8192) k) := by
  entry_read
  generalize m ((c : Thread nD τ).loc main_arg0) = b
  pointwise
theorem V3 (i : Fin 16384) (k : Fin 512) : ((V m c main_v3 : Vec Ideal S16384x512 .bf16) (ix2 i k) : EReal) = (m ((c : Thread nD τ).loc main_arg1) : Vec Ideal S2x8192x512 .f32) (ix3 (⟨i.val / 8192, by omega⟩ : Fin 2) (⟨i.val % 8192, by omega⟩ : Fin 8192) k) := by
  entry_read
  generalize m ((c : Thread nD τ).loc main_arg1) = b
  pointwise
theorem V6 (i : Fin 16384) (k : Fin 2048) : ((V m c main_v6 : Vec Ideal S16384x2048 .bf16) (ix2 i k) : EReal) = (m ((c : Thread nD τ).loc main_arg3) : Vec Ideal S2x8192x2048 .f32) (ix3 (⟨i.val / 8192, by omega⟩ : Fin 2) (⟨i.val % 8192, by omega⟩ : Fin 8192) k) := by
  entry_read
  generalize m ((c : Thread nD τ).loc main_arg3) = b
  pointwise
theorem V7 (i : Fin 16384) (k : Fin 1024) : ((V m c main_v7 : Vec Ideal S16384x1024 .f32) (ix2 i k) : EReal) = (m ((c : Thread nD τ).loc main_arg4) : Vec Ideal S2x8192x1024 .f32) (ix3 (⟨i.val / 8192, by omega⟩ : Fin 2) (⟨i.val % 8192, by omega⟩ : Fin 8192) k) := by
  entry_read
  generalize m ((c : Thread nD τ).loc main_arg4) = b
  pointwise
theorem V4 (i : Fin 16384) (e : Fin 512) : ((V m c main_v4 : Vec Ideal S16384x512 .f32) (ix2 i e) : EReal)
    = (m ((c : Thread nD τ).loc main_arg2) : Vec Ideal S2x8192x8x64 .f32) (ix4 (⟨i.val / 8192, by omega⟩ : Fin 2) (⟨i.val % 8192, by omega⟩ : Fin 8192) (⟨e.val / 64, by omega⟩ : Fin 8) (⟨e.val % 64, by omega⟩ : Fin 64)) := by
  entry_read
  generalize m ((c : Thread nD τ).loc main_arg2) = b
  pointwise
theorem V8 (y : S512x1024.Idx) : ((V m c main_v8 : Vec Ideal S512x1024 .bf16) y : EReal) = (m ((c : Thread nD τ).loc main_arg5) : Vec Ideal S512x1024 .f32) y := by
  entry_read
  rfl
theorem V9 (y : S512x1024.Idx) : ((V m c main_v9 : Vec Ideal S512x1024 .bf16) y : EReal) = (m ((c : Thread nD τ).loc main_arg6) : Vec Ideal S512x1024 .f32) y := by
  entry_read
  rfl
theorem V10 (y : S1024x1024.Idx) : ((V m c main_v10 : Vec Ideal S1024x1024 .bf16) y : EReal) = (m ((c : Thread nD τ).loc main_arg7) : Vec Ideal S1024x1024 .f32) y := by
  entry_read
  rfl
theorem V11 (y : S1024x4096.Idx) : ((V m c main_v11 : Vec Ideal S1024x4096 .bf16) y : EReal) = (m ((c : Thread nD τ).loc main_arg11) : Vec Ideal S1024x4096 .f32) y := by
  entry_read
  rfl
theorem V12 (y : S4096x1024.Idx) : ((V m c main_v12 : Vec Ideal S4096x1024 .bf16) y : EReal) = (m ((c : Thread nD τ).loc main_arg12) : Vec Ideal S4096x1024 .f32) y := by
  entry_read
  rfl
theorem V15 (g : Fin 8) (t s : Fin 128) : ((V m c main_v15 : Vec Ideal S8x128x128 .f32) (ix3 g t s) : EReal) = (m ((c : Thread nD τ).loc main_arg8) : Vec Ideal S8x128x128 .f32) (ix3 g t s) := by
  entry_read
  generalize m ((c : Thread nD τ).loc main_arg8) = b
  pointwise
theorem V21 (t : Fin 128) (e : Fin 512) : ((V m c main_v21 : Vec Ideal S128x512 .f32) (ix2 t e) : EReal) = (m ((c : Thread nD τ).loc main_arg9) : Vec Ideal S8x128 .f32) (ix2 (⟨e.val / 64, by omega⟩ : Fin 8) t) := by
  entry_read
  generalize m ((c : Thread nD τ).loc main_arg9) = b
  pointwise
theorem V22 (e : Fin 1024) : ((V m c main_v22 : Vec Ideal S1x1024 .f32) (ix2 (0 : Fin 1) e) : EReal) = (m ((c : Thread nD τ).loc main_arg10) : Vec Ideal S1024 .f32) (ix1 e) := by
  entry_read
  generalize m ((c : Thread nD τ).loc main_arg10) = b
  pointwise
theorem V23 (e : Fin 1024) : ((V m c main_v23 : Vec Ideal S1x1024 .f32) (ix2 (0 : Fin 1) e) : EReal) = (m ((c : Thread nD τ).loc main_arg13) : Vec Ideal S1024 .f32) (ix1 e) := by
  entry_read
  generalize m ((c : Thread nD τ).loc main_arg13) = b
  pointwise
end Host

section Blocks
variable (t : Fin grid0.N)
theorem blk0 (r : Fin 512) (k : Fin 512) (n : Fin 2) (s : Fin 8192) (h : n.val * 8192 + s.val = t.val * 512 + r.val) :
    ((iblk m c 0 t : Vec Ideal S512x512 .bf16) (ix2 r k) : EReal) = (m ((c : Thread nD τ).loc main_arg0) : Vec Ideal S2x8192x512 .f32) (ix3 n s k) := by
  obtain ⟨h0, h1⟩ := idx0 t
  have ht := lt32 t
  have e : ((iblk m c 0 t : Vec Ideal S512x512 .bf16) (ix2 r k) : EReal) = (V m c main_v1 : Vec Ideal S16384x512 .bf16) (ix2 (⟨t.val * 512 + r.val, by omega⟩ : Fin 16384) k) := by
    unfold iblk
    rw [View.read_apply]
    refine congrArg (V m c main_v1 : Vec Ideal S16384x512 .bf16) (funext fun a => Fin.ext ?_)
    match a with
    | ⟨0, _⟩ => show win0_0.index t 0 * 512 + 1 * r.val = t.val * 512 + r.val; rw [h0, Nat.one_mul]
    | ⟨1, _⟩ => show win0_0.index t 1 * 512 + 1 * k.val = k.val; rw [h1, Nat.zero_mul, Nat.zero_add, Nat.one_mul]
  rw [e, V1]
  exact congrArg₂ (fun (p : Fin 2) (q : Fin 8192) => (m ((c : Thread nD τ).loc main_arg0) : Vec Ideal S2x8192x512 .f32) (ix3 p q k)) (Fin.ext (by show (t.val * 512 + r.val) / 8192 = n.val; omega)) (Fin.ext (by show (t.val * 512 + r.val) % 8192 = s.val; omega))
theorem blk1 (r : Fin 512) (k : Fin 512) (n : Fin 2) (s : Fin 8192) (h : n.val * 8192 + s.val = t.val * 512 + r.val) :
    ((iblk m c 1 t : Vec Ideal S512x512 .bf16) (ix2 r k) : EReal) = (m ((c : Thread nD τ).loc main_arg1) : Vec Ideal S2x8192x512 .f32) (ix3 n s k) := by
  obtain ⟨h0, h1⟩ := idx1 t
  have ht := lt32 t
  have e : ((iblk m c 1 t : Vec Ideal S512x512 .bf16) (ix2 r k) : EReal) = (V m c main_v3 : Vec Ideal S16384x512 .bf16) (ix2 (⟨t.val * 512 + r.val, by omega⟩ : Fin 16384) k) := by
    unfold iblk
    rw [View.read_apply]
    refine congrArg (V m c main_v3 : Vec Ideal S16384x512 .bf16) (funext fun a => Fin.ext ?_)
    match a with
    | ⟨0, _⟩ => show win0_1.index t 0 * 512 + 1 * r.val = t.val * 512 + r.val; rw [h0, Nat.one_mul]
    | ⟨1, _⟩ => show win0_1.index t 1 * 512 + 1 * k.val = k.val; rw [h1, Nat.zero_mul, Nat.zero_add, Nat.one_mul]
  rw [e, V3]
  exact congrArg₂ (fun (p : Fin 2) (q : Fin 8192) => (m ((c : Thread nD τ).loc main_arg1) : Vec Ideal S2x8192x512 .f32) (ix3 p q k)) (Fin.ext (by show (t.val * 512 + r.val) / 8192 = n.val; omega)) (Fin.ext (by show (t.val * 512 + r.val) % 8192 = s.val; omega))
theorem blk3 (r : Fin 512) (k : Fin 2048) (n : Fin 2) (s : Fin 8192) (h : n.val * 8192 + s.val = t.val * 512 + r.val) :
    ((iblk m c 3 t : Vec Ideal S512x2048 .bf16) (ix2 r k) : EReal) = (m ((c : Thread nD τ).loc main_arg3) : Vec Ideal S2x8192x2048 .f32) (ix3 n s k) := by
  obtain ⟨h0, h1⟩ := idx3 t
  have ht := lt32 t
  have e : ((iblk m c 3 t : Vec Ideal S512x2048 .bf16) (ix2 r k) : EReal) = (V m c main_v6 : Vec Ideal S16384x2048 .bf16) (ix2 (⟨t.val * 512 + r.val, by omega⟩ : Fin 16384) k) := by
    unfold iblk
    rw [View.read_apply]
    refine congrArg (V m c main_v6 : Vec Ideal S16384x2048 .bf16) (funext fun a => Fin.ext ?_)
    match a with
    | ⟨0, _⟩ => show win0_3.index t 0 * 512 + 1 * r.val = t.val * 512 + r.val; rw [h0, Nat.one_mul]
    | ⟨1, _⟩ => show win0_3.index t 1 * 2048 + 1 * k.val = k.val; rw [h1, Nat.zero_mul, Nat.zero_add, Nat.one_mul]
  rw [e, V6]
  exact congrArg₂ (fun (p : Fin 2) (q : Fin 8192) => (m ((c : Thread nD τ).loc main_arg3) : Vec Ideal S2x8192x2048 .f32) (ix3 p q k)) (Fin.ext (by show (t.val * 512 + r.val) / 8192 = n.val; omega)) (Fin.ext (by show (t.val * 512 + r.val) % 8192 = s.val; omega))
theorem blk4 (r : Fin 512) (k : Fin 1024) (n : Fin 2) (s : Fin 8192) (h : n.val * 8192 + s.val = t.val * 512 + r.val) :
    ((iblk m c 4 t : Vec Ideal S512x1024 .f32) (ix2 r k) : EReal) = (m ((c : Thread nD τ).loc main_arg4) : Vec Ideal S2x8192x1024 .f32) (ix3 n s k) := by
  obtain ⟨h0, h1⟩ := idx4 t
  have ht := lt32 t
  have e : ((iblk m c 4 t : Vec Ideal S512x1024 .f32) (ix2 r k) : EReal) = (V m c main_v7 : Vec Ideal S16384x1024 .f32) (ix2 (⟨t.val * 512 + r.val, by omega⟩ : Fin 16384) k) := by
    unfold iblk
    rw [View.read_apply]
    refine congrArg (V m c main_v7 : Vec Ideal S16384x1024 .f32) (funext fun a => Fin.ext ?_)
    match a with
    | ⟨0, _⟩ => show win0_4.index t 0 * 512 + 1 * r.val = t.val * 512 + r.val; rw [h0, Nat.one_mul]
    | ⟨1, _⟩ => show win0_4.index t 1 * 1024 + 1 * k.val = k.val; rw [h1, Nat.zero_mul, Nat.zero_add, Nat.one_mul]
  rw [e, V7]
  exact congrArg₂ (fun (p : Fin 2) (q : Fin 8192) => (m ((c : Thread nD τ).loc main_arg4) : Vec Ideal S2x8192x1024 .f32) (ix3 p q k)) (Fin.ext (by show (t.val * 512 + r.val) / 8192 = n.val; omega)) (Fin.ext (by show (t.val * 512 + r.val) % 8192 = s.val; omega))
theorem blk2 (r : Fin 512) (k : Fin 512) (n : Fin 2) (s : Fin 8192) (h : n.val * 8192 + s.val = t.val * 512 + r.val) :
    ((iblk m c 2 t : Vec Ideal S512x512 .f32) (ix2 r k) : EReal) = (m ((c : Thread nD τ).loc main_arg2) : Vec Ideal S2x8192x8x64 .f32) (ix4 n s (⟨k.val / 64, by omega⟩ : Fin 8) (⟨k.val % 64, by omega⟩ : Fin 64)) := by
  obtain ⟨h0, h1⟩ := idx2 t
  have ht := lt32 t
  have e : ((iblk m c 2 t : Vec Ideal S512x512 .f32) (ix2 r k) : EReal) = (V m c main_v4 : Vec Ideal S16384x512 .f32) (ix2 (⟨t.val * 512 + r.val, by omega⟩ : Fin 16384) k) := by
    unfold iblk
    rw [View.read_apply]
    refine congrArg (V m c main_v4 : Vec Ideal S16384x512 .f32) (funext fun a => Fin.ext ?_)
    match a with
    | ⟨0, _⟩ => show win0_2.index t 0 * 512 + 1 * r.val = t.val * 512 + r.val; rw [h0, Nat.one_mul]
    | ⟨1, _⟩ => show win0_2.index t 1 * 512 + 1 * k.val = k.val; rw [h1, Nat.zero_mul, Nat.zero_add, Nat.one_mul]
  rw [e, V4]
  exact congrArg₂ (fun (p : Fin 2) (q : Fin 8192) => (m ((c : Thread nD τ).loc main_arg2) : Vec Ideal S2x8192x8x64 .f32) (ix4 p q (⟨k.val / 64, by omega⟩ : Fin 8) (⟨k.val % 64, by omega⟩ : Fin 64))) (Fin.ext (by show (t.val * 512 + r.val) / 8192 = n.val; omega)) (Fin.ext (by show (t.val * 512 + r.val) % 8192 = s.val; omega))
theorem blk5 (e : Fin 512) (f : Fin 1024) : ((iblk m c 5 t : Vec Ideal S512x1024 .bf16) (ix2 e f) : EReal) = (V m c main_v8 : Vec Ideal S512x1024 .bf16) (ix2 e f) := by
  obtain ⟨h0, h1⟩ := idx5 t
  unfold iblk
  rw [View.read_apply]
  refine congrArg (V m c main_v8 : Vec Ideal S512x1024 .bf16) (funext fun a => Fin.ext ?_)
  match a with
  | ⟨0, _⟩ => show win0_5.index t 0 * 512 + 1 * e.val = e.val; rw [h0]; omega
  | ⟨1, _⟩ => show win0_5.index t 1 * 1024 + 1 * f.val = f.val; rw [h1]; omega
theorem blk6 (e : Fin 512) (f : Fin 1024) : ((iblk m c 6 t : Vec Ideal S512x1024 .bf16) (ix2 e f) : EReal) = (V m c main_v9 : Vec Ideal S512x1024 .bf16) (ix2 e f) := by
  obtain ⟨h0, h1⟩ := idx6 t
  unfold iblk
  rw [View.read_apply]
  refine congrArg (V m c main_v9 : Vec Ideal S512x1024 .bf16) (funext fun a => Fin.ext ?_)
  match a with
  | ⟨0, _⟩ => show win0_6.index t 0 * 512 + 1 * e.val = e.val; rw [h0]; omega
  | ⟨1, _⟩ => show win0_6.index t 1 * 1024 + 1 * f.val = f.val; rw [h1]; omega
theorem blk7 (e : Fin 1024) (f : Fin 1024) : ((iblk m c 7 t : Vec Ideal S1024x1024 .bf16) (ix2 e f) : EReal) = (V m c main_v10 : Vec Ideal S1024x1024 .bf16) (ix2 e f) := by
  obtain ⟨h0, h1⟩ := idx7 t
  unfold iblk
  rw [View.read_apply]
  refine congrArg (V m c main_v10 : Vec Ideal S1024x1024 .bf16) (funext fun a => Fin.ext ?_)
  match a with
  | ⟨0, _⟩ => show win0_7.index t 0 * 1024 + 1 * e.val = e.val; rw [h0]; omega
  | ⟨1, _⟩ => show win0_7.index t 1 * 1024 + 1 * f.val = f.val; rw [h1]; omega
theorem blk11 (e : Fin 1024) (f : Fin 4096) : ((iblk m c 11 t : Vec Ideal S1024x4096 .bf16) (ix2 e f) : EReal) = (V m c main_v11 : Vec Ideal S1024x4096 .bf16) (ix2 e f) := by
  obtain ⟨h0, h1⟩ := idx11 t
  unfold iblk
  rw [View.read_apply]
  refine congrArg (V m c main_v11 : Vec Ideal S1024x4096 .bf16) (funext fun a => Fin.ext ?_)
  match a with
  | ⟨0, _⟩ => show win0_11.index t 0 * 1024 + 1 * e.val = e.val; rw [h0]; omega
  | ⟨1, _⟩ => show win0_11.index t 1 * 4096 + 1 * f.val = f.val; rw [h1]; omega
theorem blk12 (e : Fin 4096) (f : Fin 1024) : ((iblk m c 12 t : Vec Ideal S4096x1024 .bf16) (ix2 e f) : EReal) = (V m c main_v12 : Vec Ideal S4096x1024 .bf16) (ix2 e f) := by
  obtain ⟨h0, h1⟩ := idx12 t
  unfold iblk
  rw [View.read_apply]
  refine congrArg (V m c main_v12 : Vec Ideal S4096x1024 .bf16) (funext fun a => Fin.ext ?_)
  match a with
  | ⟨0, _⟩ => show win0_12.index t 0 * 4096 + 1 * e.val = e.val; rw [h0]; omega
  | ⟨1, _⟩ => show win0_12.index t 1 * 1024 + 1 * f.val = f.val; rw [h1]; omega
theorem blk9 (e : Fin 128) (f : Fin 512) : ((iblk m c 9 t : Vec Ideal S128x512 .f32) (ix2 e f) : EReal) = (V m c main_v21 : Vec Ideal S128x512 .f32) (ix2 e f) := by
  obtain ⟨h0, h1⟩ := idx9 t
  unfold iblk
  rw [View.read_apply]
  refine congrArg (V m c main_v21 : Vec Ideal S128x512 .f32) (funext fun a => Fin.ext ?_)
  match a with
  | ⟨0, _⟩ => show win0_9.index t 0 * 128 + 1 * e.val = e.val; rw [h0]; omega
  | ⟨1, _⟩ => show win0_9.index t 1 * 512 + 1 * f.val = f.val; rw [h1]; omega
theorem blk10 (e : Fin 1) (f : Fin 1024) : ((iblk m c 10 t : Vec Ideal S1x1024 .f32) (ix2 e f) : EReal) = (V m c main_v22 : Vec Ideal S1x1024 .f32) (ix2 e f) := by
  obtain ⟨h0, h1⟩ := idx10 t
  unfold iblk
  rw [View.read_apply]
  refine congrArg (V m c main_v22 : Vec Ideal S1x1024 .f32) (funext fun a => Fin.ext ?_)
  match a with
  | ⟨0, _⟩ => show win0_10.index t 0 * 1 + 1 * e.val = e.val; rw [h0]; omega
  | ⟨1, _⟩ => show win0_10.index t 1 * 1024 + 1 * f.val = f.val; rw [h1]; omega
theorem blk13 (e : Fin 1) (f : Fin 1024) : ((iblk m c 13 t : Vec Ideal S1x1024 .f32) (ix2 e f) : EReal) = (V m c main_v23 : Vec Ideal S1x1024 .f32) (ix2 e f) := by
  obtain ⟨h0, h1⟩ := idx13 t
  unfold iblk
  rw [View.read_apply]
  refine congrArg (V m c main_v23 : Vec Ideal S1x1024 .f32) (funext fun a => Fin.ext ?_)
  match a with
  | ⟨0, _⟩ => show win0_13.index t 0 * 1 + 1 * e.val = e.val; rw [h0]; omega
  | ⟨1, _⟩ => show win0_13.index t 1 * 1024 + 1 * f.val = f.val; rw [h1]; omega
/-- The mixing weights' block, the same at every point. -/
theorem blk8 : (iblk m c 8 t : Vec Ideal S8x128x128 .f32) = (V m c main_v15 : Vec Ideal S8x128x128 .f32) := funext fun y => by
  obtain ⟨h0, h1, h2⟩ := idx8 t
  unfold iblk
  rw [View.read_apply]
  refine congrArg (V m c main_v15 : Vec Ideal S8x128x128 .f32) (funext fun a => Fin.ext ?_)
  match a with
  | ⟨0, _⟩ => show win0_8.index t 0 * 8 + 1 * (y 0 : Fin 8).val = (y 0 : Fin 8).val; rw [h0]; omega
  | ⟨1, _⟩ => show win0_8.index t 1 * 128 + 1 * (y 1 : Fin 128).val = (y 1 : Fin 128).val; rw [h1]; omega
  | ⟨2, _⟩ => show win0_8.index t 2 * 128 + 1 * (y 2 : Fin 128).val = (y 2 : Fin 128).val; rw [h2]; omega
end Blocks

/-- The masked weights are held after every point. -/
theorem held : ∀ (k : ℕ) (h : k < cfg0.N), (outsAt0 (F := Ideal) m c k h).2 = k0_pay2 (V m c main_v15 : Vec Ideal S8x128x128 .f32) := by
  intro k
  induction k with
  | zero => exact fun h => (scA m c ⟨0, h⟩ rfl).trans (congrArg k0_pay2 (blk8 m c ⟨0, h⟩))
  | succ k ih =>
    intro h
    have h32 : k + 1 < 32 := lt32 ⟨k + 1, h⟩
    exact (scB m c ⟨k + 1, h⟩ (by show ¬ (k + 1) % 32 = 0; omega)).trans (ih (by omega))

theorem out_all (t : Fin cfg0.N) : (outsAt0 (F := Ideal) m c t.val t.isLt).1
    = outK (k0_pay2 (V m c main_v15 : Vec Ideal S8x128x128 .f32)) (iblk m c 0 t) (iblk m c 1 t) (iblk m c 2 t) (iblk m c 3 t) (iblk m c 4 t) (iblk m c 5 t) (iblk m c 6 t) (iblk m c 7 t) (iblk m c 9 t) (iblk m c 10 t) (iblk m c 11 t) (iblk m c 12 t) (iblk m c 13 t) := by
  by_cases ht : t.val % 32 = 0
  · rw [out_A m c t ht, blk8]
  · rw [out_B m c t ht, held]

/-- The result array: the reference's term of the arguments. -/
def Gres : Vec Ideal S16384x1024 .f32 :=
  Cert.Proof.MergeReferenceIdeal.Tail (Cert.Proof.MergeReferenceIdeal.X1 (m ((c.tc : Thread nD τ).loc main_arg4)) (m ((c.tc : Thread nD τ).loc main_arg3)) (m ((c.tc : Thread nD τ).loc main_arg0)) (m ((c.tc : Thread nD τ).loc main_arg1))
      (Cert.Proof.MergeReferenceIdeal.Mb (m ((c.tc : Thread nD τ).loc main_arg2)) (Cert.Proof.MergeReferenceIdeal.Mix (m ((c.tc : Thread nD τ).loc main_arg8))) (m ((c.tc : Thread nD τ).loc main_arg9)))
      (m ((c.tc : Thread nD τ).loc main_arg5)) (m ((c.tc : Thread nD τ).loc main_arg6)) (m ((c.tc : Thread nD τ).loc main_arg7)))
    (m ((c.tc : Thread nD τ).loc main_arg10)) (m ((c.tc : Thread nD τ).loc main_arg11)) (m ((c.tc : Thread nD τ).loc main_arg12)) (m ((c.tc : Thread nD τ).loc main_arg13))

/-- A row of a tile after the branches is the reference's row of that token. -/
theorem row_eq (t : Fin grid0.N) (r : Fin 512) :
    rowR (V m c main_v15 : Vec Ideal S8x128x128 .f32) (iblk m c 0 t) (iblk m c 1 t) (iblk m c 2 t) (iblk m c 3 t) (iblk m c 4 t) (iblk m c 5 t) (iblk m c 6 t) (iblk m c 7 t) (iblk m c 9 t) r
      = Cert.Proof.MergeReferenceIdeal.row1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (⟨(t.val * 512 + r.val) / 8192, by have := lt32 t; omega⟩ : Fin 2) (⟨(t.val * 512 + r.val) % 8192, by omega⟩ : Fin 8192) := by
  have ht := lt32 t
  unfold rowR Cert.Proof.MergeReferenceIdeal.row1
  have hi : (t.val * 512 + r.val) / 8192 * 8192 + (t.val * 512 + r.val) % 8192 = t.val * 512 + r.val := by omega
  refine Row.x1_congr (fun k => blk0 m c t r k _ _ hi) ?_ (fun j => blk3 m c t r j _ _ hi) (fun d => blk4 m c t r d _ _ hi)
    (fun k d => (blk5 m c t k d).trans (V8 m c _)) (fun k d => (blk6 m c t k d).trans (V9 m c _)) (fun k d => (blk7 m c t k d).trans (V10 m c _))
  unfold sgR
  have hm : (⟨r.val % 128, by omega⟩ : Fin 128) = ⟨(t.val * 512 + r.val) % 8192 % 128, by omega⟩ := Fin.ext (by show r.val % 128 = (t.val * 512 + r.val) % 8192 % 128; omega)
  refine Row.sg_congr (fun h s => (V15 m c h _ s).trans ?_) (by show r.val % 128 = (t.val * 512 + r.val) % 8192 % 128; omega)
    (fun s e => blk2 m c t _ e _ _ (by show (t.val * 512 + r.val) / 8192 * 8192 + ((t.val * 512 + r.val) % 8192 / 128 * 128 + s.val) = t.val * 512 + (r.val / 128 * 128 + s.val); omega))
    (fun e => (blk9 m c t _ e).trans ((V21 m c _ e).trans ?_)) (fun e => blk1 m c t r e _ _ hi)
  · rw [hm]
  · rw [hm]

theorem out_row (t : Fin grid0.N) (r : Fin 512) (d : Fin 1024) : ((outsAt0 (F := Ideal) m c t.val t.isLt).1 (ix2 r d) : EReal) = Gres m c (ix2 (⟨t.val * 512 + r.val, by have := lt32 t; omega⟩ : Fin 16384) d) := by
  have ht := lt32 t
  rw [out_all m c t]
  refine (out_read (V m c main_v15 : Vec Ideal S8x128x128 .f32) _ _ _ _ _ _ _ _ _ _ _ _ _ r d).trans ?_
  unfold Gres
  refine Eq.trans ?_ (Cert.Proof.MergeReferenceIdeal.tail_read _ _ _ _ _ _ _ _ _ _ _ _ _ _ (⟨t.val * 512 + r.val, by omega⟩ : Fin 16384) d).symm
  exact Row.out_congr (row_eq m c t r) (fun e => (blk10 m c t 0 e).trans (V22 m c e)) (fun e f => (blk11 m c t e f).trans (V11 m c _)) (fun f d => (blk12 m c t f d).trans (V12 m c _)) (fun e => (blk13 m c t 0 e).trans (V23 m c e)) d

theorem final_o : (dats m 0 c).arrAt 14 cfg0.N = Gres m c := by
  refine (dats m 0 c).arrAt_eq_of_covers 14 _ (by decide +kernel) fun t hf y => ?_
  blk_simp
  rw [after0_14]
  obtain ⟨h0, h1⟩ := idx14 t
  have hy : ∀ y : S512x1024.Idx, y = ix2 (y 0 : Fin 512) (y 1 : Fin 1024) := fun y => funext fun a => by
    match a with
    | ⟨0, _⟩ => rfl
    | ⟨1, _⟩ => rfl
  refine (congrArg ((outsAt0 (F := Ideal) m c t.val t.isLt).1 : Vec Ideal S512x1024 .f32) (hy y)).trans ((out_row m c t (y 0) (y 1)).trans ?_)
  refine congrArg (Gres m c) (funext fun a => Fin.ext ?_)
  match a with
  | ⟨0, _⟩ => show t.val * 512 + (y 0 : Fin 512).val = win0_14.index t 0 * 512 + 1 * (y 0 : Fin 512).val; rw [h0]; omega
  | ⟨1, _⟩ => show (y 1 : Fin 1024).val = win0_14.index t 1 * 1024 + 1 * (y 1 : Fin 1024).val; rw [h1]; omega

/-- The generated array is the reference's term. -/
theorem array_eq : Cert.MergeIdeal.Value.G14 m c = Gres m c := (Cert.MergeIdeal.Value.final14 m c).symm.trans (final_o m c)

end Cert.Proof.MergeIdeal
end
-- ==== Proof.FirstOut.lean ====
module

public import proofs.«01_k».proof.Proof.Gen.FirstIdeal.Value
public import proofs.«01_k».proof.Proof.MergeOut
public import Idealize.ShloMosaic.Lib.Pointwise
public import Idealize.ShloMosaic.Lib.Pipeline.ValueKit.Geometry
public import Idealize.ShloMosaic.Lib.Pipeline.ValueKit.Acc
public import Idealize.ShloMosaic.Lib.Pipeline.ReadBack

@[expose] public section

set_option maxRecDepth 16384

noncomputable section

namespace Cert.Proof.FirstIdeal

open Cert.FirstIdeal Cert.FirstIdeal.Gen
open Idealize.ShloMosaic Idealize.ShloMosaic.TcCoe Idealize.ShloMosaic.Tactic
open Idealize.SL Idealize.SL.Sem
open Cert.Proof.MergeIdeal (mixL resK sqK rowR)

/-! # The first layer's tile, by the last layer's parts -/

theorem pay2 : k0_pay2 (F := Ideal) = Cert.MergeIdeal.Gen.k0_pay2 (F := Ideal) := rfl
theorem pay29 : k0_pay29 (F := Ideal) = Cert.MergeIdeal.Gen.k0_pay29 (F := Ideal) := rfl
theorem pay30 : k0_pay30 (F := Ideal) = Cert.MergeIdeal.Gen.k0_pay30 (F := Ideal) := rfl
theorem pay31 : k0_pay31 (F := Ideal) = Cert.MergeIdeal.Gen.k0_pay31 (F := Ideal) := rfl
theorem pay32 : k0_pay32 (F := Ideal) = Cert.MergeIdeal.Gen.k0_pay32 (F := Ideal) := rfl
theorem pay33 : k0_pay33 (F := Ideal) = Cert.MergeIdeal.Gen.k0_pay33 (F := Ideal) := rfl
theorem pay34 : k0_pay34 (F := Ideal) = Cert.MergeIdeal.Gen.k0_pay34 (F := Ideal) := rfl
theorem pay35 : k0_pay35 (F := Ideal) = Cert.MergeIdeal.Gen.k0_pay35 (F := Ideal) := rfl
theorem pay28 : k0_pay28 (F := Ideal) = Cert.MergeIdeal.Gen.k0_pay28 (F := Ideal) := rfl
theorem chunk0 (X : Vec Ideal S128x512 .f32) (w0 w1 w2 w3 w4 w5 w6 w7 : Vec Ideal S1x128x128 .bf16) (B : Vec Ideal S128x512 .f32) (U : Vec Ideal S128x512 .bf16) :
    k0_pay9 k0_pay3 (k0_pay4 X) (k0_pay5 X w0 w1) (k0_pay6 X w2 w3) (k0_pay7 X) (k0_pay8 X w4) w5 w6 w7 B U
      = Cert.MergeIdeal.Gen.k0_pay15 (Cert.MergeIdeal.Gen.k0_pay14 Cert.MergeIdeal.Gen.k0_pay3 (Cert.MergeIdeal.Gen.k0_pay10 X) (Cert.MergeIdeal.Gen.k0_pay12 X w0) (Cert.MergeIdeal.Gen.k0_pay13 X w1) w2 w3 w4 w5 w6 w7) B U := rfl
theorem chunk1 (X : Vec Ideal S128x512 .f32) (w0 w1 w2 w3 w4 w5 w6 w7 : Vec Ideal S1x128x128 .bf16) (B : Vec Ideal S128x512 .f32) (U : Vec Ideal S128x512 .bf16) :
    k0_pay15 (k0_pay14 k0_pay3 (k0_pay10 X) (k0_pay12 X w0) (k0_pay13 X w1) w2 w3 w4 w5 w6 w7) B U
      = Cert.MergeIdeal.Gen.k0_pay15 (Cert.MergeIdeal.Gen.k0_pay14 Cert.MergeIdeal.Gen.k0_pay3 (Cert.MergeIdeal.Gen.k0_pay10 X) (Cert.MergeIdeal.Gen.k0_pay12 X w0) (Cert.MergeIdeal.Gen.k0_pay13 X w1) w2 w3 w4 w5 w6 w7) B U := rfl
theorem chunk2 (X : Vec Ideal S128x512 .f32) (w0 w1 w2 w3 w4 w5 w6 w7 : Vec Ideal S1x128x128 .bf16) (B : Vec Ideal S128x512 .f32) (U : Vec Ideal S128x512 .bf16) :
    k0_pay21 k0_pay3 (k0_pay16 X) (k0_pay17 k0_pay3 X w0 w1) (k0_pay18 k0_pay3 X w2 w3) (k0_pay19 X) (k0_pay20 X w4) w5 w6 w7 B U
      = Cert.MergeIdeal.Gen.k0_pay15 (Cert.MergeIdeal.Gen.k0_pay14 Cert.MergeIdeal.Gen.k0_pay3 (Cert.MergeIdeal.Gen.k0_pay10 X) (Cert.MergeIdeal.Gen.k0_pay12 X w0) (Cert.MergeIdeal.Gen.k0_pay13 X w1) w2 w3 w4 w5 w6 w7) B U := rfl
theorem chunk3 (X : Vec Ideal S128x512 .f32) (w0 w1 w2 w3 w4 w5 w6 w7 : Vec Ideal S1x128x128 .bf16) :
    k0_pay27 k0_pay3 (k0_pay22 X) (k0_pay24 X w0) (k0_pay25 X w1) (k0_pay26 k0_pay3) w2 w3 w4 w5 w6 w7
      = Cert.MergeIdeal.Gen.k0_pay14 Cert.MergeIdeal.Gen.k0_pay3 (Cert.MergeIdeal.Gen.k0_pay10 X) (Cert.MergeIdeal.Gen.k0_pay12 X w0) (Cert.MergeIdeal.Gen.k0_pay13 X w1) w2 w3 w4 w5 w6 w7 := rfl

section Tail
variable (y : FVec Ideal S512x1024 .f32) (gf : Vec Ideal S1x1024 .f32) (q : FVec Ideal S512x1 .f32) (a0 b0 a1 b1 a2 b2 a3 b3 : Vec Ideal S1024x1024 .bf16)

/-- The feed-forward part of a tile, with its residual. -/
def tailF : FVec Ideal S512x1024 .f32 :=
  k0_pay1 (Cert.MergeIdeal.Gen.k0_pay33 y (Cert.MergeIdeal.Gen.k0_pay30 gf) q Cert.MergeIdeal.Gen.k0_pay32) (Cert.MergeIdeal.Gen.k0_pay34 y (Cert.MergeIdeal.Gen.k0_pay30 gf) q Cert.MergeIdeal.Gen.k0_pay32 a0 b0 a1 b1) (Cert.MergeIdeal.Gen.k0_pay35 y (Cert.MergeIdeal.Gen.k0_pay30 gf) q Cert.MergeIdeal.Gen.k0_pay32 a2) b2 a3 b3

theorem tail_read (r : Fin 512) (d : Fin 1024) (Y : Fin 1024 → EReal) (hY : ∀ e, y (ix2 r e) = Y e) (hq : q (ix2 r (0 : Fin 1)) = ∑ e, Y e * Y e)
    (w1 : Fin 1024 → Fin 4096 → EReal) (w2 : Fin 4096 → Fin 1024 → EReal)
    (ha0 : ∀ e f : Fin 1024, a0 (ix2 e f) = w1 e (⟨f.val, by omega⟩ : Fin 4096)) (ha1 : ∀ e f : Fin 1024, a1 (ix2 e f) = w1 e (⟨1024 + f.val, by omega⟩ : Fin 4096))
    (ha2 : ∀ e f : Fin 1024, a2 (ix2 e f) = w1 e (⟨2048 + f.val, by omega⟩ : Fin 4096)) (ha3 : ∀ e f : Fin 1024, a3 (ix2 e f) = w1 e (⟨3072 + f.val, by omega⟩ : Fin 4096))
    (hb0 : ∀ f d : Fin 1024, b0 (ix2 f d) = w2 (⟨f.val, by omega⟩ : Fin 4096) d) (hb1 : ∀ f d : Fin 1024, b1 (ix2 f d) = w2 (⟨1024 + f.val, by omega⟩ : Fin 4096) d)
    (hb2 : ∀ f d : Fin 1024, b2 (ix2 f d) = w2 (⟨2048 + f.val, by omega⟩ : Fin 4096) d) (hb3 : ∀ f d : Fin 1024, b3 (ix2 f d) = w2 (⟨3072 + f.val, by omega⟩ : Fin 4096) d) :
    (tailF y gf q a0 b0 a1 b1 a2 b2 a3 b3 (ix2 r d) : EReal) = Row.ffn Y (fun e => gf (ix2 (0 : Fin 1) e)) w1 w2 d := by
  have key := Cert.Proof.MergeIdeal.ffn_read y gf q a0 b0 a1 b1 a2 b2 a3 b3 r d Y hY hq w1 w2 ha0 ha1 ha2 ha3 hb0 hb1 hb2 hb3
  unfold tailF
  generalize Cert.MergeIdeal.Gen.k0_pay33 y (Cert.MergeIdeal.Gen.k0_pay30 gf) q Cert.MergeIdeal.Gen.k0_pay32 = n at key
  generalize Cert.MergeIdeal.Gen.k0_pay34 y (Cert.MergeIdeal.Gen.k0_pay30 gf) q Cert.MergeIdeal.Gen.k0_pay32 a0 b0 a1 b1 = z at key
  generalize Cert.MergeIdeal.Gen.k0_pay35 y (Cert.MergeIdeal.Gen.k0_pay30 gf) q Cert.MergeIdeal.Gen.k0_pay32 a2 = p at key
  unfold k0_pay1
  pointwise
  exact key
end Tail

variable (m : (ℓ : Loc nD τ sig) → Buf (Elt Ideal) ℓ)

theorem scA (c : Dev nD) (t : Fin cfg0.N) (ht : t.val % 32 = 0) : (outsAt0 (F := Ideal) m c t.val t.isLt).2 = Cert.MergeIdeal.Gen.k0_pay2 (iblk m c 8 t) := by
  rw [outsAt0_A m c t ht]
  frame_out
  rfl

theorem scB (c : Dev nD) (t : Fin cfg0.N) (ht : ¬ t.val % 32 = 0) : (outsAt0 (F := Ideal) m c t.val t.isLt).2 = (outsAt0 (F := Ideal) m c (t.val - 1) (lt_of_le_of_lt (Nat.sub_le _ _) t.isLt)).2 := by
  rw [outsAt0_B m c t ht]
  rfl

section Tile
variable (S : Vec Ideal S8x128x128 .bf16) (x0 x1 : Vec Ideal S512x512 .bf16) (x2 : Vec Ideal S512x512 .f32) (x3 : Vec Ideal S512x2048 .bf16) (x4 : Vec Ideal S512x1024 .f32) (x5 x6 : Vec Ideal S512x1024 .bf16)
  (x7 : Vec Ideal S1024x1024 .bf16) (x9 : Vec Ideal S128x512 .f32) (x10 : Vec Ideal S1x1024 .f32) (x11 : Vec Ideal S1024x4096 .bf16) (x12 : Vec Ideal S4096x1024 .bf16)

/-- The tile written, of the weights held and the point's blocks. -/
def outF : FVec Ideal S512x1024 .f32 :=
  tailF (resK S x0 x1 x2 x3 x4 x5 x6 x7 x9) x10 (sqK S x0 x1 x2 x3 x4 x5 x6 x7 x9) (View.ld x11 (Rect.unit ![0,0] ![1024,1024] inb_S1024x4096_S1024x1024_0_0)) (View.ld x12 (Rect.unit ![0,0] ![1024,1024] inb_S4096x1024_S1024x1024_0_0)) (View.ld x11 (Rect.unit ![0,1024] ![1024,1024] inb_S1024x4096_S1024x1024_0_1024)) (View.ld x12 (Rect.unit ![1024,0] ![1024,1024] inb_S4096x1024_S1024x1024_1024_0)) (View.ld x11 (Rect.unit ![0,2048] ![1024,1024] inb_S1024x4096_S1024x1024_0_2048)) (View.ld x12 (Rect.unit ![2048,0] ![1024,1024] inb_S4096x1024_S1024x1024_2048_0)) (View.ld x11 (Rect.unit ![0,3072] ![1024,1024] inb_S1024x4096_S1024x1024_0_3072)) (View.ld x12 (Rect.unit ![3072,0] ![1024,1024] inb_S4096x1024_S1024x1024_3072_0))
end Tile

theorem out_B (c : Dev nD) (t : Fin cfg0.N) (ht : ¬ t.val % 32 = 0) : (outsAt0 (F := Ideal) m c t.val t.isLt).1
    = outF (outsAt0 (F := Ideal) m c (t.val - 1) (lt_of_le_of_lt (Nat.sub_le _ _) t.isLt)).2 (iblk m c 0 t) (iblk m c 1 t) (iblk m c 2 t) (iblk m c 3 t) (iblk m c 4 t) (iblk m c 5 t) (iblk m c 6 t) (iblk m c 7 t) (iblk m c 9 t) (iblk m c 10 t) (iblk m c 11 t) (iblk m c 12 t) := by
  rw [outsAt0_B m c t ht]
  frame_out
  simp only [(Memref.isWhole_whole cc0_scratch0).read_unread]
  rw [chunk0, chunk1, chunk2, chunk3]
  rw [pay28, pay29, pay30, pay31, pay32, pay33, pay34, pay35]
  rfl

theorem out_A (c : Dev nD) (t : Fin cfg0.N) (ht : t.val % 32 = 0) : (outsAt0 (F := Ideal) m c t.val t.isLt).1
    = outF (Cert.MergeIdeal.Gen.k0_pay2 (iblk m c 8 t)) (iblk m c 0 t) (iblk m c 1 t) (iblk m c 2 t) (iblk m c 3 t) (iblk m c 4 t) (iblk m c 5 t) (iblk m c 6 t) (iblk m c 7 t) (iblk m c 9 t) (iblk m c 10 t) (iblk m c 11 t) (iblk m c 12 t) := by
  rw [outsAt0_A m c t ht]
  frame_out
  simp (disch := decide) only [↓ View.readCov_fill]
  rw [chunk0, chunk1, chunk2, chunk3]
  rw [pay28, pay29, pay30, pay31, pay32, pay33, pay34, pay35]
  rfl

section Rows
variable (w : Vec Ideal S8x128x128 .f32) (x0 x1 : Vec Ideal S512x512 .bf16) (x2 : Vec Ideal S512x512 .f32) (x3 : Vec Ideal S512x2048 .bf16) (x4 : Vec Ideal S512x1024 .f32) (x5 x6 : Vec Ideal S512x1024 .bf16)
  (x7 : Vec Ideal S1024x1024 .bf16) (x9 : Vec Ideal S128x512 .f32) (x10 : Vec Ideal S1x1024 .f32) (x11 : Vec Ideal S1024x4096 .bf16) (x12 : Vec Ideal S4096x1024 .bf16)

/-- The tile written, at an index. -/
theorem out_read (r : Fin 512) (d : Fin 1024) : (outF (Cert.MergeIdeal.Gen.k0_pay2 w) x0 x1 x2 x3 x4 x5 x6 x7 x9 x10 x11 x12 (ix2 r d) : EReal)
    = Row.ffn (rowR w x0 x1 x2 x3 x4 x5 x6 x7 x9 r) (fun e => x10 (ix2 (0 : Fin 1) e)) (fun e f => x11 (ix2 e f)) (fun f d => x12 (ix2 f d)) d := by
  have h0 : ∀ f : Fin 1024, (⟨0 + f.val, by omega⟩ : Fin 4096) = ⟨f.val, by omega⟩ := fun f => Fin.ext (Nat.zero_add _)
  unfold outF
  exact tail_read _ x10 _ _ _ _ _ _ _ _ _ r d _ (Cert.Proof.MergeIdeal.res_read w x0 x1 x2 x3 x4 x5 x6 x7 x9 r) (Cert.Proof.MergeIdeal.sq_read w x0 x1 x2 x3 x4 x5 x6 x7 x9 r) (fun e f => x11 (ix2 e f)) (fun f d => x12 (ix2 f d))
    (fun e f => (Cert.Proof.MergeIdeal.col_ld x11 0 _ e f (by omega)).trans (congrArg (fun q => x11 (ix2 e q)) (h0 f))) (fun e f => Cert.Proof.MergeIdeal.col_ld x11 1024 _ e f (by omega)) (fun e f => Cert.Proof.MergeIdeal.col_ld x11 2048 _ e f (by omega)) (fun e f => Cert.Proof.MergeIdeal.col_ld x11 3072 _ e f (by omega))
    (fun f d => (Cert.Proof.MergeIdeal.row_ld x12 0 _ f d (by omega)).trans (congrArg (fun q => x12 (ix2 q d)) (h0 f))) (fun f d => Cert.Proof.MergeIdeal.row_ld x12 1024 _ f d (by omega)) (fun f d => Cert.Proof.MergeIdeal.row_ld x12 2048 _ f d (by omega)) (fun f d => Cert.Proof.MergeIdeal.row_ld x12 3072 _ f d (by omega))
end Rows

end Cert.Proof.FirstIdeal
end
-- ==== Proof.FirstRef.lean ====
module

public import proofs.«01_k».proof.Proof.Gen.FirstReferenceIdeal.Run
public import proofs.«01_k».proof.Proof.MergeRef
public import Idealize.ShloMosaic.Lib.Pointwise

@[expose] public section

set_option maxRecDepth 16384

noncomputable section

namespace Cert.Proof.FirstReferenceIdeal

open Cert.FirstReferenceIdeal Cert.FirstReferenceIdeal.Gen
open Idealize.ShloMosaic Idealize.ShloMosaic.TcCoe Idealize.ShloMosaic.Tactic
open Idealize.SL Idealize.SL.Sem
open Cert.Proof.MergeReferenceIdeal (Mix Mb X1 Nrm Hid Y row1 x1_read y_read)

/-! # The first layer's reference result at an index -/

/-- The result from the residual after the branches. -/
def TailF (x1 : FVec Ideal S2x8192x1024 .f32) (gf : FVec Ideal S1024 .f32) (w1 : FVec Ideal S1024x4096 .f32) (w2 : FVec Ideal S4096x1024 .f32) : FVec Ideal S16384x1024 .f32 :=
  shapeCast _ (Y x1 (Hid (Nrm x1 gf) w1) w2) shapeCasts_S2x8192x1024_S16384x1024

theorem res_eq (m : (ℓ : Loc nD τ sig) → Buf (Elt Ideal) ℓ) (c : Dev nD) :
    Cert.FirstReferenceIdeal.Value.res_main_v41 m c
      = TailF (X1 (m ((c.tc : Thread nD τ).loc main_arg4)) (m ((c.tc : Thread nD τ).loc main_arg3)) (m ((c.tc : Thread nD τ).loc main_arg0)) (m ((c.tc : Thread nD τ).loc main_arg1))
          (Mb (m ((c.tc : Thread nD τ).loc main_arg2)) (Mix (m ((c.tc : Thread nD τ).loc main_arg8))) (m ((c.tc : Thread nD τ).loc main_arg9)))
          (m ((c.tc : Thread nD τ).loc main_arg5)) (m ((c.tc : Thread nD τ).loc main_arg6)) (m ((c.tc : Thread nD τ).loc main_arg7)))
        (m ((c.tc : Thread nD τ).loc main_arg10)) (m ((c.tc : Thread nD τ).loc main_arg11)) (m ((c.tc : Thread nD τ).loc main_arg12)) := rfl

section Args
variable (att u : FVec Ideal S2x8192x512 .f32) (sv : FVec Ideal S2x8192x8x64 .f32) (gates : FVec Ideal S2x8192x2048 .f32) (x : FVec Ideal S2x8192x1024 .f32)
  (woa wos : FVec Ideal S512x1024 .f32) (wo : FVec Ideal S1024x1024 .f32) (w : FVec Ideal S8x128x128 .f32) (b : FVec Ideal S8x128 .f32)
  (gf : FVec Ideal S1024 .f32) (w1 : FVec Ideal S1024x4096 .f32) (w2 : FVec Ideal S4096x1024 .f32)

/-- The reference's result at an index: the token's row. -/
theorem tail_read (r : Fin 16384) (d : Fin 1024) :
    (TailF (X1 x gates att u (Mb sv (Mix w) b) woa wos wo) gf w1 w2 (ix2 r d) : EReal)
      = Row.ffn (row1 att u sv gates x woa wos wo w b (⟨r.val / 8192, by omega⟩ : Fin 2) (⟨r.val % 8192, by omega⟩ : Fin 8192)) (fun e => gf (ix1 e)) (fun e f => w1 (ix2 e f)) (fun f d => w2 (ix2 f d)) d := by
  have hx := x1_read att u sv gates x woa wos wo w b (⟨r.val / 8192, by omega⟩ : Fin 2) (⟨r.val % 8192, by omega⟩ : Fin 8192)
  generalize X1 x gates att u (Mb sv (Mix w) b) woa wos wo = z at hx
  have hy := y_read gf w1 w2 z (⟨r.val / 8192, by omega⟩ : Fin 2) (⟨r.val % 8192, by omega⟩ : Fin 8192) d
  simp only [hx] at hy
  unfold TailF
  generalize Y z (Hid (Nrm z gf) w1) w2 = q at hy
  pointwise
  exact hy
end Args

end Cert.Proof.FirstReferenceIdeal
end
-- ==== Proof.FirstValue.lean ====
module

public import proofs.«01_k».proof.Proof.FirstOut
public import proofs.«01_k».proof.Proof.FirstRef
public import proofs.«01_k».proof.Proof.MergeValue
public import Idealize.ShloMosaic.Lib.Claim

@[expose] public section

set_option maxRecDepth 16384

noncomputable section

namespace Cert.Proof.FirstIdeal

open Cert.FirstIdeal Cert.FirstIdeal.Gen
open Idealize.ShloMosaic Idealize.ShloMosaic.TcCoe Idealize.ShloMosaic.Tactic
open Idealize.SL Idealize.SL.Sem

/-! # The first layer's result array -/

theorem idx14 : ∀ t : Fin grid0.N, win0_14.index t 0 = t.val ∧ win0_14.index t 1 = 0 := by decide +kernel
theorem lt32 (t : Fin grid0.N) : t.val < 32 := lt_of_lt_of_eq t.isLt N_0

variable (m : (ℓ : Loc nD τ sig) → Buf (Elt Ideal) ℓ) (c : Dev nD)

/-- The memory, for the last layer's program: the two programs' arrays are the same. -/
def mL : (ℓ : Loc Cert.MergeIdeal.nD Cert.MergeIdeal.τ Cert.MergeIdeal.sig) → Buf (Elt Ideal) ℓ := m

theorem iblk0 (t : Fin grid0.N) : (iblk m c 0 t : Vec Ideal S512x512 .bf16) = Cert.MergeIdeal.Gen.iblk (mL m) c 0 t := rfl
theorem iblk1 (t : Fin grid0.N) : (iblk m c 1 t : Vec Ideal S512x512 .bf16) = Cert.MergeIdeal.Gen.iblk (mL m) c 1 t := rfl
theorem iblk2 (t : Fin grid0.N) : (iblk m c 2 t : Vec Ideal S512x512 .f32) = Cert.MergeIdeal.Gen.iblk (mL m) c 2 t := rfl
theorem iblk3 (t : Fin grid0.N) : (iblk m c 3 t : Vec Ideal S512x2048 .bf16) = Cert.MergeIdeal.Gen.iblk (mL m) c 3 t := rfl
theorem iblk4 (t : Fin grid0.N) : (iblk m c 4 t : Vec Ideal S512x1024 .f32) = Cert.MergeIdeal.Gen.iblk (mL m) c 4 t := rfl
theorem iblk5 (t : Fin grid0.N) : (iblk m c 5 t : Vec Ideal S512x1024 .bf16) = Cert.MergeIdeal.Gen.iblk (mL m) c 5 t := rfl
theorem iblk6 (t : Fin grid0.N) : (iblk m c 6 t : Vec Ideal S512x1024 .bf16) = Cert.MergeIdeal.Gen.iblk (mL m) c 6 t := rfl
theorem iblk7 (t : Fin grid0.N) : (iblk m c 7 t : Vec Ideal S1024x1024 .bf16) = Cert.MergeIdeal.Gen.iblk (mL m) c 7 t := rfl
theorem iblk8 (t : Fin grid0.N) : (iblk m c 8 t : Vec Ideal S8x128x128 .f32) = Cert.MergeIdeal.Gen.iblk (mL m) c 8 t := rfl
theorem iblk9 (t : Fin grid0.N) : (iblk m c 9 t : Vec Ideal S128x512 .f32) = Cert.MergeIdeal.Gen.iblk (mL m) c 9 t := rfl
theorem iblk10 (t : Fin grid0.N) : (iblk m c 10 t : Vec Ideal S1x1024 .f32) = Cert.MergeIdeal.Gen.iblk (mL m) c 10 t := rfl
theorem iblk11 (t : Fin grid0.N) : (iblk m c 11 t : Vec Ideal S1024x4096 .bf16) = Cert.MergeIdeal.Gen.iblk (mL m) c 11 t := rfl
theorem iblk12 (t : Fin grid0.N) : (iblk m c 12 t : Vec Ideal S4096x1024 .bf16) = Cert.MergeIdeal.Gen.iblk (mL m) c 12 t := rfl

theorem held : ∀ (k : ℕ) (h : k < cfg0.N), (outsAt0 (F := Ideal) m c k h).2 = Cert.MergeIdeal.Gen.k0_pay2 (Cert.MergeIdeal.Gen.V (mL m) c Cert.MergeIdeal.main_v15 : Vec Ideal S8x128x128 .f32) := by
  intro k
  induction k with
  | zero => exact fun h => (scA m c ⟨0, h⟩ rfl).trans (congrArg Cert.MergeIdeal.Gen.k0_pay2 ((iblk8 m c ⟨0, h⟩).trans (Cert.Proof.MergeIdeal.blk8 (mL m) c ⟨0, h⟩)))
  | succ k ih =>
    intro h
    have h32 : k + 1 < 32 := lt32 ⟨k + 1, h⟩
    exact (scB m c ⟨k + 1, h⟩ (by show ¬ (k + 1) % 32 = 0; omega)).trans (ih (by omega))

theorem out_all (t : Fin cfg0.N) : (outsAt0 (F := Ideal) m c t.val t.isLt).1
    = outF (Cert.MergeIdeal.Gen.k0_pay2 (Cert.MergeIdeal.Gen.V (mL m) c Cert.MergeIdeal.main_v15 : Vec Ideal S8x128x128 .f32)) (iblk m c 0 t) (iblk m c 1 t) (iblk m c 2 t) (iblk m c 3 t) (iblk m c 4 t) (iblk m c 5 t) (iblk m c 6 t) (iblk m c 7 t) (iblk m c 9 t) (iblk m c 10 t) (iblk m c 11 t) (iblk m c 12 t) := by
  by_cases ht : t.val % 32 = 0
  · rw [out_A m c t ht, iblk8, Cert.Proof.MergeIdeal.blk8]
  · rw [out_B m c t ht, held]

/-- The result array: the reference's term of the arguments. -/
def Gres : Vec Ideal S16384x1024 .f32 :=
  Cert.Proof.FirstReferenceIdeal.TailF (Cert.Proof.MergeReferenceIdeal.X1 (m ((c.tc : Thread nD τ).loc main_arg4)) (m ((c.tc : Thread nD τ).loc main_arg3)) (m ((c.tc : Thread nD τ).loc main_arg0)) (m ((c.tc : Thread nD τ).loc main_arg1))
      (Cert.Proof.MergeReferenceIdeal.Mb (m ((c.tc : Thread nD τ).loc main_arg2)) (Cert.Proof.MergeReferenceIdeal.Mix (m ((c.tc : Thread nD τ).loc main_arg8))) (m ((c.tc : Thread nD τ).loc main_arg9)))
      (m ((c.tc : Thread nD τ).loc main_arg5)) (m ((c.tc : Thread nD τ).loc main_arg6)) (m ((c.tc : Thread nD τ).loc main_arg7)))
    (m ((c.tc : Thread nD τ).loc main_arg10)) (m ((c.tc : Thread nD τ).loc main_arg11)) (m ((c.tc : Thread nD τ).loc main_arg12))

theorem out_row (t : Fin grid0.N) (r : Fin 512) (d : Fin 1024) : ((outsAt0 (F := Ideal) m c t.val t.isLt).1 (ix2 r d) : EReal) = Gres m c (ix2 (⟨t.val * 512 + r.val, by have := lt32 t; omega⟩ : Fin 16384) d) := by
  have ht := lt32 t
  rw [out_all m c t]
  refine (out_read (Cert.MergeIdeal.Gen.V (mL m) c Cert.MergeIdeal.main_v15 : Vec Ideal S8x128x128 .f32) _ _ _ _ _ _ _ _ _ _ _ _ r d).trans ?_
  unfold Gres
  refine Eq.trans ?_ (Cert.Proof.FirstReferenceIdeal.tail_read _ _ _ _ _ _ _ _ _ _ _ _ _ (⟨t.val * 512 + r.val, by omega⟩ : Fin 16384) d).symm
  rw [iblk0, iblk1, iblk2, iblk3, iblk4, iblk5, iblk6, iblk7, iblk9, iblk10, iblk11, iblk12]
  exact congrFun (Row.ffn_congr (Cert.Proof.MergeIdeal.row_eq (mL m) c t r) (fun e => (Cert.Proof.MergeIdeal.blk10 (mL m) c t 0 e).trans (Cert.Proof.MergeIdeal.V22 (mL m) c e)) (fun e f => (Cert.Proof.MergeIdeal.blk11 (mL m) c t e f).trans (Cert.Proof.MergeIdeal.V11 (mL m) c _)) (fun f d => (Cert.Proof.MergeIdeal.blk12 (mL m) c t f d).trans (Cert.Proof.MergeIdeal.V12 (mL m) c _))) d

theorem final_o : (dats m 0 c).arrAt 14 cfg0.N = Gres m c := by
  refine (dats m 0 c).arrAt_eq_of_covers 14 _ (by decide +kernel) fun t hf y => ?_
  blk_simp
  rw [after0_14]
  obtain ⟨h0, h1⟩ := idx14 t
  have hy : ∀ y : S512x1024.Idx, y = ix2 (y 0 : Fin 512) (y 1 : Fin 1024) := fun y => funext fun a => by
    match a with
    | ⟨0, _⟩ => rfl
    | ⟨1, _⟩ => rfl
  refine (congrArg ((outsAt0 (F := Ideal) m c t.val t.isLt).1 : Vec Ideal S512x1024 .f32) (hy y)).trans ((out_row m c t (y 0) (y 1)).trans ?_)
  refine congrArg (Gres m c) (funext fun a => Fin.ext ?_)
  match a with
  | ⟨0, _⟩ => show t.val * 512 + (y 0 : Fin 512).val = win0_14.index t 0 * 512 + 1 * (y 0 : Fin 512).val; rw [h0]; omega
  | ⟨1, _⟩ => show (y 1 : Fin 1024).val = win0_14.index t 1 * 1024 + 1 * (y 1 : Fin 1024).val; rw [h1]; omega

/-- The generated array is the reference's term. -/
theorem array_eq : Cert.FirstIdeal.Value.G14 m c = Gres m c := (Cert.FirstIdeal.Value.final14 m c).symm.trans (final_o m c)

end Cert.Proof.FirstIdeal
end
-- ==== Proof.lean ====
/- The proof of the certificate: the kernel's runs, its launch and its values, assembled. -/
module

public import proofs.«01_k».proof.Defs
public import proofs.«01_k».proof.Proof.KLaunch
public import proofs.«01_k».proof.Proof.Launch
public import proofs.«01_k».proof.Proof.Value
public import proofs.«01_k».proof.Proof.Finite
public import proofs.«01_k».proof.Proof.Gen.ReferenceIdeal
public import proofs.«01_k».proof.Proof.Gen.ReferenceIdeal.Run
public import proofs.«01_k».proof.Proof.Gen.Merge.Frame
public import proofs.«01_k».proof.Proof.Gen.MergeIdeal.Frame
public import proofs.«01_k».proof.Proof.MergeValue
public import proofs.«01_k».proof.Proof.Gen.MergeReferenceIdeal
public import proofs.«01_k».proof.Proof.Gen.MergeReferenceIdeal.Run
public import proofs.«01_k».proof.Proof.Gen.First.Frame
public import proofs.«01_k».proof.Proof.Gen.FirstIdeal.Frame
public import proofs.«01_k».proof.Proof.FirstValue
public import proofs.«01_k».proof.Proof.Gen.FirstReferenceIdeal
public import proofs.«01_k».proof.Proof.Gen.FirstReferenceIdeal.Run
public import Idealize.ShloMosaic.Adequacy
public import Idealize.ShloMosaic.Init

@[expose] public section

noncomputable section

namespace Cert.Proof

open Idealize.ShloMosaic Idealize.SL.Sem

/-- The kernel runs and leaves its arguments and counters as they were. -/
theorem frame_p : Cert.quiescent_Kernel := fun m ρ _ => Cert.Proof.Kernel.frame m ρ
/-- The kernel at exact values runs and leaves its arguments and counters as they were. -/
theorem frame_pi : Cert.quiescent_KernelIdeal := fun m ρ _ => Cert.Proof.KernelIdeal.frame m ρ
/-- The reference runs and leaves its arguments and counters as they were. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)
/-- The two named constants are the reals their table gives. -/
theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "q_scale" .f32 0xBE38AA3B#32 ((-((1 / 8) * (Real.log 2)⁻¹) : ℝ) : EReal) rfl⟩

/-- On real queries, keys and offsets the kernel's result is the reference's. -/
theorem algebraic : Cert.algebraic_KernelIdeal_ReferenceIdeal_pre_finite (hPre_finite := Cert.Proof.Finite.facts) := fun m g m' g' hpre hargs => by
  have hr := fun c => Cert.Proof.Finite.reals (hPre := Cert.Proof.Finite.facts) _ _ _ _ (hpre c)
  refine ⟨fun c => Cert.Proof.KernelIdeal.Gres m c,
    Cert.Proof.KernelIdeal.value m g _ _ _ (fun c => (hr c).1) (fun c => (hr c).2.1) (fun c => (hr c).2.2), ?_⟩
  refine (θ_run Cert.ReferenceIdeal.defs _ _).mono (fun r h c => ⟨(h c).1.trans ?_, (h c).2⟩) (Cert.ReferenceIdeal.Value.run (F := Ideal) m' g')
  obtain ⟨h0, h1, h2, h3⟩ := hargs c
  refine (Cert.Proof.ReferenceIdeal.res_eq m' c).trans ?_
  rw [h0, h1, h2, h3]
  rfl

/-- The merge runs and leaves its arguments and counters as they were. -/
theorem frame_p2 : Cert.quiescent_Merge := fun m ρ _ => Cert.Merge.Gen.frame m ρ
/-- The merge at exact values runs and leaves its arguments and counters as they were. -/
theorem frame_pi2 : Cert.quiescent_MergeIdeal := fun m ρ _ => Cert.MergeIdeal.Gen.frame m ρ
/-- The merge's reference runs and leaves its arguments and counters as they were. -/
theorem frame_ri2 : Cert.quiescent_MergeReferenceIdeal := fun m ρ _ =>
  (θ_run Cert.MergeReferenceIdeal.defs _ _).mono (fun r h => ⟨fun c => (h c).2,
      Idealize.ShloMosaic.sem_eq_zero_of_no_sems (by decide) r.2⟩)
    (Cert.MergeReferenceIdeal.Value.run (F := Ideal) m ρ)
/-- On all arguments the merge's result is its reference's. -/
theorem algebraic2 : Cert.algebraic_MergeIdeal_MergeReferenceIdeal := fun m g m' g' _ hargs => by
  refine ⟨fun c => Cert.Proof.MergeIdeal.Gres m c,
    (θ_run Cert.MergeIdeal.defs _ _).mono (fun r h c => ⟨(h c).1.trans (Cert.Proof.MergeIdeal.array_eq m c), (h c).2⟩) (Cert.MergeIdeal.Value.run (F := Ideal) m g), ?_⟩
  refine (θ_run Cert.MergeReferenceIdeal.defs _ _).mono (fun r h c => ⟨(h c).1.trans ?_, (h c).2⟩) (Cert.MergeReferenceIdeal.Value.run (F := Ideal) m' g')
  obtain ⟨h0, h1, h2, h3, h4, h5, h6, h7, h8, h9, h10, h11, h12, h13⟩ := hargs c
  refine (Cert.Proof.MergeReferenceIdeal.res_eq m' c).trans ?_
  rw [h0, h1, h2, h3, h4, h5, h6, h7, h8, h9, h10, h11, h12, h13]
  rfl

/-- The first layer's merge runs and leaves its arguments and counters as they were. -/
theorem frame_p3 : Cert.quiescent_First := fun m ρ _ => Cert.First.Gen.frame m ρ
/-- The first layer's merge at exact values runs and leaves its arguments and counters as they were. -/
theorem frame_pi3 : Cert.quiescent_FirstIdeal := fun m ρ _ => Cert.FirstIdeal.Gen.frame m ρ
/-- The first layer's merge's reference runs and leaves its arguments and counters as they were. -/
theorem frame_ri3 : Cert.quiescent_FirstReferenceIdeal := fun m ρ _ =>
  (θ_run Cert.FirstReferenceIdeal.defs _ _).mono (fun r h => ⟨fun c => (h c).2,
      Idealize.ShloMosaic.sem_eq_zero_of_no_sems (by decide) r.2⟩)
    (Cert.FirstReferenceIdeal.Value.run (F := Ideal) m ρ)
/-- On all arguments the first layer's merge's result is its reference's. -/
theorem algebraic3 : Cert.algebraic_FirstIdeal_FirstReferenceIdeal := fun m g m' g' _ hargs => by
  refine ⟨fun c => Cert.Proof.FirstIdeal.Gres m c,
    (θ_run Cert.FirstIdeal.defs _ _).mono (fun r h c => ⟨(h c).1.trans (Cert.Proof.FirstIdeal.array_eq m c), (h c).2⟩) (Cert.FirstIdeal.Value.run (F := Ideal) m g), ?_⟩
  refine (θ_run Cert.FirstReferenceIdeal.defs _ _).mono (fun r h c => ⟨(h c).1.trans ?_, (h c).2⟩) (Cert.FirstReferenceIdeal.Value.run (F := Ideal) m' g')
  obtain ⟨h0, h1, h2, h3, h4, h5, h6, h7, h8, h9, h10, h11, h12, _⟩ := hargs c
  refine (Cert.Proof.FirstReferenceIdeal.res_eq m' c).trans ?_
  rw [h0, h1, h2, h3, h4, h5, h6, h7, h8, h9, h10, h11, h12]
  rfl

/-- The certificate's claim. -/
theorem claim : Cert.Claim := ⟨Cert.Kernel.Gen.facts, Cert.KernelIdeal.Gen.facts, Cert.ReferenceIdeal.Gen.facts, Cert.Merge.Gen.facts, Cert.MergeIdeal.Gen.facts, Cert.MergeReferenceIdeal.Gen.facts, Cert.First.Gen.facts, Cert.FirstIdeal.Gen.facts, Cert.FirstReferenceIdeal.Gen.facts, Cert.Proof.Finite.facts,
  frame_p, frame_pi, fun m ρ _ => Cert.Proof.KernelIdeal.frame m ρ, frame_ri, fun m ρ _ => frame_ri m ρ trivial, frame_p2, frame_pi2, frame_ri2, frame_p3, frame_pi3, frame_ri3, preserves, algebraic, trivial, algebraic2, trivial, algebraic3⟩

end Cert.Proof

end
